-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v79_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_v68) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S96 : Shape := ⟨1, ![96]⟩
abbrev S8x4352x1024 : Shape := ⟨3, ![8, 4352, 1024]⟩
abbrev S8x4352x512 : Shape := ⟨3, ![8, 4352, 512]⟩
abbrev S8x256x4352 : Shape := ⟨3, ![8, 256, 4352]⟩
abbrev S8x4096x1024 : Shape := ⟨3, ![8, 4096, 1024]⟩
abbrev S_ : Shape := ⟨0, ![]⟩

class Facts : Prop where
  slices_S8x4352x1024_S8x4096x1024_0_0_0 : S8x4352x1024.Slices ![0, 0, 0] S8x4096x1024
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4352x1024 : S_.BroadcastsInDim S8x4352x1024 (![] : Fin 0 → Fin S8x4352x1024.rank)
  reducesTo_S8x4352x1024_S_d0_1_2 : S8x4352x1024.ReducesTo [0, 1, 2] S_

variable [Facts]

def fn {F : FTy → Type} [FloatOps F] (main_arg0 : FVec F S96 .f32) (main_arg1 : FVec F S96 .f32) (main_arg2 : FVec F S8x4352x1024 .bf16) (main_arg3 : FVec F S8x4352x1024 .bf16) (main_arg4 : FVec F S8x4352x512 .bf16) (main_arg5 : FVec F S8x256x4352 .bf16) (main_arg6 : FVec F S8x256x4352 .bf16) (main_arg7 : FVec F S8x256x4352 .bf16) (main_arg8 : FVec F S8x256x4352 .bf16) (main_arg9 : FVec F S8x256x4352 .bf16) (main_arg10 : FVec F S8x256x4352 .bf16) (main_arg11 : FVec F S8x256x4352 .bf16) (main_arg12 : FVec F S8x256x4352 .bf16) (main_arg13 : FVec F S8x256x4352 .bf16) (main_arg14 : FVec F S8x256x4352 .bf16) (main_arg15 : FVec F S8x256x4352 .bf16) (main_arg16 : FVec F S8x256x4352 .bf16) : IVec S_ 1 :=
  let main_v0 : FVec F S8x4096x1024 .bf16 := (extractStridedSlice S8x4096x1024 ![0, 0, 0] · slices_S8x4352x1024_S8x4096x1024_0_0_0) main_arg2
  let main_v1 : FVec F S8x4096x1024 .bf16 := Host.absf main_v0
  let main_cst : FVec F S_ .bf16 := constant S_ .bf16 0x7F80#16
  let main_v2 : FVec F S8x4096x1024 .bf16 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4352x1024 .bf16 := Host.absf main_arg3
  let main_cst_0 : FVec F S_ .bf16 := constant S_ .bf16 0x7F80#16
  let main_v6 : FVec F S8x4352x1024 .bf16 := broadcastInDim S8x4352x1024 ![] bcast_S_S8x4352x1024 main_cst_0
  let main_v7 : IVec S8x4352x1024 1 := cmpf .olt main_v5 main_v6
  let main_c_1 : IVec S_ 1 := constantI S_ 1 1#1
  let main_v8 : IVec S_ 1 := (fun x v => Host.reduce IntOp.andi x v reducesTo_S8x4352x1024_S_d0_1_2 h_S_) main_v7 main_c_1
  let main_v9 : IVec S_ 1 := andi main_v4 main_v8
  main_v9
-- ==== Kernel.lean ====
abbrev S96 : Shape := ⟨1, ![96]⟩
abbrev S8x4352x1024 : Shape := ⟨3, ![8, 4352, 1024]⟩
abbrev S8x4352x512 : Shape := ⟨3, ![8, 4352, 512]⟩
abbrev S8x256x4352 : Shape := ⟨3, ![8, 256, 4352]⟩
abbrev S1x8x256x4352 : Shape := ⟨4, ![1, 8, 256, 4352]⟩
abbrev S2x8x256x4352 : Shape := ⟨4, ![2, 8, 256, 4352]⟩
abbrev S2x8x4x64x4352 : Shape := ⟨5, ![2, 8, 4, 64, 4352]⟩
abbrev S4352x64x2x8x4 : Shape := ⟨5, ![4352, 64, 2, 8, 4]⟩
abbrev S4352x64x64 : Shape := ⟨3, ![4352, 64, 64]⟩
abbrev S4352x64x1x64 : Shape := ⟨4, ![4352, 64, 1, 64]⟩
abbrev S4352x64x2x64 : Shape := ⟨4, ![4352, 64, 2, 64]⟩
abbrev S_ : Shape := ⟨0, ![]⟩
abbrev S4352x64x128 : Shape := ⟨3, ![4352, 64, 128]⟩
abbrev S4352x32x64 : Shape := ⟨3, ![4352, 32, 64]⟩
abbrev S4352x32x1x64 : Shape := ⟨4, ![4352, 32, 1, 64]⟩
abbrev S4352x32x2x64 : Shape := ⟨4, ![4352, 32, 2, 64]⟩
abbrev S4352x32x128 : Shape := ⟨3, ![4352, 32, 128]⟩
abbrev S2x8x4x2x32x4352 : Shape := ⟨6, ![2, 8, 4, 2, 32, 4352]⟩
abbrev S4352x32x2x2x8x4 : Shape := ⟨6, ![4352, 32, 2, 2, 8, 4]⟩
abbrev S64 : Shape := ⟨1, ![64]⟩
abbrev S32 : Shape := ⟨1, ![32]⟩
abbrev S1 : Shape := ⟨1, ![1]⟩
abbrev S8x4096x512 : Shape := ⟨3, ![8, 4096, 512]⟩
abbrev S1x512x256 : Shape := ⟨3, ![1, 512, 256]⟩
abbrev S1x4352x256 : Shape := ⟨3, ![1, 4352, 256]⟩
abbrev S1x4352x128 : Shape := ⟨3, ![1, 4352, 128]⟩
abbrev S17x64x128 : Shape := ⟨3, ![17, 64, 128]⟩
abbrev S17x32x128 : Shape := ⟨3, ![17, 32, 128]⟩
abbrev S1x512x128 : Shape := ⟨3, ![1, 512, 128]⟩
abbrev S64x32x128 : Shape := ⟨3, ![64, 32, 128]⟩
abbrev S2x512x128 : Shape := ⟨3, ![2, 512, 128]⟩
abbrev S5x17x64x128 : Shape := ⟨4, ![5, 17, 64, 128]⟩
abbrev S1088x128 : Shape := ⟨2, ![1088, 128]⟩
abbrev S544x128 : Shape := ⟨2, ![544, 128]⟩
abbrev S64x128 : Shape := ⟨2, ![64, 128]⟩
abbrev S1x64x128 : Shape := ⟨3, ![1, 64, 128]⟩
abbrev S1x1x64x128 : Shape := ⟨4, ![1, 1, 64, 128]⟩
abbrev S256x128 : Shape := ⟨2, ![256, 128]⟩
abbrev S8x128 : Shape := ⟨2, ![8, 128]⟩
abbrev S1x32x128 : Shape := ⟨3, ![1, 32, 128]⟩
abbrev S32x128 : Shape := ⟨2, ![32, 128]⟩
abbrev S1x17x64x128 : Shape := ⟨4, ![1, 17, 64, 128]⟩
abbrev S1x1x128 : Shape := ⟨3, ![1, 1, 128]⟩
abbrev S1x128 : Shape := ⟨2, ![1, 128]⟩
abbrev S1x256x128 : Shape := ⟨3, ![1, 256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x1x1x128 : Shape := ⟨4, ![1, 1, 1, 128]⟩

abbrev nBuf : Space → Nat
  | .hbm => 116
  | .vmem => 22
  | .smem => 1
  | _ => 0

abbrev bufTy : (tb : Table) → Fin (tcTables nBuf tb) → BufTy
  | .hbm, ⟨0, _⟩ => ⟨S96, .f32⟩
  | .hbm, ⟨1, _⟩ => ⟨S96, .f32⟩
  | .hbm, ⟨2, _⟩ => ⟨S8x4352x1024, .bf16⟩
  | .hbm, ⟨3, _⟩ => ⟨S8x4352x1024, .bf16⟩
  | .hbm, ⟨4, _⟩ => ⟨S8x4352x512, .bf16⟩
  | .hbm, ⟨5, _⟩ => ⟨S8x256x4352, .bf16⟩
  | .hbm, ⟨6, _⟩ => ⟨S8x256x4352, .bf16⟩
  | .hbm, ⟨7, _⟩ => ⟨S8x256x4352, .bf16⟩
  | .hbm, ⟨8, _⟩ => ⟨S8x256x4352, .bf16⟩
  | .hbm, ⟨9, _⟩ => ⟨S8x256x4352, .bf16⟩
  | .hbm, ⟨10, _⟩ => ⟨S8x256x4352, .bf16⟩
  | .hbm, ⟨11, _⟩ => ⟨S8x256x4352, .bf16⟩
  | .hbm, ⟨12, _⟩ => ⟨S8x256x4352, .bf16⟩
  | .hbm, ⟨13, _⟩ => ⟨S8x256x4352, .bf16⟩
  | .hbm, ⟨14, _⟩ => ⟨S8x256x4352, .bf16⟩
  | .hbm, ⟨15, _⟩ => ⟨S8x256x4352, .bf16⟩
  | .hbm, ⟨16, _⟩ => ⟨S8x256x4352, .bf16⟩
  | .hbm, ⟨17, _⟩ => ⟨S1x8x256x4352, .bf16⟩
  | .hbm, ⟨18, _⟩ => ⟨S1x8x256x4352, .bf16⟩
  | .hbm, ⟨19, _⟩ => ⟨S2x8x256x4352, .bf16⟩
  | .hbm, ⟨20, _⟩ => ⟨S2x8x4x64x4352, .bf16⟩
  | .hbm, ⟨21, _⟩ => ⟨S4352x64x2x8x4, .bf16⟩
  | .hbm, ⟨22, _⟩ => ⟨S4352x64x64, .bf16⟩
  | .hbm, ⟨23, _⟩ => ⟨S1x8x256x4352, .bf16⟩
  | .hbm, ⟨24, _⟩ => ⟨S1x8x256x4352, .bf16⟩
  | .hbm, ⟨25, _⟩ => ⟨S2x8x256x4352, .bf16⟩
  | .hbm, ⟨26, _⟩ => ⟨S2x8x4x64x4352, .bf16⟩
  | .hbm, ⟨27, _⟩ => ⟨S4352x64x2x8x4, .bf16⟩
  | .hbm, ⟨28, _⟩ => ⟨S4352x64x64, .bf16⟩
  | .hbm, ⟨29, _⟩ => ⟨S1x8x256x4352, .bf16⟩
  | .hbm, ⟨30, _⟩ => ⟨S1x8x256x4352, .bf16⟩
  | .hbm, ⟨31, _⟩ => ⟨S2x8x256x4352, .bf16⟩
  | .hbm, ⟨32, _⟩ => ⟨S2x8x4x64x4352, .bf16⟩
  | .hbm, ⟨33, _⟩ => ⟨S4352x64x2x8x4, .bf16⟩
  | .hbm, ⟨34, _⟩ => ⟨S4352x64x64, .bf16⟩
  | .hbm, ⟨35, _⟩ => ⟨S4352x64x1x64, .bf16⟩
  | .hbm, ⟨36, _⟩ => ⟨S4352x64x1x64, .bf16⟩
  | .hbm, ⟨37, _⟩ => ⟨S4352x64x2x64, .bf16⟩
  | .hbm, ⟨38, _⟩ => ⟨S_, .i32⟩
  | .hbm, ⟨39, _⟩ => ⟨S_, .bf16⟩
  | .hbm, ⟨40, _⟩ => ⟨S4352x64x2x64, .bf16⟩
  | .hbm, ⟨41, _⟩ => ⟨S4352x64x128, .bf16⟩
  | .hbm, ⟨42, _⟩ => ⟨S1x8x256x4352, .bf16⟩
  | .hbm, ⟨43, _⟩ => ⟨S1x8x256x4352, .bf16⟩
  | .hbm, ⟨44, _⟩ => ⟨S2x8x256x4352, .bf16⟩
  | .hbm, ⟨45, _⟩ => ⟨S2x8x4x64x4352, .bf16⟩
  | .hbm, ⟨46, _⟩ => ⟨S4352x64x2x8x4, .bf16⟩
  | .hbm, ⟨47, _⟩ => ⟨S4352x64x64, .bf16⟩
  | .hbm, ⟨48, _⟩ => ⟨S1x8x256x4352, .bf16⟩
  | .hbm, ⟨49, _⟩ => ⟨S1x8x256x4352, .bf16⟩
  | .hbm, ⟨50, _⟩ => ⟨S2x8x256x4352, .bf16⟩
  | .hbm, ⟨51, _⟩ => ⟨S2x8x4x64x4352, .bf16⟩
  | .hbm, ⟨52, _⟩ => ⟨S4352x64x2x8x4, .bf16⟩
  | .hbm, ⟨53, _⟩ => ⟨S4352x64x64, .bf16⟩
  | .hbm, ⟨54, _⟩ => ⟨S4352x64x1x64, .bf16⟩
  | .hbm, ⟨55, _⟩ => ⟨S4352x64x1x64, .bf16⟩
  | .hbm, ⟨56, _⟩ => ⟨S4352x64x2x64, .bf16⟩
  | .hbm, ⟨57, _⟩ => ⟨S_, .i32⟩
  | .hbm, ⟨58, _⟩ => ⟨S_, .bf16⟩
  | .hbm, ⟨59, _⟩ => ⟨S4352x64x2x64, .bf16⟩
  | .hbm, ⟨60, _⟩ => ⟨S4352x64x128, .bf16⟩
  | .hbm, ⟨61, _⟩ => ⟨S4352x32x64, .bf16⟩
  | .hbm, ⟨62, _⟩ => ⟨S4352x32x64, .bf16⟩
  | .hbm, ⟨63, _⟩ => ⟨S4352x32x1x64, .bf16⟩
  | .hbm, ⟨64, _⟩ => ⟨S4352x32x1x64, .bf16⟩
  | .hbm, ⟨65, _⟩ => ⟨S4352x32x2x64, .bf16⟩
  | .hbm, ⟨66, _⟩ => ⟨S_, .i32⟩
  | .hbm, ⟨67, _⟩ => ⟨S_, .bf16⟩
  | .hbm, ⟨68, _⟩ => ⟨S4352x32x2x64, .bf16⟩
  | .hbm, ⟨69, _⟩ => ⟨S4352x32x128, .bf16⟩
  | .hbm, ⟨70, _⟩ => ⟨S1x8x256x4352, .bf16⟩
  | .hbm, ⟨71, _⟩ => ⟨S1x8x256x4352, .bf16⟩
  | .hbm, ⟨72, _⟩ => ⟨S2x8x256x4352, .bf16⟩
  | .hbm, ⟨73, _⟩ => ⟨S2x8x4x2x32x4352, .bf16⟩
  | .hbm, ⟨74, _⟩ => ⟨S4352x32x2x2x8x4, .bf16⟩
  | .hbm, ⟨75, _⟩ => ⟨S4352x32x2x64, .bf16⟩
  | .hbm, ⟨76, _⟩ => ⟨S_, .i32⟩
  | .hbm, ⟨77, _⟩ => ⟨S_, .bf16⟩
  | .hbm, ⟨78, _⟩ => ⟨S4352x32x2x64, .bf16⟩
  | .hbm, ⟨79, _⟩ => ⟨S4352x32x128, .bf16⟩
  | .hbm, ⟨80, _⟩ => ⟨S64, .f32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S32, .f32⟩
  | .hbm, ⟨100, _⟩ => ⟨S32, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .i1⟩
  | .hbm, ⟨112, _⟩ => ⟨S_, .i32⟩
  | .hbm, ⟨113, _⟩ => ⟨S1, .i32⟩
  | .hbm, ⟨114, _⟩ => ⟨S8x4096x512, .bf16⟩
  | .hbm, ⟨115, _⟩ => ⟨S4352x32x128, .f32⟩
  | .local _ .vmem, ⟨0, _⟩ => ⟨S1x512x256, .bf16⟩
  | .local _ .vmem, ⟨1, _⟩ => ⟨S1x512x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S17x64x128, .bf16⟩
  | .local _ .vmem, ⟨7, _⟩ => ⟨S17x64x128, .bf16⟩
  | .local _ .vmem, ⟨8, _⟩ => ⟨S17x64x128, .bf16⟩
  | .local _ .vmem, ⟨9, _⟩ => ⟨S17x64x128, .bf16⟩
  | .local _ .vmem, ⟨10, _⟩ => ⟨S17x32x128, .bf16⟩
  | .local _ .vmem, ⟨11, _⟩ => ⟨S17x32x128, .bf16⟩
  | .local _ .vmem, ⟨12, _⟩ => ⟨S17x32x128, .bf16⟩
  | .local _ .vmem, ⟨13, _⟩ => ⟨S17x32x128, .bf16⟩
  | .local _ .vmem, ⟨14, _⟩ => ⟨S1x512x128, .bf16⟩
  | .local _ .vmem, ⟨15, _⟩ => ⟨S1x512x128, .bf16⟩
  | .local _ .vmem, ⟨16, _⟩ => ⟨S17x32x128, .f32⟩
  | .local _ .vmem, ⟨17, _⟩ => ⟨S17x32x128, .f32⟩
  | .local _ .vmem, ⟨18, _⟩ => ⟨S64x32x128, .f32⟩
  | .local _ .vmem, ⟨19, _⟩ => ⟨S2x512x128, .f32⟩
  | .local _ .vmem, ⟨20, _⟩ => ⟨S2x512x128, .f32⟩
  | .local _ .vmem, ⟨21, _⟩ => ⟨S5x17x64x128, .f32⟩
  | .local _ .smem, ⟨0, _⟩ => ⟨S1, .i32⟩
  | _, _ => ⟨S96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_0 : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_1 : Ref sig .tc := ⟨.hbm, 66, rfl⟩
abbrev main_call2_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_2 : Ref sig .tc := ⟨.hbm, 76, rfl⟩
abbrev main_call3_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst : Ref sig .tc := ⟨.hbm, 82, rfl⟩
abbrev main_v57 : Ref sig .tc := ⟨.hbm, 83, rfl⟩
abbrev main_cst_3 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_4 : Ref sig .tc := ⟨.hbm, 88, rfl⟩
abbrev main_v61 : Ref sig .tc := ⟨.hbm, 89, rfl⟩
abbrev main_cst_5 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_10 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79_0 : Ref sig .tc := ⟨.hbm, 114, rfl⟩
abbrev main_v79_1 : Ref sig .tc := ⟨.hbm, 115, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 4, 8], ![false, false, false]⟩

@[reducible] def k0_t1_loop : Scf.Loop 32 :=
  let c0_i32_917 : BitVec 32 := 0#32
  let c17_i32 : BitVec 32 := 17#32
  let v1201 : BitVec 32 := Scalar.addi c0_i32_917 c17_i32
  let c1_i32_918 : BitVec 32 := 1#32
  ⟨c0_i32_917, v1201, c1_i32_918⟩
def k0_off1 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1203 : Index := Scalar.indexCast arg17
  let c0_920 : Index := 0#32
  let c0_921 : Index := 0#32
  ![v1203.toNat, 0, 0]
def k0_off2 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1215 : Index := Scalar.indexCast arg17
  let c0_930 : Index := 0#32
  let c0_931 : Index := 0#32
  ![v1215.toNat, 0, 0]
def k0_off3 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1225 : Index := Scalar.indexCast arg17
  let c1_938 : Index := 1#32
  let c0_939 : Index := 0#32
  ![v1225.toNat, 1, 0]
def k0_off4 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1235 : Index := Scalar.indexCast arg17
  let c2_946 : Index := 2#32
  let c0_947 : Index := 0#32
  ![v1235.toNat, 2, 0]
def k0_off5 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1245 : Index := Scalar.indexCast arg17
  let c3_954 : Index := 3#32
  let c0_955 : Index := 0#32
  ![v1245.toNat, 3, 0]
def k0_off6 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1255 : Index := Scalar.indexCast arg17
  let c4_962 : Index := 4#32
  let c0_963 : Index := 0#32
  ![v1255.toNat, 4, 0]
def k0_off7 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1265 : Index := Scalar.indexCast arg17
  let c5_970 : Index := 5#32
  let c0_971 : Index := 0#32
  ![v1265.toNat, 5, 0]
def k0_off8 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1275 : Index := Scalar.indexCast arg17
  let c6_978 : Index := 6#32
  let c0_979 : Index := 0#32
  ![v1275.toNat, 6, 0]
def k0_off9 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1285 : Index := Scalar.indexCast arg17
  let c7_986 : Index := 7#32
  let c0_987 : Index := 0#32
  ![v1285.toNat, 7, 0]
def k0_off10 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1295 : Index := Scalar.indexCast arg17
  let c8_994 : Index := 8#32
  let c0_995 : Index := 0#32
  ![v1295.toNat, 8, 0]
def k0_off11 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1305 : Index := Scalar.indexCast arg17
  let c9_1002 : Index := 9#32
  let c0_1003 : Index := 0#32
  ![v1305.toNat, 9, 0]
def k0_off12 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1315 : Index := Scalar.indexCast arg17
  let c10_1010 : Index := 10#32
  let c0_1011 : Index := 0#32
  ![v1315.toNat, 10, 0]
def k0_off13 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1325 : Index := Scalar.indexCast arg17
  let c11_1018 : Index := 11#32
  let c0_1019 : Index := 0#32
  ![v1325.toNat, 11, 0]
def k0_off14 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1335 : Index := Scalar.indexCast arg17
  let c12_1026 : Index := 12#32
  let c0_1027 : Index := 0#32
  ![v1335.toNat, 12, 0]
def k0_off15 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1345 : Index := Scalar.indexCast arg17
  let c13_1034 : Index := 13#32
  let c0_1035 : Index := 0#32
  ![v1345.toNat, 13, 0]
def k0_off16 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1355 : Index := Scalar.indexCast arg17
  let c14_1042 : Index := 14#32
  let c0_1043 : Index := 0#32
  ![v1355.toNat, 14, 0]
def k0_off17 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1365 : Index := Scalar.indexCast arg17
  let c15_1050 : Index := 15#32
  let c0_1051 : Index := 0#32
  ![v1365.toNat, 15, 0]
def k0_off18 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1375 : Index := Scalar.indexCast arg17
  let c16_1058 : Index := 16#32
  let c0_1059 : Index := 0#32
  ![v1375.toNat, 16, 0]
def k0_off19 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1385 : Index := Scalar.indexCast arg17
  let c17_1066 : Index := 17#32
  let c0_1067 : Index := 0#32
  ![v1385.toNat, 17, 0]
def k0_off20 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1395 : Index := Scalar.indexCast arg17
  let c18_1074 : Index := 18#32
  let c0_1075 : Index := 0#32
  ![v1395.toNat, 18, 0]
def k0_off21 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1405 : Index := Scalar.indexCast arg17
  let c19_1082 : Index := 19#32
  let c0_1083 : Index := 0#32
  ![v1405.toNat, 19, 0]
def k0_off22 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1415 : Index := Scalar.indexCast arg17
  let c20_1090 : Index := 20#32
  let c0_1091 : Index := 0#32
  ![v1415.toNat, 20, 0]
def k0_off23 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1425 : Index := Scalar.indexCast arg17
  let c21_1098 : Index := 21#32
  let c0_1099 : Index := 0#32
  ![v1425.toNat, 21, 0]
def k0_off24 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1435 : Index := Scalar.indexCast arg17
  let c22_1106 : Index := 22#32
  let c0_1107 : Index := 0#32
  ![v1435.toNat, 22, 0]
def k0_off25 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1445 : Index := Scalar.indexCast arg17
  let c23_1114 : Index := 23#32
  let c0_1115 : Index := 0#32
  ![v1445.toNat, 23, 0]
def k0_off26 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1455 : Index := Scalar.indexCast arg17
  let c24_1122 : Index := 24#32
  let c0_1123 : Index := 0#32
  ![v1455.toNat, 24, 0]
def k0_off27 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1465 : Index := Scalar.indexCast arg17
  let c25_1130 : Index := 25#32
  let c0_1131 : Index := 0#32
  ![v1465.toNat, 25, 0]
def k0_off28 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1475 : Index := Scalar.indexCast arg17
  let c26_1138 : Index := 26#32
  let c0_1139 : Index := 0#32
  ![v1475.toNat, 26, 0]
def k0_off29 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1485 : Index := Scalar.indexCast arg17
  let c27_1146 : Index := 27#32
  let c0_1147 : Index := 0#32
  ![v1485.toNat, 27, 0]
def k0_off30 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1495 : Index := Scalar.indexCast arg17
  let c28_1154 : Index := 28#32
  let c0_1155 : Index := 0#32
  ![v1495.toNat, 28, 0]
def k0_off31 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1505 : Index := Scalar.indexCast arg17
  let c29_1162 : Index := 29#32
  let c0_1163 : Index := 0#32
  ![v1505.toNat, 29, 0]
def k0_off32 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1515 : Index := Scalar.indexCast arg17
  let c30_1170 : Index := 30#32
  let c0_1171 : Index := 0#32
  ![v1515.toNat, 30, 0]
def k0_off33 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1525 : Index := Scalar.indexCast arg17
  let c31_1178 : Index := 31#32
  let c0_1179 : Index := 0#32
  ![v1525.toNat, 31, 0]
def k0_off34 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1535 : Index := Scalar.indexCast arg17
  let c32_1186 : Index := 32#32
  let c0_1187 : Index := 0#32
  ![v1535.toNat, 32, 0]
def k0_off35 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1545 : Index := Scalar.indexCast arg17
  let c33_1194 : Index := 33#32
  let c0_1195 : Index := 0#32
  ![v1545.toNat, 33, 0]
def k0_off36 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1555 : Index := Scalar.indexCast arg17
  let c34_1202 : Index := 34#32
  let c0_1203 : Index := 0#32
  ![v1555.toNat, 34, 0]
def k0_off37 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1565 : Index := Scalar.indexCast arg17
  let c35_1210 : Index := 35#32
  let c0_1211 : Index := 0#32
  ![v1565.toNat, 35, 0]
def k0_off38 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1575 : Index := Scalar.indexCast arg17
  let c36_1218 : Index := 36#32
  let c0_1219 : Index := 0#32
  ![v1575.toNat, 36, 0]
def k0_off39 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1585 : Index := Scalar.indexCast arg17
  let c37_1226 : Index := 37#32
  let c0_1227 : Index := 0#32
  ![v1585.toNat, 37, 0]
def k0_off40 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1595 : Index := Scalar.indexCast arg17
  let c38_1234 : Index := 38#32
  let c0_1235 : Index := 0#32
  ![v1595.toNat, 38, 0]
def k0_off41 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1605 : Index := Scalar.indexCast arg17
  let c39_1242 : Index := 39#32
  let c0_1243 : Index := 0#32
  ![v1605.toNat, 39, 0]
def k0_off42 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1615 : Index := Scalar.indexCast arg17
  let c40_1250 : Index := 40#32
  let c0_1251 : Index := 0#32
  ![v1615.toNat, 40, 0]
def k0_off43 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1625 : Index := Scalar.indexCast arg17
  let c41_1258 : Index := 41#32
  let c0_1259 : Index := 0#32
  ![v1625.toNat, 41, 0]
def k0_off44 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1635 : Index := Scalar.indexCast arg17
  let c42_1266 : Index := 42#32
  let c0_1267 : Index := 0#32
  ![v1635.toNat, 42, 0]
def k0_off45 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1645 : Index := Scalar.indexCast arg17
  let c43_1274 : Index := 43#32
  let c0_1275 : Index := 0#32
  ![v1645.toNat, 43, 0]
def k0_off46 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1655 : Index := Scalar.indexCast arg17
  let c44_1282 : Index := 44#32
  let c0_1283 : Index := 0#32
  ![v1655.toNat, 44, 0]
def k0_off47 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1665 : Index := Scalar.indexCast arg17
  let c45_1290 : Index := 45#32
  let c0_1291 : Index := 0#32
  ![v1665.toNat, 45, 0]
def k0_off48 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1675 : Index := Scalar.indexCast arg17
  let c46_1298 : Index := 46#32
  let c0_1299 : Index := 0#32
  ![v1675.toNat, 46, 0]
def k0_off49 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1685 : Index := Scalar.indexCast arg17
  let c47_1306 : Index := 47#32
  let c0_1307 : Index := 0#32
  ![v1685.toNat, 47, 0]
def k0_off50 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1695 : Index := Scalar.indexCast arg17
  let c48_1314 : Index := 48#32
  let c0_1315 : Index := 0#32
  ![v1695.toNat, 48, 0]
def k0_off51 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1705 : Index := Scalar.indexCast arg17
  let c49_1322 : Index := 49#32
  let c0_1323 : Index := 0#32
  ![v1705.toNat, 49, 0]
def k0_off52 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1715 : Index := Scalar.indexCast arg17
  let c50_1330 : Index := 50#32
  let c0_1331 : Index := 0#32
  ![v1715.toNat, 50, 0]
def k0_off53 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1725 : Index := Scalar.indexCast arg17
  let c51_1338 : Index := 51#32
  let c0_1339 : Index := 0#32
  ![v1725.toNat, 51, 0]
def k0_off54 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1735 : Index := Scalar.indexCast arg17
  let c52_1346 : Index := 52#32
  let c0_1347 : Index := 0#32
  ![v1735.toNat, 52, 0]
def k0_off55 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1745 : Index := Scalar.indexCast arg17
  let c53_1354 : Index := 53#32
  let c0_1355 : Index := 0#32
  ![v1745.toNat, 53, 0]
def k0_off56 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1755 : Index := Scalar.indexCast arg17
  let c54_1362 : Index := 54#32
  let c0_1363 : Index := 0#32
  ![v1755.toNat, 54, 0]
def k0_off57 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1765 : Index := Scalar.indexCast arg17
  let c55_1370 : Index := 55#32
  let c0_1371 : Index := 0#32
  ![v1765.toNat, 55, 0]
def k0_off58 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1775 : Index := Scalar.indexCast arg17
  let c56_1378 : Index := 56#32
  let c0_1379 : Index := 0#32
  ![v1775.toNat, 56, 0]
def k0_off59 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1785 : Index := Scalar.indexCast arg17
  let c57_1386 : Index := 57#32
  let c0_1387 : Index := 0#32
  ![v1785.toNat, 57, 0]
def k0_off60 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1795 : Index := Scalar.indexCast arg17
  let c58_1394 : Index := 58#32
  let c0_1395 : Index := 0#32
  ![v1795.toNat, 58, 0]
def k0_off61 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1805 : Index := Scalar.indexCast arg17
  let c59_1402 : Index := 59#32
  let c0_1403 : Index := 0#32
  ![v1805.toNat, 59, 0]
def k0_off62 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1815 : Index := Scalar.indexCast arg17
  let c60_1410 : Index := 60#32
  let c0_1411 : Index := 0#32
  ![v1815.toNat, 60, 0]
def k0_off63 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1825 : Index := Scalar.indexCast arg17
  let c61_1418 : Index := 61#32
  let c0_1419 : Index := 0#32
  ![v1825.toNat, 61, 0]
def k0_off64 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1835 : Index := Scalar.indexCast arg17
  let c62_1426 : Index := 62#32
  let c0_1427 : Index := 0#32
  ![v1835.toNat, 62, 0]
def k0_off65 (k0_t1 : Fin k0_t1_loop.trips) : Fin 3 → Nat :=
  let c0_i32_917 : BitVec 32 := 0#32
  let c1_i32_918 : BitVec 32 := 1#32
  let arg17 : BitVec 32 := Scf.iv c0_i32_917 c1_i32_918 k0_t1
  let v1845 : Index := Scalar.indexCast arg17
  let c63_1434 : Index := 63#32
  let c0_1435 : Index := 0#32
  ![v1845.toNat, 63, 0]
def k0_mult1 (k0_t1 : Fin k0_t1_loop.trips) : BitVec 32 :=
  let c0_i32_917 : BitVec 32 := 0#32
  let c1_i32_918 : BitVec 32 := 1#32
  let arg17 : BitVec 32 := Scf.iv c0_i32_917 c1_i32_918 k0_t1
  let c256_i32 : BitVec 32 := 256#32
  let v3715 : BitVec 32 := Scalar.muli arg17 c256_i32
  v3715
def k0_off66 (k0_t1 : Fin k0_t1_loop.trips) : Fin 3 → Nat :=
  let c0_2784 : Index := 0#32
  let c0_i32_917 : BitVec 32 := 0#32
  let c1_i32_918 : BitVec 32 := 1#32
  let arg17 : BitVec 32 := Scf.iv c0_i32_917 c1_i32_918 k0_t1
  let c256_i32 : BitVec 32 := 256#32
  let v3715 : BitVec 32 := Scalar.muli arg17 c256_i32
  let v3716 : BitVec 32 := v3715
  let v3717 : Index := Scalar.indexCast v3716
  let c0_2785 : Index := 0#32
  ![0, v3717.toNat, 0]
def k0_off67 (k0_t1 : Fin k0_t1_loop.trips) : Fin 3 → Nat :=
  let c0_2791 : Index := 0#32
  let c0_i32_917 : BitVec 32 := 0#32
  let c1_i32_918 : BitVec 32 := 1#32
  let arg17 : BitVec 32 := Scf.iv c0_i32_917 c1_i32_918 k0_t1
  let c256_i32 : BitVec 32 := 256#32
  let v3715 : BitVec 32 := Scalar.muli arg17 c256_i32
  let v3716 : BitVec 32 := v3715
  let v3728 : Index := Scalar.indexCast v3716
  let c0_2792 : Index := 0#32
  ![0, v3728.toNat, 0]
def k0_off68 (k0_t1 : Fin k0_t1_loop.trips) : Fin 3 → Nat :=
  let c0_2803 : Index := 0#32
  let c0_i32_917 : BitVec 32 := 0#32
  let c1_i32_918 : BitVec 32 := 1#32
  let arg17 : BitVec 32 := Scf.iv c0_i32_917 c1_i32_918 k0_t1
  let c256_i32 : BitVec 32 := 256#32
  let v3715 : BitVec 32 := Scalar.muli arg17 c256_i32
  let v3716 : BitVec 32 := v3715
  let v3743 : Index := Scalar.indexCast v3716
  let c128_2804 : Index := 128#32
  ![0, v3743.toNat, 128]
@[reducible] def k0_t2_loop : Scf.Loop 32 :=
  let c0_i32_917 : BitVec 32 := 0#32
  let c17_i32 : BitVec 32 := 17#32
  let v1201 : BitVec 32 := Scalar.addi c0_i32_917 c17_i32
  let c1_i32_918 : BitVec 32 := 1#32
  ⟨c0_i32_917, v1201, c1_i32_918⟩
def k0_off69 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1203 : Index := Scalar.indexCast arg17
  let c0_920 : Index := 0#32
  let c0_921 : Index := 0#32
  ![v1203.toNat, 0, 0]
def k0_off70 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1215 : Index := Scalar.indexCast arg17
  let c0_930 : Index := 0#32
  let c0_931 : Index := 0#32
  ![v1215.toNat, 0, 0]
def k0_off71 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1225 : Index := Scalar.indexCast arg17
  let c1_938 : Index := 1#32
  let c0_939 : Index := 0#32
  ![v1225.toNat, 1, 0]
def k0_off72 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1235 : Index := Scalar.indexCast arg17
  let c2_946 : Index := 2#32
  let c0_947 : Index := 0#32
  ![v1235.toNat, 2, 0]
def k0_off73 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1245 : Index := Scalar.indexCast arg17
  let c3_954 : Index := 3#32
  let c0_955 : Index := 0#32
  ![v1245.toNat, 3, 0]
def k0_off74 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1255 : Index := Scalar.indexCast arg17
  let c4_962 : Index := 4#32
  let c0_963 : Index := 0#32
  ![v1255.toNat, 4, 0]
def k0_off75 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1265 : Index := Scalar.indexCast arg17
  let c5_970 : Index := 5#32
  let c0_971 : Index := 0#32
  ![v1265.toNat, 5, 0]
def k0_off76 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1275 : Index := Scalar.indexCast arg17
  let c6_978 : Index := 6#32
  let c0_979 : Index := 0#32
  ![v1275.toNat, 6, 0]
def k0_off77 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1285 : Index := Scalar.indexCast arg17
  let c7_986 : Index := 7#32
  let c0_987 : Index := 0#32
  ![v1285.toNat, 7, 0]
def k0_off78 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1295 : Index := Scalar.indexCast arg17
  let c8_994 : Index := 8#32
  let c0_995 : Index := 0#32
  ![v1295.toNat, 8, 0]
def k0_off79 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1305 : Index := Scalar.indexCast arg17
  let c9_1002 : Index := 9#32
  let c0_1003 : Index := 0#32
  ![v1305.toNat, 9, 0]
def k0_off80 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1315 : Index := Scalar.indexCast arg17
  let c10_1010 : Index := 10#32
  let c0_1011 : Index := 0#32
  ![v1315.toNat, 10, 0]
def k0_off81 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1325 : Index := Scalar.indexCast arg17
  let c11_1018 : Index := 11#32
  let c0_1019 : Index := 0#32
  ![v1325.toNat, 11, 0]
def k0_off82 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1335 : Index := Scalar.indexCast arg17
  let c12_1026 : Index := 12#32
  let c0_1027 : Index := 0#32
  ![v1335.toNat, 12, 0]
def k0_off83 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1345 : Index := Scalar.indexCast arg17
  let c13_1034 : Index := 13#32
  let c0_1035 : Index := 0#32
  ![v1345.toNat, 13, 0]
def k0_off84 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1355 : Index := Scalar.indexCast arg17
  let c14_1042 : Index := 14#32
  let c0_1043 : Index := 0#32
  ![v1355.toNat, 14, 0]
def k0_off85 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1365 : Index := Scalar.indexCast arg17
  let c15_1050 : Index := 15#32
  let c0_1051 : Index := 0#32
  ![v1365.toNat, 15, 0]
def k0_off86 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1375 : Index := Scalar.indexCast arg17
  let c16_1058 : Index := 16#32
  let c0_1059 : Index := 0#32
  ![v1375.toNat, 16, 0]
def k0_off87 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1385 : Index := Scalar.indexCast arg17
  let c17_1066 : Index := 17#32
  let c0_1067 : Index := 0#32
  ![v1385.toNat, 17, 0]
def k0_off88 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1395 : Index := Scalar.indexCast arg17
  let c18_1074 : Index := 18#32
  let c0_1075 : Index := 0#32
  ![v1395.toNat, 18, 0]
def k0_off89 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1405 : Index := Scalar.indexCast arg17
  let c19_1082 : Index := 19#32
  let c0_1083 : Index := 0#32
  ![v1405.toNat, 19, 0]
def k0_off90 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1415 : Index := Scalar.indexCast arg17
  let c20_1090 : Index := 20#32
  let c0_1091 : Index := 0#32
  ![v1415.toNat, 20, 0]
def k0_off91 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1425 : Index := Scalar.indexCast arg17
  let c21_1098 : Index := 21#32
  let c0_1099 : Index := 0#32
  ![v1425.toNat, 21, 0]
def k0_off92 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1435 : Index := Scalar.indexCast arg17
  let c22_1106 : Index := 22#32
  let c0_1107 : Index := 0#32
  ![v1435.toNat, 22, 0]
def k0_off93 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1445 : Index := Scalar.indexCast arg17
  let c23_1114 : Index := 23#32
  let c0_1115 : Index := 0#32
  ![v1445.toNat, 23, 0]
def k0_off94 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1455 : Index := Scalar.indexCast arg17
  let c24_1122 : Index := 24#32
  let c0_1123 : Index := 0#32
  ![v1455.toNat, 24, 0]
def k0_off95 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1465 : Index := Scalar.indexCast arg17
  let c25_1130 : Index := 25#32
  let c0_1131 : Index := 0#32
  ![v1465.toNat, 25, 0]
def k0_off96 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1475 : Index := Scalar.indexCast arg17
  let c26_1138 : Index := 26#32
  let c0_1139 : Index := 0#32
  ![v1475.toNat, 26, 0]
def k0_off97 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1485 : Index := Scalar.indexCast arg17
  let c27_1146 : Index := 27#32
  let c0_1147 : Index := 0#32
  ![v1485.toNat, 27, 0]
def k0_off98 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1495 : Index := Scalar.indexCast arg17
  let c28_1154 : Index := 28#32
  let c0_1155 : Index := 0#32
  ![v1495.toNat, 28, 0]
def k0_off99 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1505 : Index := Scalar.indexCast arg17
  let c29_1162 : Index := 29#32
  let c0_1163 : Index := 0#32
  ![v1505.toNat, 29, 0]
def k0_off100 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1515 : Index := Scalar.indexCast arg17
  let c30_1170 : Index := 30#32
  let c0_1171 : Index := 0#32
  ![v1515.toNat, 30, 0]
def k0_off101 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1525 : Index := Scalar.indexCast arg17
  let c31_1178 : Index := 31#32
  let c0_1179 : Index := 0#32
  ![v1525.toNat, 31, 0]
def k0_off102 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1535 : Index := Scalar.indexCast arg17
  let c32_1186 : Index := 32#32
  let c0_1187 : Index := 0#32
  ![v1535.toNat, 32, 0]
def k0_off103 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1545 : Index := Scalar.indexCast arg17
  let c33_1194 : Index := 33#32
  let c0_1195 : Index := 0#32
  ![v1545.toNat, 33, 0]
def k0_off104 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1555 : Index := Scalar.indexCast arg17
  let c34_1202 : Index := 34#32
  let c0_1203 : Index := 0#32
  ![v1555.toNat, 34, 0]
def k0_off105 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1565 : Index := Scalar.indexCast arg17
  let c35_1210 : Index := 35#32
  let c0_1211 : Index := 0#32
  ![v1565.toNat, 35, 0]
def k0_off106 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1575 : Index := Scalar.indexCast arg17
  let c36_1218 : Index := 36#32
  let c0_1219 : Index := 0#32
  ![v1575.toNat, 36, 0]
def k0_off107 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1585 : Index := Scalar.indexCast arg17
  let c37_1226 : Index := 37#32
  let c0_1227 : Index := 0#32
  ![v1585.toNat, 37, 0]
def k0_off108 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1595 : Index := Scalar.indexCast arg17
  let c38_1234 : Index := 38#32
  let c0_1235 : Index := 0#32
  ![v1595.toNat, 38, 0]
def k0_off109 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1605 : Index := Scalar.indexCast arg17
  let c39_1242 : Index := 39#32
  let c0_1243 : Index := 0#32
  ![v1605.toNat, 39, 0]
def k0_off110 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1615 : Index := Scalar.indexCast arg17
  let c40_1250 : Index := 40#32
  let c0_1251 : Index := 0#32
  ![v1615.toNat, 40, 0]
def k0_off111 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1625 : Index := Scalar.indexCast arg17
  let c41_1258 : Index := 41#32
  let c0_1259 : Index := 0#32
  ![v1625.toNat, 41, 0]
def k0_off112 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1635 : Index := Scalar.indexCast arg17
  let c42_1266 : Index := 42#32
  let c0_1267 : Index := 0#32
  ![v1635.toNat, 42, 0]
def k0_off113 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1645 : Index := Scalar.indexCast arg17
  let c43_1274 : Index := 43#32
  let c0_1275 : Index := 0#32
  ![v1645.toNat, 43, 0]
def k0_off114 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1655 : Index := Scalar.indexCast arg17
  let c44_1282 : Index := 44#32
  let c0_1283 : Index := 0#32
  ![v1655.toNat, 44, 0]
def k0_off115 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1665 : Index := Scalar.indexCast arg17
  let c45_1290 : Index := 45#32
  let c0_1291 : Index := 0#32
  ![v1665.toNat, 45, 0]
def k0_off116 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1675 : Index := Scalar.indexCast arg17
  let c46_1298 : Index := 46#32
  let c0_1299 : Index := 0#32
  ![v1675.toNat, 46, 0]
def k0_off117 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1685 : Index := Scalar.indexCast arg17
  let c47_1306 : Index := 47#32
  let c0_1307 : Index := 0#32
  ![v1685.toNat, 47, 0]
def k0_off118 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1695 : Index := Scalar.indexCast arg17
  let c48_1314 : Index := 48#32
  let c0_1315 : Index := 0#32
  ![v1695.toNat, 48, 0]
def k0_off119 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1705 : Index := Scalar.indexCast arg17
  let c49_1322 : Index := 49#32
  let c0_1323 : Index := 0#32
  ![v1705.toNat, 49, 0]
def k0_off120 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1715 : Index := Scalar.indexCast arg17
  let c50_1330 : Index := 50#32
  let c0_1331 : Index := 0#32
  ![v1715.toNat, 50, 0]
def k0_off121 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1725 : Index := Scalar.indexCast arg17
  let c51_1338 : Index := 51#32
  let c0_1339 : Index := 0#32
  ![v1725.toNat, 51, 0]
def k0_off122 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1735 : Index := Scalar.indexCast arg17
  let c52_1346 : Index := 52#32
  let c0_1347 : Index := 0#32
  ![v1735.toNat, 52, 0]
def k0_off123 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1745 : Index := Scalar.indexCast arg17
  let c53_1354 : Index := 53#32
  let c0_1355 : Index := 0#32
  ![v1745.toNat, 53, 0]
def k0_off124 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1755 : Index := Scalar.indexCast arg17
  let c54_1362 : Index := 54#32
  let c0_1363 : Index := 0#32
  ![v1755.toNat, 54, 0]
def k0_off125 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1765 : Index := Scalar.indexCast arg17
  let c55_1370 : Index := 55#32
  let c0_1371 : Index := 0#32
  ![v1765.toNat, 55, 0]
def k0_off126 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1775 : Index := Scalar.indexCast arg17
  let c56_1378 : Index := 56#32
  let c0_1379 : Index := 0#32
  ![v1775.toNat, 56, 0]
def k0_off127 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1785 : Index := Scalar.indexCast arg17
  let c57_1386 : Index := 57#32
  let c0_1387 : Index := 0#32
  ![v1785.toNat, 57, 0]
def k0_off128 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1795 : Index := Scalar.indexCast arg17
  let c58_1394 : Index := 58#32
  let c0_1395 : Index := 0#32
  ![v1795.toNat, 58, 0]
def k0_off129 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1805 : Index := Scalar.indexCast arg17
  let c59_1402 : Index := 59#32
  let c0_1403 : Index := 0#32
  ![v1805.toNat, 59, 0]
def k0_off130 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1815 : Index := Scalar.indexCast arg17
  let c60_1410 : Index := 60#32
  let c0_1411 : Index := 0#32
  ![v1815.toNat, 60, 0]
def k0_off131 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1825 : Index := Scalar.indexCast arg17
  let c61_1418 : Index := 61#32
  let c0_1419 : Index := 0#32
  ![v1825.toNat, 61, 0]
def k0_off132 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1835 : Index := Scalar.indexCast arg17
  let c62_1426 : Index := 62#32
  let c0_1427 : Index := 0#32
  ![v1835.toNat, 62, 0]
def k0_off133 (k0_t2 : Fin k0_t2_loop.trips) : Fin 3 → Nat :=
  let c0_i32_917 : BitVec 32 := 0#32
  let c1_i32_918 : BitVec 32 := 1#32
  let arg17 : BitVec 32 := Scf.iv c0_i32_917 c1_i32_918 k0_t2
  let v1845 : Index := Scalar.indexCast arg17
  let c63_1434 : Index := 63#32
  let c0_1435 : Index := 0#32
  ![v1845.toNat, 63, 0]
def k0_mult2 (k0_t2 : Fin k0_t2_loop.trips) : BitVec 32 :=
  let c0_i32_917 : BitVec 32 := 0#32
  let c1_i32_918 : BitVec 32 := 1#32
  let arg17 : BitVec 32 := Scf.iv c0_i32_917 c1_i32_918 k0_t2
  let c256_i32 : BitVec 32 := 256#32
  let v3715 : BitVec 32 := Scalar.muli arg17 c256_i32
  v3715
def k0_off134 (k0_t2 : Fin k0_t2_loop.trips) : Fin 3 → Nat :=
  let c0_2784 : Index := 0#32
  let c0_i32_917 : BitVec 32 := 0#32
  let c1_i32_918 : BitVec 32 := 1#32
  let arg17 : BitVec 32 := Scf.iv c0_i32_917 c1_i32_918 k0_t2
  let c256_i32 : BitVec 32 := 256#32
  let v3715 : BitVec 32 := Scalar.muli arg17 c256_i32
  let v3716 : BitVec 32 := v3715
  let v3717 : Index := Scalar.indexCast v3716
  let c0_2785 : Index := 0#32
  ![0, v3717.toNat, 0]
def k0_off135 (k0_t2 : Fin k0_t2_loop.trips) : Fin 3 → Nat :=
  let c0_2791 : Index := 0#32
  let c0_i32_917 : BitVec 32 := 0#32
  let c1_i32_918 : BitVec 32 := 1#32
  let arg17 : BitVec 32 := Scf.iv c0_i32_917 c1_i32_918 k0_t2
  let c256_i32 : BitVec 32 := 256#32
  let v3715 : BitVec 32 := Scalar.muli arg17 c256_i32
  let v3716 : BitVec 32 := v3715
  let v3728 : Index := Scalar.indexCast v3716
  let c0_2792 : Index := 0#32
  ![0, v3728.toNat, 0]
def k0_off136 (k0_t2 : Fin k0_t2_loop.trips) : Fin 3 → Nat :=
  let c0_2810 : Index := 0#32
  let c0_i32_917 : BitVec 32 := 0#32
  let c1_i32_918 : BitVec 32 := 1#32
  let arg17 : BitVec 32 := Scf.iv c0_i32_917 c1_i32_918 k0_t2
  let c256_i32 : BitVec 32 := 256#32
  let v3715 : BitVec 32 := Scalar.muli arg17 c256_i32
  let v3716 : BitVec 32 := v3715
  let v3757 : Index := Scalar.indexCast v3716
  let c128_2811 : Index := 128#32
  ![0, v3757.toNat, 128]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S17x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S17x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S17x32x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S17x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S17x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S96 : Shape := ⟨1, ![96]⟩
abbrev S8x4352x1024 : Shape := ⟨3, ![8, 4352, 1024]⟩
abbrev S8x4352x512 : Shape := ⟨3, ![8, 4352, 512]⟩
abbrev S8x256x4352 : Shape := ⟨3, ![8, 256, 4352]⟩
abbrev S8x4096x1024 : Shape := ⟨3, ![8, 4096, 1024]⟩
abbrev S8x4096x8x128 : Shape := ⟨4, ![8, 4096, 8, 128]⟩
abbrev S8x4352x8x128 : Shape := ⟨4, ![8, 4352, 8, 128]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 48
  | .vmem => 0
  | .smem => 0
  | _ => 0

abbrev bufTy : (tb : Table) → Fin (tcTables nBuf tb) → BufTy
  | .hbm, ⟨0, _⟩ => ⟨S96, .f32⟩
  | .hbm, ⟨1, _⟩ => ⟨S96, .f32⟩
  | .hbm, ⟨2, _⟩ => ⟨S8x4352x1024, .bf16⟩
  | .hbm, ⟨3, _⟩ => ⟨S8x4352x1024, .bf16⟩
  | .hbm, ⟨4, _⟩ => ⟨S8x4352x512, .bf16⟩
  | .hbm, ⟨5, _⟩ => ⟨S8x256x4352, .bf16⟩
  | .hbm, ⟨6, _⟩ => ⟨S8x256x4352, .bf16⟩
  | .hbm, ⟨7, _⟩ => ⟨S8x256x4352, .bf16⟩
  | .hbm, ⟨8, _⟩ => ⟨S8x256x4352, .bf16⟩
  | .hbm, ⟨9, _⟩ => ⟨S8x256x4352, .bf16⟩
  | .hbm, ⟨10, _⟩ => ⟨S8x256x4352, .bf16⟩
  | .hbm, ⟨11, _⟩ => ⟨S8x256x4352, .bf16⟩
  | .hbm, ⟨12, _⟩ => ⟨S8x256x4352, .bf16⟩
  | .hbm, ⟨13, _⟩ => ⟨S8x256x4352, .bf16⟩
  | .hbm, ⟨14, _⟩ => ⟨S8x256x4352, .bf16⟩
  | .hbm, ⟨15, _⟩ => ⟨S8x256x4352, .bf16⟩
  | .hbm, ⟨16, _⟩ => ⟨S8x256x4352, .bf16⟩
  | .hbm, ⟨17, _⟩ => ⟨S8x4096x1024, .bf16⟩
  | .hbm, ⟨18, _⟩ => ⟨S8x4096x8x128, .bf16⟩
  | .hbm, ⟨19, _⟩ => ⟨S8x4096x8x128, .f32⟩
  | .hbm, ⟨20, _⟩ => ⟨S8x4352x8x128, .bf16⟩
  | .hbm, ⟨21, _⟩ => ⟨S8x4352x8x128, .f32⟩
  | .hbm, ⟨22, _⟩ => ⟨S8x4352x8x64, .bf16⟩
  | .hbm, ⟨23, _⟩ => ⟨S8x8x4096x4352, .f32⟩
  | .hbm, ⟨24, _⟩ => ⟨S_, .f32⟩
  | .hbm, ⟨25, _⟩ => ⟨S_, .f32⟩
  | .hbm, ⟨26, _⟩ => ⟨S8x8x4096x4352, .f32⟩
  | .hbm, ⟨27, _⟩ => ⟨S8x8x4096x4352, .f32⟩
  | .hbm, ⟨28, _⟩ => ⟨S_, .f32⟩
  | .hbm, ⟨29, _⟩ => ⟨S8x8x4096, .f32⟩
  | .hbm, ⟨30, _⟩ => ⟨S_, .f32⟩
  | .hbm, ⟨31, _⟩ => ⟨S8x8x4096, .f32⟩
  | .hbm, ⟨32, _⟩ => ⟨S8x8x4096, .f32⟩
  | .hbm, ⟨33, _⟩ => ⟨S8x8x4096x1, .f32⟩
  | .hbm, ⟨34, _⟩ => ⟨S8x8x4096x4352, .f32⟩
  | .hbm, ⟨35, _⟩ => ⟨S8x8x4096x4352, .f32⟩
  | .hbm, ⟨36, _⟩ => ⟨S8x8x4096x4352, .f32⟩
  | .hbm, ⟨37, _⟩ => ⟨S_, .f32⟩
  | .hbm, ⟨38, _⟩ => ⟨S8x8x4096, .f32⟩
  | .hbm, ⟨39, _⟩ => ⟨S8x8x4096x1, .f32⟩
  | .hbm, ⟨40, _⟩ => ⟨S8x8x4096x4352, .f32⟩
  | .hbm, ⟨41, _⟩ => ⟨S8x8x4096x4352, .f32⟩
  | .hbm, ⟨42, _⟩ => ⟨S8x8x4096x4352, .bf16⟩
  | .hbm, ⟨43, _⟩ => ⟨S8x8x4096x4352, .f32⟩
  | .hbm, ⟨44, _⟩ => ⟨S8x8x64x4096, .f32⟩
  | .hbm, ⟨45, _⟩ => ⟨S8x4096x8x64, .f32⟩
  | .hbm, ⟨46, _⟩ => ⟨S8x4096x8x64, .bf16⟩
  | .hbm, ⟨47, _⟩ => ⟨S8x4096x512, .bf16⟩
  | _, _ => ⟨S96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S16x6x1x1024 : Shape := ⟨4, ![16, 6, 1, 1024]⟩
abbrev S1024x4096 : Shape := ⟨2, ![1024, 4096]⟩
abbrev S4096x1024 : Shape := ⟨2, ![4096, 1024]⟩
abbrev S1x1024 : Shape := ⟨2, ![1, 1024]⟩
abbrev S32768x1024 : Shape := ⟨2, ![32768, 1024]⟩
abbrev S1024x1024 : Shape := ⟨2, ![1024, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S16x6x1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S32768x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1x1x1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .bf16⟩
  | .local _ .vmem, ⟨34, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 1 := Scalar.cmpi .slt v29 c1_i32_12
  let c8_i32 : BitVec 32 := 8#32
  let v31 : BitVec 32 := Scalar.select v30 c8_i32 v18
  let c3_i32 : BitVec 32 := 3#32
  let c0_i32_13 : BitVec 32 := 0#32
  let c0_i32_14 : BitVec 32 := 0#32
  let c0_i32_15 : BitVec 32 := 0#32
  ![v31.toNat, c3_i32.toNat, c0_i32_13.toNat, c0_i32_14.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 1 := Scalar.cmpi .slt v29 c1_i32_12
  let c8_i32 : BitVec 32 := 8#32
  let v31 : BitVec 32 := Scalar.select v30 c8_i32 v18
  let c4_i32_13 : BitVec 32 := 4#32
  let c0_i32_14 : BitVec 32 := 0#32
  let c0_i32_15 : BitVec 32 := 0#32
  let c0_i32_16 : BitVec 32 := 0#32
  ![v31.toNat, c4_i32_13.toNat, c0_i32_14.toNat, c0_i32_15.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 1 := Scalar.cmpi .slt v29 c1_i32_12
  let c8_i32 : BitVec 32 := 8#32
  let v31 : BitVec 32 := Scalar.select v30 c8_i32 v18
  let c5_i32 : BitVec 32 := 5#32
  let c0_i32_13 : BitVec 32 := 0#32
  let c0_i32_14 : BitVec 32 := 0#32
  let c0_i32_15 : BitVec 32 := 0#32
  ![v31.toNat, c5_i32.toNat, c0_i32_13.toNat, c0_i32_14.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 1 := Scalar.cmpi .slt v29 c1_i32_12
  let c8_i32 : BitVec 32 := 8#32
  let v31 : BitVec 32 := Scalar.select v30 c8_i32 v18
  let c3_i32 : BitVec 32 := 3#32
  let c0_i32_13 : BitVec 32 := 0#32
  let c0_i32_14 : BitVec 32 := 0#32
  let c0_i32_15 : BitVec 32 := 0#32
  ![v31.toNat, c3_i32.toNat, c0_i32_13.toNat, c0_i32_14.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 1 := Scalar.cmpi .slt v29 c1_i32_12
  let c8_i32 : BitVec 32 := 8#32
  let v31 : BitVec 32 := Scalar.select v30 c8_i32 v18
  let c4_i32_13 : BitVec 32 := 4#32
  let c0_i32_14 : BitVec 32 := 0#32
  let c0_i32_15 : BitVec 32 := 0#32
  let c0_i32_16 : BitVec 32 := 0#32
  ![v31.toNat, c4_i32_13.toNat, c0_i32_14.toNat, c0_i32_15.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 1 := Scalar.cmpi .slt v29 c1_i32_12
  let c8_i32 : BitVec 32 := 8#32
  let v31 : BitVec 32 := Scalar.select v30 c8_i32 v18
  let c5_i32 : BitVec 32 := 5#32
  let c0_i32_13 : BitVec 32 := 0#32
  let c0_i32_14 : BitVec 32 := 0#32
  let c0_i32_15 : BitVec 32 := 0#32
  ![v31.toNat, c5_i32.toNat, c0_i32_13.toNat, c0_i32_14.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c1_i32_11 : BitVec 32 := 1#32
  let v30 : BitVec 1 := Scalar.cmpi .slt v29 c1_i32_11
  let c8_i32 : BitVec 32 := 8#32
  let v31 : BitVec 32 := Scalar.select v30 c8_i32 v18
  let c3_i32 : BitVec 32 := 3#32
  let c0_i32_12 : BitVec 32 := 0#32
  let c0_i32_13 : BitVec 32 := 0#32
  let c0_i32_14 : BitVec 32 := 0#32
  ![v31.toNat, c3_i32.toNat, c0_i32_12.toNat, c0_i32_13.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c1_i32_11 : BitVec 32 := 1#32
  let v30 : BitVec 1 := Scalar.cmpi .slt v29 c1_i32_11
  let c8_i32 : BitVec 32 := 8#32
  let v31 : BitVec 32 := Scalar.select v30 c8_i32 v18
  let c4_i32_12 : BitVec 32 := 4#32
  let c0_i32_13 : BitVec 32 := 0#32
  let c0_i32_14 : BitVec 32 := 0#32
  let c0_i32_15 : BitVec 32 := 0#32
  ![v31.toNat, c4_i32_12.toNat, c0_i32_13.toNat, c0_i32_14.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c1_i32_11 : BitVec 32 := 1#32
  let v30 : BitVec 1 := Scalar.cmpi .slt v29 c1_i32_11
  let c8_i32 : BitVec 32 := 8#32
  let v31 : BitVec 32 := Scalar.select v30 c8_i32 v18
  let c5_i32 : BitVec 32 := 5#32
  let c0_i32_12 : BitVec 32 := 0#32
  let c0_i32_13 : BitVec 32 := 0#32
  let c0_i32_14 : BitVec 32 := 0#32
  ![v31.toNat, c5_i32.toNat, c0_i32_12.toNat, c0_i32_13.toNat]

def cc0_transform_11 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c1_i32_11 : BitVec 32 := 1#32
  let v30 : BitVec 1 := Scalar.cmpi .slt v29 c1_i32_11
  let c8_i32 : BitVec 32 := 8#32
  let v31 : BitVec 32 := Scalar.select v30 c8_i32 v18
  let c3_i32_12 : BitVec 32 := 3#32
  let c0_i32_13 : BitVec 32 := 0#32
  let c0_i32_14 : BitVec 32 := 0#32
  let c0_i32_15 : BitVec 32 := 0#32
  ![v31.toNat, c3_i32_12.toNat, c0_i32_13.toNat, c0_i32_14.toNat]

def cc0_transform_12 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c1_i32_11 : BitVec 32 := 1#32
  let v30 : BitVec 1 := Scalar.cmpi .slt v29 c1_i32_11
  let c8_i32 : BitVec 32 := 8#32
  let v31 : BitVec 32 := Scalar.select v30 c8_i32 v18
  let c4_i32_12 : BitVec 32 := 4#32
  let c0_i32_13 : BitVec 32 := 0#32
  let c0_i32_14 : BitVec 32 := 0#32
  let c0_i32_15 : BitVec 32 := 0#32
  ![v31.toNat, c4_i32_12.toNat, c0_i32_13.toNat, c0_i32_14.toNat]

def cc0_transform_13 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c1_i32_11 : BitVec 32 := 1#32
  let v30 : BitVec 1 := Scalar.cmpi .slt v29 c1_i32_11
  let c8_i32 : BitVec 32 := 8#32
  let v31 : BitVec 32 := Scalar.select v30 c8_i32 v18
  let c5_i32 : BitVec 32 := 5#32
  let c0_i32_12 : BitVec 32 := 0#32
  let c0_i32_13 : BitVec 32 := 0#32
  let c0_i32_14 : BitVec 32 := 0#32
  ![v31.toNat, c5_i32.toNat, c0_i32_12.toNat, c0_i32_13.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference2Ideal.lean ====
abbrev S8x4096x1024 : Shape := ⟨3, ![8, 4096, 1024]⟩
abbrev S1024 : Shape := ⟨1, ![1024]⟩
abbrev S16x6x1x1024 : Shape := ⟨4, ![16, 6, 1, 1024]⟩
abbrev S1024x4096 : Shape := ⟨2, ![1024, 4096]⟩
abbrev S4096x1024 : Shape := ⟨2, ![4096, 1024]⟩
abbrev S8x6x1x1024 : Shape := ⟨4, ![8, 6, 1, 1024]⟩
abbrev S8x1x6x1024 : Shape := ⟨4, ![8, 1, 6, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S16x6x1x1024, .f32⟩
  | .hbm, ⟨3, _⟩ => ⟨S1024x4096, .f32⟩
  | .hbm, ⟨4, _⟩ => ⟨S4096x1024, .f32⟩
  | .hbm, ⟨5, _⟩ => ⟨S8x6x1x1024, .f32⟩
  | .hbm, ⟨6, _⟩ => ⟨S8x1x6x1024, .f32⟩
  | .hbm, ⟨7, _⟩ => ⟨S8x1x1x1024, .f32⟩
  | .hbm, ⟨8, _⟩ => ⟨S8x1x1024, .f32⟩
  | .hbm, ⟨9, _⟩ => ⟨S8x1x1x1024, .f32⟩
  | .hbm, ⟨10, _⟩ => ⟨S8x1x1024, .f32⟩
  | .hbm, ⟨11, _⟩ => ⟨S8x1x1x1024, .f32⟩
  | .hbm, ⟨12, _⟩ => ⟨S8x1x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S1024 : Shape := ⟨1, ![1024]⟩
abbrev S16x6x1x1024 : Shape := ⟨4, ![16, 6, 1, 1024]⟩
abbrev S1024x5152 : Shape := ⟨2, ![1024, 5152]⟩
abbrev S1024x256 : Shape := ⟨2, ![1024, 256]⟩
abbrev S1024x384 : Shape := ⟨2, ![1024, 384]⟩
abbrev S1024x288 : Shape := ⟨2, ![1024, 288]⟩
abbrev S1024x1152 : Shape := ⟨2, ![1024, 1152]⟩
abbrev S1024x3072 : Shape := ⟨2, ![1024, 3072]⟩
abbrev S_ : Shape := ⟨0, ![]⟩
abbrev S1x1024 : Shape := ⟨2, ![1, 1024]⟩
abbrev S8x4352x256 : Shape := ⟨3, ![8, 4352, 256]⟩
abbrev S8x4352x384 : Shape := ⟨3, ![8, 4352, 384]⟩
abbrev S8x4352x1152 : Shape := ⟨3, ![8, 4352, 1152]⟩
abbrev S8x4352x3072 : Shape := ⟨3, ![8, 4352, 3072]⟩
abbrev S1x256x1024 : Shape := ⟨3, ![1, 256, 1024]⟩
abbrev S1x1x1x1024 : Shape := ⟨4, ![1, 1, 1, 1024]⟩
abbrev S1x256x256 : Shape := ⟨3, ![1, 256, 256]⟩
abbrev S1x256x384 : Shape := ⟨3, ![1, 256, 384]⟩
abbrev S1x256x1152 : Shape := ⟨3, ![1, 256, 1152]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x384 : Shape := ⟨2, ![256, 384]⟩
abbrev S256x1152 : Shape := ⟨2, ![256, 1152]⟩
abbrev S1024x1024 : Shape := ⟨2, ![1024, 1024]⟩

abbrev nBuf : Space → Nat
  | .hbm => 20
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S16x6x1x1024, .f32⟩
  | .hbm, ⟨4, _⟩ => ⟨S1024x5152, .f32⟩
  | .hbm, ⟨5, _⟩ => ⟨S1024x5152, .bf16⟩
  | .hbm, ⟨6, _⟩ => ⟨S1024x256, .bf16⟩
  | .hbm, ⟨7, _⟩ => ⟨S1024x384, .bf16⟩
  | .hbm, ⟨8, _⟩ => ⟨S1024x288, .bf16⟩
  | .hbm, ⟨9, _⟩ => ⟨S1024x1152, .bf16⟩
  | .hbm, ⟨10, _⟩ => ⟨S1024x3072, .bf16⟩
  | .hbm, ⟨11, _⟩ => ⟨S_, .i32⟩
  | .hbm, ⟨12, _⟩ => ⟨S_, .bf16⟩
  | .hbm, ⟨13, _⟩ => ⟨S1024x384, .bf16⟩
  | .hbm, ⟨14, _⟩ => ⟨S1x1024, .f32⟩
  | .hbm, ⟨15, _⟩ => ⟨S8x4352x256, .f32⟩
  | .hbm, ⟨16, _⟩ => ⟨S8x4352x384, .f32⟩
  | .hbm, ⟨17, _⟩ => ⟨S8x4352x384, .f32⟩
  | .hbm, ⟨18, _⟩ => ⟨S8x4352x1152, .f32⟩
  | .hbm, ⟨19, _⟩ => ⟨S8x4352x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x256, .bf16⟩
  | .local _ .vmem, ⟨10, _⟩ => ⟨S1024x384, .bf16⟩
  | .local _ .vmem, ⟨11, _⟩ => ⟨S1024x384, .bf16⟩
  | .local _ .vmem, ⟨12, _⟩ => ⟨S1024x1152, .bf16⟩
  | .local _ .vmem, ⟨13, _⟩ => ⟨S1024x3072, .bf16⟩
  | .local _ .vmem, ⟨14, _⟩ => ⟨S1x256x256, .f32⟩
  | .local _ .vmem, ⟨15, _⟩ => ⟨S1x256x256, .f32⟩
  | .local _ .vmem, ⟨16, _⟩ => ⟨S1x256x384, .f32⟩
  | .local _ .vmem, ⟨17, _⟩ => ⟨S1x256x384, .f32⟩
  | .local _ .vmem, ⟨18, _⟩ => ⟨S1x256x384, .f32⟩
  | .local _ .vmem, ⟨19, _⟩ => ⟨S1x256x384, .f32⟩
  | .local _ .vmem, ⟨20, _⟩ => ⟨S1x256x1152, .f32⟩
  | .local _ .vmem, ⟨21, _⟩ => ⟨S1x256x1152, .f32⟩
  | .local _ .vmem, ⟨22, _⟩ => ⟨S1x256x3072, .bf16⟩
  | .local _ .vmem, ⟨23, _⟩ => ⟨S1x256x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.minsi v0 c0_i32_0
  let c0_i32_1 : BitVec 32 := 0#32
  let c0_i32_2 : BitVec 32 := 0#32
  ![arg0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let v3 : BitVec 32 := Scalar.addi v2 c0_i32_1
  let c0_i32_2 : BitVec 32 := 0#32
  let c0_i32_3 : BitVec 32 := 0#32
  ![arg0.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c8_i32 : BitVec 32 := 8#32
  let v2 : BitVec 32 := Scalar.select v1 c8_i32 arg0
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c8_i32 : BitVec 32 := 8#32
  let v2 : BitVec 32 := Scalar.select v1 c8_i32 arg0
  let c1_i32_0 : BitVec 32 := 1#32
  let c0_i32_1 : BitVec 32 := 0#32
  let c0_i32_2 : BitVec 32 := 0#32
  let c0_i32_3 : BitVec 32 := 0#32
  ![v2.toNat, c1_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4096x1024 : Shape := ⟨3, ![8, 4096, 1024]⟩
abbrev S8x256x1024 : Shape := ⟨3, ![8, 256, 1024]⟩
abbrev S1024 : Shape := ⟨1, ![1024]⟩
abbrev S16x6x1x1024 : Shape := ⟨4, ![16, 6, 1, 1024]⟩
abbrev S1024x5152 : Shape := ⟨2, ![1024, 5152]⟩
abbrev S8x6x1x1024 : Shape := ⟨4, ![8, 6, 1, 1024]⟩
abbrev S8x1x6x1024 : Shape := ⟨4, ![8, 1, 6, 1024]⟩
abbrev S1x6x1x1024 : Shape := ⟨4, ![1, 6, 1, 1024]⟩
abbrev S6x1x1024 : Shape := ⟨3, ![6, 1, 1024]⟩
abbrev S6x1024 : Shape := ⟨2, ![6, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1024 : Shape := ⟨2, ![1, 1024]⟩
abbrev S8x256x5152 : Shape := ⟨3, ![8, 256, 5152]⟩
abbrev S8x4096x5152 : Shape := ⟨3, ![8, 4096, 5152]⟩
abbrev S8x4352x5152 : Shape := ⟨3, ![8, 4352, 5152]⟩
abbrev S8x4352x256 : Shape := ⟨3, ![8, 4352, 256]⟩
abbrev S8x4352x384 : Shape := ⟨3, ![8, 4352, 384]⟩
abbrev S8x4352x288 : Shape := ⟨3, ![8, 4352, 288]⟩
abbrev S8x4352x1152 : Shape := ⟨3, ![8, 4352, 1152]⟩
abbrev S8x4352x3072 : Shape := ⟨3, ![8, 4352, 3072]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S16x6x1x1024, .f32⟩
  | .hbm, ⟨4, _⟩ => ⟨S1024x5152, .f32⟩
  | .hbm, ⟨5, _⟩ => ⟨S8x6x1x1024, .f32⟩
  | .hbm, ⟨6, _⟩ => ⟨S8x1x6x1024, .f32⟩
  | .hbm, ⟨7, _⟩ => ⟨S1x6x1x1024, .f32⟩
  | .hbm, ⟨8, _⟩ => ⟨S6x1x1024, .f32⟩
  | .hbm, ⟨9, _⟩ => ⟨S6x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x1x1x1024, .f32⟩
  | .hbm, ⟨27, _⟩ => ⟨S8x1x1024, .f32⟩
  | .hbm, ⟨28, _⟩ => ⟨S8x1x1x1024, .f32⟩
  | .hbm, ⟨29, _⟩ => ⟨S8x1x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x256x1024, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S8x256x1, .f32⟩
  | .hbm, ⟨48, _⟩ => ⟨S8x256x1024, .f32⟩
  | .hbm, ⟨49, _⟩ => ⟨S8x256x1024, .f32⟩
  | .hbm, ⟨50, _⟩ => ⟨S1x1x1024, .f32⟩
  | .hbm, ⟨51, _⟩ => ⟨S8x256x1024, .f32⟩
  | .hbm, ⟨52, _⟩ => ⟨S8x256x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1x1024, .f32⟩
  | .hbm, ⟨61, _⟩ => ⟨S8x256x1024, .f32⟩
  | .hbm, ⟨62, _⟩ => ⟨S8x256x1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S8x256x5152, .f32⟩
  | .hbm, ⟨67, _⟩ => ⟨S8x4096x5152, .f32⟩
  | .hbm, ⟨68, _⟩ => ⟨S8x4352x5152, .f32⟩
  | .hbm, ⟨69, _⟩ => ⟨S8x4352x256, .f32⟩
  | .hbm, ⟨70, _⟩ => ⟨S8x4352x384, .f32⟩
  | .hbm, ⟨71, _⟩ => ⟨S8x4352x288, .f32⟩
  | .hbm, ⟨72, _⟩ => ⟨S8x4352x1152, .f32⟩
  | .hbm, ⟨73, _⟩ => ⟨S8x4352x3072, .f32⟩
  | .hbm, ⟨74, _⟩ => ⟨S_, .i32⟩
  | .hbm, ⟨75, _⟩ => ⟨S_, .f32⟩
  | .hbm, ⟨76, _⟩ => ⟨S8x4352x384, .f32⟩
  | .hbm, ⟨77, _⟩ => ⟨S8x4352x3072, .f32⟩
  | .hbm, ⟨78, _⟩ => ⟨S8x4352x3072, .f32⟩
  | .hbm, ⟨79, _⟩ => ⟨S_, .f32⟩
  | .hbm, ⟨80, _⟩ => ⟨S8x4352x3072, .f32⟩
  | .hbm, ⟨81, _⟩ => ⟨S8x4352x3072, .f32⟩
  | .hbm, ⟨82, _⟩ => ⟨S_, .f32⟩
  | .hbm, ⟨83, _⟩ => ⟨S8x4352x3072, .f32⟩
  | .hbm, ⟨84, _⟩ => ⟨S8x4352x3072, .f32⟩
  | .hbm, ⟨85, _⟩ => ⟨S8x4352x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c : Ref sig .tc := ⟨.hbm, 74, rfl⟩
abbrev main_call0_v0 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel4.lean ====
abbrev S8x4352x1024 : Shape := ⟨3, ![8, 4352, 1024]⟩
abbrev S1024 : Shape := ⟨1, ![1024]⟩
abbrev S16x6x1x1024 : Shape := ⟨4, ![16, 6, 1, 1024]⟩
abbrev S1024x4096 : Shape := ⟨2, ![1024, 4096]⟩
abbrev S4096x1024 : Shape := ⟨2, ![4096, 1024]⟩
abbrev S1x1024 : Shape := ⟨2, ![1, 1024]⟩
abbrev S34816x1024 : Shape := ⟨2, ![34816, 1024]⟩
abbrev S1024x1024 : Shape := ⟨2, ![1024, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 35
  | .smem => 0
  | _ => 0

abbrev bufTy : (tb : Table) → Fin (tcTables nBuf tb) → BufTy
  | .hbm, ⟨0, _⟩ => ⟨S8x4352x1024, .f32⟩
  | .hbm, ⟨1, _⟩ => ⟨S1024, .f32⟩
  | .hbm, ⟨2, _⟩ => ⟨S16x6x1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S34816x1024, .f32⟩
  | .hbm, ⟨9, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1x1x1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .bf16⟩
  | .local _ .vmem, ⟨34, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![34, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 1 := Scalar.cmpi .slt v29 c1_i32_12
  let c8_i32 : BitVec 32 := 8#32
  let v31 : BitVec 32 := Scalar.select v30 c8_i32 v18
  let c3_i32 : BitVec 32 := 3#32
  let c0_i32_13 : BitVec 32 := 0#32
  let c0_i32_14 : BitVec 32 := 0#32
  let c0_i32_15 : BitVec 32 := 0#32
  ![v31.toNat, c3_i32.toNat, c0_i32_13.toNat, c0_i32_14.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 1 := Scalar.cmpi .slt v29 c1_i32_12
  let c8_i32 : BitVec 32 := 8#32
  let v31 : BitVec 32 := Scalar.select v30 c8_i32 v18
  let c4_i32_13 : BitVec 32 := 4#32
  let c0_i32_14 : BitVec 32 := 0#32
  let c0_i32_15 : BitVec 32 := 0#32
  let c0_i32_16 : BitVec 32 := 0#32
  ![v31.toNat, c4_i32_13.toNat, c0_i32_14.toNat, c0_i32_15.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 1 := Scalar.cmpi .slt v29 c1_i32_12
  let c8_i32 : BitVec 32 := 8#32
  let v31 : BitVec 32 := Scalar.select v30 c8_i32 v18
  let c5_i32 : BitVec 32 := 5#32
  let c0_i32_13 : BitVec 32 := 0#32
  let c0_i32_14 : BitVec 32 := 0#32
  let c0_i32_15 : BitVec 32 := 0#32
  ![v31.toNat, c5_i32.toNat, c0_i32_13.toNat, c0_i32_14.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 1 := Scalar.cmpi .slt v29 c1_i32_12
  let c8_i32 : BitVec 32 := 8#32
  let v31 : BitVec 32 := Scalar.select v30 c8_i32 v18
  let c3_i32 : BitVec 32 := 3#32
  let c0_i32_13 : BitVec 32 := 0#32
  let c0_i32_14 : BitVec 32 := 0#32
  let c0_i32_15 : BitVec 32 := 0#32
  ![v31.toNat, c3_i32.toNat, c0_i32_13.toNat, c0_i32_14.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 1 := Scalar.cmpi .slt v29 c1_i32_12
  let c8_i32 : BitVec 32 := 8#32
  let v31 : BitVec 32 := Scalar.select v30 c8_i32 v18
  let c4_i32_13 : BitVec 32 := 4#32
  let c0_i32_14 : BitVec 32 := 0#32
  let c0_i32_15 : BitVec 32 := 0#32
  let c0_i32_16 : BitVec 32 := 0#32
  ![v31.toNat, c4_i32_13.toNat, c0_i32_14.toNat, c0_i32_15.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 1 := Scalar.cmpi .slt v29 c1_i32_12
  let c8_i32 : BitVec 32 := 8#32
  let v31 : BitVec 32 := Scalar.select v30 c8_i32 v18
  let c5_i32 : BitVec 32 := 5#32
  let c0_i32_13 : BitVec 32 := 0#32
  let c0_i32_14 : BitVec 32 := 0#32
  let c0_i32_15 : BitVec 32 := 0#32
  ![v31.toNat, c5_i32.toNat, c0_i32_13.toNat, c0_i32_14.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 1 := Scalar.cmpi .slt v29 c1_i32_11
  let c8_i32 : BitVec 32 := 8#32
  let v31 : BitVec 32 := Scalar.select v30 c8_i32 v18
  let c3_i32 : BitVec 32 := 3#32
  let c0_i32_12 : BitVec 32 := 0#32
  let c0_i32_13 : BitVec 32 := 0#32
  let c0_i32_14 : BitVec 32 := 0#32
  ![v31.toNat, c3_i32.toNat, c0_i32_12.toNat, c0_i32_13.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 1 := Scalar.cmpi .slt v29 c1_i32_11
  let c8_i32 : BitVec 32 := 8#32
  let v31 : BitVec 32 := Scalar.select v30 c8_i32 v18
  let c4_i32_12 : BitVec 32 := 4#32
  let c0_i32_13 : BitVec 32 := 0#32
  let c0_i32_14 : BitVec 32 := 0#32
  let c0_i32_15 : BitVec 32 := 0#32
  ![v31.toNat, c4_i32_12.toNat, c0_i32_13.toNat, c0_i32_14.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 1 := Scalar.cmpi .slt v29 c1_i32_11
  let c8_i32 : BitVec 32 := 8#32
  let v31 : BitVec 32 := Scalar.select v30 c8_i32 v18
  let c5_i32 : BitVec 32 := 5#32
  let c0_i32_12 : BitVec 32 := 0#32
  let c0_i32_13 : BitVec 32 := 0#32
  let c0_i32_14 : BitVec 32 := 0#32
  ![v31.toNat, c5_i32.toNat, c0_i32_12.toNat, c0_i32_13.toNat]

def cc0_transform_11 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 1 := Scalar.cmpi .slt v29 c1_i32_11
  let c8_i32 : BitVec 32 := 8#32
  let v31 : BitVec 32 := Scalar.select v30 c8_i32 v18
  let c3_i32_12 : BitVec 32 := 3#32
  let c0_i32_13 : BitVec 32 := 0#32
  let c0_i32_14 : BitVec 32 := 0#32
  let c0_i32_15 : BitVec 32 := 0#32
  ![v31.toNat, c3_i32_12.toNat, c0_i32_13.toNat, c0_i32_14.toNat]

def cc0_transform_12 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 1 := Scalar.cmpi .slt v29 c1_i32_11
  let c8_i32 : BitVec 32 := 8#32
  let v31 : BitVec 32 := Scalar.select v30 c8_i32 v18
  let c4_i32_12 : BitVec 32 := 4#32
  let c0_i32_13 : BitVec 32 := 0#32
  let c0_i32_14 : BitVec 32 := 0#32
  let c0_i32_15 : BitVec 32 := 0#32
  ![v31.toNat, c4_i32_12.toNat, c0_i32_13.toNat, c0_i32_14.toNat]

def cc0_transform_13 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 1 := Scalar.cmpi .slt v29 c1_i32_11
  let c8_i32 : BitVec 32 := 8#32
  let v31 : BitVec 32 := Scalar.select v30 c8_i32 v18
  let c5_i32 : BitVec 32 := 5#32
  let c0_i32_12 : BitVec 32 := 0#32
  let c0_i32_13 : BitVec 32 := 0#32
  let c0_i32_14 : BitVec 32 := 0#32
  ![v31.toNat, c5_i32.toNat, c0_i32_12.toNat, c0_i32_13.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference4Ideal.lean ====
abbrev S8x4352x1024 : Shape := ⟨3, ![8, 4352, 1024]⟩
abbrev S1024 : Shape := ⟨1, ![1024]⟩
abbrev S16x6x1x1024 : Shape := ⟨4, ![16, 6, 1, 1024]⟩
abbrev S1024x4096 : Shape := ⟨2, ![1024, 4096]⟩
abbrev S4096x1024 : Shape := ⟨2, ![4096, 1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S1x1x1x1024 : Shape := ⟨4, ![1, 1, 1, 1024]⟩
abbrev S1x1024 : Shape := ⟨2, ![1, 1024]⟩
abbrev S8x256x1024 : Shape := ⟨3, ![8, 256, 1024]⟩
abbrev S8x1x1x1024 : Shape := ⟨4, ![8, 1, 1, 1024]⟩
abbrev S8x1x1024 : Shape := ⟨3, ![8, 1, 1024]⟩
abbrev S8x4096x1024 : Shape := ⟨3, ![8, 4096, 1024]⟩
abbrev S8x4352x4096 : Shape := ⟨3, ![8, 4352, 4096]⟩
abbrev S34816x1024 : Shape := ⟨2, ![34816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S1024, .f32⟩
  | .hbm, ⟨2, _⟩ => ⟨S16x6x1x1024, .f32⟩
  | .hbm, ⟨3, _⟩ => ⟨S1024x4096, .f32⟩
  | .hbm, ⟨4, _⟩ => ⟨S4096x1024, .f32⟩
  | .hbm, ⟨5, _⟩ => ⟨S8x4352x1024, .f32⟩
  | .hbm, ⟨6, _⟩ => ⟨S_, .f32⟩
  | .hbm, ⟨7, _⟩ => ⟨S8x4352, .f32⟩
  | .hbm, ⟨8, _⟩ => ⟨S8x4352x1, .f32⟩
  | .hbm, ⟨9, _⟩ => ⟨S_, .f32⟩
  | .hbm, ⟨10, _⟩ => ⟨S8x4352x1, .f32⟩
  | .hbm, ⟨11, _⟩ => ⟨S8x4352x1, .f32⟩
  | .hbm, ⟨12, _⟩ => ⟨S_, .f32⟩
  | .hbm, ⟨13, _⟩ => ⟨S8x4352x1, .f32⟩
  | .hbm, ⟨14, _⟩ => ⟨S8x4352x1, .f32⟩
  | .hbm, ⟨15, _⟩ => ⟨S8x4352x1, .f32⟩
  | .hbm, ⟨16, _⟩ => ⟨S8x4352x1024, .f32⟩
  | .hbm, ⟨17, _⟩ => ⟨S8x4352x1024, .f32⟩
  | .hbm, ⟨18, _⟩ => ⟨S1x1x1024, .f32⟩
  | .hbm, ⟨19, _⟩ => ⟨S8x4352x1024, .f32⟩
  | .hbm, ⟨20, _⟩ => ⟨S8x4352x1024, .f32⟩
  | .hbm, ⟨21, _⟩ => ⟨S1x1x1x1024, .f32⟩
  | .hbm, ⟨22, _⟩ => ⟨S1x1024, .f32⟩
  | .hbm, ⟨23, _⟩ => ⟨S8x256x1024, .f32⟩
  | .hbm, ⟨24, _⟩ => ⟨S8x1x1x1024, .f32⟩
  | .hbm, ⟨25, _⟩ => ⟨S8x1x1024, .f32⟩
  | .hbm, ⟨26, _⟩ => ⟨S8x4096x1024, .f32⟩
  | .hbm, ⟨27, _⟩ => ⟨S8x4352x1024, .f32⟩
  | .hbm, ⟨28, _⟩ => ⟨S1x1x1x1024, .f32⟩
  | .hbm, ⟨29, _⟩ => ⟨S1x1024, .f32⟩
  | .hbm, ⟨30, _⟩ => ⟨S8x256x1024, .f32⟩
  | .hbm, ⟨31, _⟩ => ⟨S8x1x1x1024, .f32⟩
  | .hbm, ⟨32, _⟩ => ⟨S8x1x1024, .f32⟩
  | .hbm, ⟨33, _⟩ => ⟨S8x4096x1024, .f32⟩
  | .hbm, ⟨34, _⟩ => ⟨S8x4352x1024, .f32⟩
  | .hbm, ⟨35, _⟩ => ⟨S_, .f32⟩
  | .hbm, ⟨36, _⟩ => ⟨S8x4352x1024, .f32⟩
  | .hbm, ⟨37, _⟩ => ⟨S8x4352x1024, .f32⟩
  | .hbm, ⟨38, _⟩ => ⟨S8x4352x1024, .f32⟩
  | .hbm, ⟨39, _⟩ => ⟨S8x4352x1024, .f32⟩
  | .hbm, ⟨40, _⟩ => ⟨S1x1x1x1024, .f32⟩
  | .hbm, ⟨41, _⟩ => ⟨S1x1024, .f32⟩
  | .hbm, ⟨42, _⟩ => ⟨S8x256x1024, .f32⟩
  | .hbm, ⟨43, _⟩ => ⟨S8x1x1x1024, .f32⟩
  | .hbm, ⟨44, _⟩ => ⟨S8x1x1024, .f32⟩
  | .hbm, ⟨45, _⟩ => ⟨S8x4096x1024, .f32⟩
  | .hbm, ⟨46, _⟩ => ⟨S8x4352x1024, .f32⟩
  | .hbm, ⟨47, _⟩ => ⟨S8x4352x4096, .f32⟩
  | .hbm, ⟨48, _⟩ => ⟨S_, .f32⟩
  | .hbm, ⟨49, _⟩ => ⟨S8x4352x4096, .f32⟩
  | .hbm, ⟨50, _⟩ => ⟨S8x4352x4096, .f32⟩
  | .hbm, ⟨51, _⟩ => ⟨S8x4352x4096, .f32⟩
  | .hbm, ⟨52, _⟩ => ⟨S8x4352x1024, .f32⟩
  | .hbm, ⟨53, _⟩ => ⟨S8x4352x1024, .f32⟩
  | .hbm, ⟨54, _⟩ => ⟨S8x4352x1024, .f32⟩
  | .hbm, ⟨55, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Proof.MlpRun.lean ====
/- The run of the mlp call for any reading of its values: what the two carried buffers hold after each grid point, the
   proof data, the body at every point, and the run of the whole program.

   The generated runs of the three kinds of point (first, middle and last column tile of a row block) give what one point
   stores; here they are strung together: `hAt` is the normalised block after a point, `accAt` the running sum. -/
module

public import proofs.«01_k».proof.Proof.Gen.Kernel2Ideal.Frame.RunC
public import Idealize.ShloMosaic.Lib.Claim

@[expose] public section

set_option maxRecDepth 16384

noncomputable section

namespace Cert.Kernel2Ideal.MlpRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's stores -/

/-- The stores of a first point. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The normalised block a first point leaves. -/
def hFirst (c : Dev nD) (t : Fin cfg0.N) (h0 : t.val % 4 = 0) : Vec F S1024x1024 .bf16 :=
  VS0_0.read (Elt F) (VS0_0.writes (Elt F) VS0_0.junk (runA m c t h0).2.1)

theorem hFirst_cover (c : Dev nD) (t : Fin cfg0.N) (h0 : t.val % 4 = 0) (i : S1024x1024.Idx) : ∃ pc ∈ (runA m c t h0).2.1, i ∈ pc.1.set :=
  View.cover_of_tiledL (runA m c t h0).2.1 S256x1024.size (by sl_kernel_rfl) i

/-- The sum a first point leaves. -/
def accFirst (c : Dev nD) (t : Fin cfg0.N) (h0 : t.val % 4 = 0) : Vec F S1024x1024 .f32 :=
  VS0_1.read (Elt F) (VS0_1.writes (Elt F) VS0_1.junk (runA m c t h0).2.2.1)

theorem accFirst_cover (c : Dev nD) (t : Fin cfg0.N) (h0 : t.val % 4 = 0) (i : S1024x1024.Idx) : ∃ pc ∈ (runA m c t h0).2.2.1, i ∈ pc.1.set :=
  View.cover_of_tiledL (runA m c t h0).2.2.1 S1024x1024.size (by sl_kernel_rfl) i

/-- The stores of a middle point. -/
abbrev runB (c : Dev nD) (t : Fin cfg0.N) (h0 : ¬t.val % 4 = 0) (h1 : ¬t.val % 4 = 3) (xs0 : Vec F S1024x1024 .bf16) (xs1 : Vec F S1024x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs0 xs1

/-- The sum a middle point leaves. -/
def accMiddle (c : Dev nD) (t : Fin cfg0.N) (h0 : ¬t.val % 4 = 0) (h1 : ¬t.val % 4 = 3) (xs0 : Vec F S1024x1024 .bf16) (xs1 : Vec F S1024x1024 .f32) : Vec F S1024x1024 .f32 :=
  VS0_1.read (Elt F) (VS0_1.writes (Elt F) VS0_1.junk (runB m c t h0 h1 xs0 xs1).2.2.1)

theorem accMiddle_cover (c : Dev nD) (t : Fin cfg0.N) (h0 : ¬t.val % 4 = 0) (h1 : ¬t.val % 4 = 3) (xs0 : Vec F S1024x1024 .bf16) (xs1 : Vec F S1024x1024 .f32) (i : S1024x1024.Idx) : ∃ pc ∈ (runB m c t h0 h1 xs0 xs1).2.2.1, i ∈ pc.1.set :=
  View.cover_of_tiledL (runB m c t h0 h1 xs0 xs1).2.2.1 S1024x1024.size (by sl_kernel_rfl) i

/-- The stores of a last point. -/
abbrev runC (c : Dev nD) (t : Fin cfg0.N) (h1 : t.val % 4 = 3) (xs0 : Vec F S1024x1024 .bf16) (xs1 : Vec F S1024x1024 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs0 xs1

/-- The sum a last point leaves. -/
def accLast (c : Dev nD) (t : Fin cfg0.N) (h1 : t.val % 4 = 3) (xs0 : Vec F S1024x1024 .bf16) (xs1 : Vec F S1024x1024 .f32) : Vec F S1024x1024 .f32 :=
  VS0_1.read (Elt F) (VS0_1.writes (Elt F) VS0_1.junk (runC m c t h1 xs0 xs1).2.2.1)

theorem accLast_cover (c : Dev nD) (t : Fin cfg0.N) (h1 : t.val % 4 = 3) (xs0 : Vec F S1024x1024 .bf16) (xs1 : Vec F S1024x1024 .f32) (i : S1024x1024.Idx) : ∃ pc ∈ (runC m c t h1 xs0 xs1).2.2.1, i ∈ pc.1.set :=
  View.cover_of_tiledL (runC m c t h1 xs0 xs1).2.2.1 S1024x1024.size (by sl_kernel_rfl) i

/-- The result block a last point leaves. -/
def outLast (c : Dev nD) (t : Fin cfg0.N) (h1 : t.val % 4 = 3) (xs0 : Vec F S1024x1024 .bf16) (xs1 : Vec F S1024x1024 .f32) : Vec F S1024x1024 .f32 :=
  VO0_16.read (Elt F) (VO0_16.writes (Elt F) VO0_16.junk (runC m c t h1 xs0 xs1).1)

theorem outLast_cover (c : Dev nD) (t : Fin cfg0.N) (h1 : t.val % 4 = 3) (xs0 : Vec F S1024x1024 .bf16) (xs1 : Vec F S1024x1024 .f32) (i : S1024x1024.Idx) : ∃ pc ∈ (runC m c t h1 xs0 xs1).1, i ∈ pc.1.set :=
  View.cover_of_tiledL (runC m c t h1 xs0 xs1).1 S256x1024.size (by sl_kernel_rfl) i

/-! ## What the carried buffers hold after each point -/

/-- The normalised block after point `n`: stored by the first point of its row block, kept by the others. -/
def hAt (c : Dev nD) : (n : ℕ) → n < cfg0.N → Vec F S1024x1024 .bf16
  | 0, hn => hFirst m c ⟨0, hn⟩ rfl
  | n + 1, hn => if h0 : (n + 1) % 4 = 0 then hFirst m c ⟨n + 1, hn⟩ h0 else hAt c n (Nat.lt_of_succ_lt hn)

/-- The running sum after point `n`. -/
def accAt (c : Dev nD) : (n : ℕ) → n < cfg0.N → Vec F S1024x1024 .f32
  | 0, hn => accFirst m c ⟨0, hn⟩ rfl
  | n + 1, hn =>
    if h0 : (n + 1) % 4 = 0 then accFirst m c ⟨n + 1, hn⟩ h0
    else if h1 : (n + 1) % 4 = 3 then
      accLast m c ⟨n + 1, hn⟩ h1 (hAt m c n (Nat.lt_of_succ_lt hn)) (accAt c n (Nat.lt_of_succ_lt hn))
    else accMiddle m c ⟨n + 1, hn⟩ h0 h1 (hAt m c n (Nat.lt_of_succ_lt hn)) (accAt c n (Nat.lt_of_succ_lt hn))

theorem pred_lt (t : Fin cfg0.N) : t.val - 1 < cfg0.N := Nat.lt_of_le_of_lt (Nat.sub_le _ _) t.isLt

theorem hAt_first (c : Dev nD) (t : Fin cfg0.N) (h0 : t.val % 4 = 0) : hAt m c t.val t.isLt = hFirst m c t h0 := by
  obtain ⟨n, hn⟩ := t
  cases n with
  | zero => rfl
  | succ n => exact dif_pos h0

theorem hAt_next (c : Dev nD) (t : Fin cfg0.N) (h0 : ¬t.val % 4 = 0) :
    hAt m c t.val t.isLt = hAt m c (t.val - 1) (pred_lt t) := by
  obtain ⟨n, hn⟩ := t
  cases n with
  | zero => exact absurd rfl h0
  | succ n => exact dif_neg h0

theorem accAt_first (c : Dev nD) (t : Fin cfg0.N) (h0 : t.val % 4 = 0) : accAt m c t.val t.isLt = accFirst m c t h0 := by
  obtain ⟨n, hn⟩ := t
  cases n with
  | zero => rfl
  | succ n => exact dif_pos h0

theorem accAt_middle (c : Dev nD) (t : Fin cfg0.N) (h0 : ¬t.val % 4 = 0) (h1 : ¬t.val % 4 = 3) :
    accAt m c t.val t.isLt = accMiddle m c t h0 h1 (hAt m c (t.val - 1) (pred_lt t)) (accAt m c (t.val - 1) (pred_lt t)) := by
  obtain ⟨n, hn⟩ := t
  cases n with
  | zero => exact absurd rfl h0
  | succ n => exact (dif_neg h0).trans (dif_neg h1)

theorem accAt_last (c : Dev nD) (t : Fin cfg0.N) (h1 : t.val % 4 = 3) :
    accAt m c t.val t.isLt = accLast m c t h1 (hAt m c (t.val - 1) (pred_lt t)) (accAt m c (t.val - 1) (pred_lt t)) := by
  obtain ⟨n, hn⟩ := t
  have h0 : ¬n % 4 = 0 := by dsimp only at h1; omega
  cases n with
  | zero => exact absurd rfl h0
  | succ n => exact (dif_neg h0).trans (dif_pos h1)

/-- What the result's buffer holds after a last point (at the other points it is not written back). -/
def outAt (c : Dev nD) (t : Fin cfg0.N) : Vec F S1024x1024 .f32 :=
  if h1 : t.val % 4 = 3 then outLast m c t h1 (hAt m c (t.val - 1) (pred_lt t)) (accAt m c (t.val - 1) (pred_lt t))
  else VO0_16.read (Elt F) VO0_16.junk

theorem outAt_last (c : Dev nD) (t : Fin cfg0.N) (h1 : t.val % 4 = 3) :
    outAt m c t = outLast m c t h1 (hAt m c (t.val - 1) (pred_lt t)) (accAt m c (t.val - 1) (pred_lt t)) := dif_pos h1

/-! ## The proof data -/

/-- Before point `n`: the carried buffers at what the point before left, at anything before the first. -/
def Phi (c : Dev nD) : (n : ℕ) → n ≤ cfg0.N → sProp 𝕄
  | 0, _ => Pipeline.ΦA spec0 c
  | n + 1, hn => iprop(iprop(owns (c : Thread nD τ) scM0_0 fullShare (hAt m c n hn) ∗ owns (c : Thread nD τ) scM0_1 fullShare (accAt m c n hn)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scM0_0 fullShare (hAt m c (n - 1) (by omega)) ∗ owns (c : Thread nD τ) scM0_1 fullShare (accAt m c (n - 1) (by omega))) ∗ (∃ r, prngReg c r)) := by
  cases n with
  | zero => exact absurd rfl hz
  | succ n => rfl

/-- The proof data: each input's buffer at its block after every point, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨_ + 17, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = outAt m c t := by dsimp only [dats]

theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem leaves_8 (c : Dev nD) (t : Fin cfg0.N) : (dats m 0 c).leavesExact 8 t = owns (c : Thread nD τ) (ms0_8 t) fullShare (iblk m c 8 t) := by
  unfold Dat.leavesExact; rw [liveAt0_8 t, after_8]
theorem leaves_9 (c : Dev nD) (t : Fin cfg0.N) : (dats m 0 c).leavesExact 9 t = owns (c : Thread nD τ) (ms0_9 t) fullShare (iblk m c 9 t) := by
  unfold Dat.leavesExact; rw [liveAt0_9 t, after_9]
theorem leaves_10 (c : Dev nD) (t : Fin cfg0.N) : (dats m 0 c).leavesExact 10 t = owns (c : Thread nD τ) (ms0_10 t) fullShare (iblk m c 10 t) := by
  unfold Dat.leavesExact; rw [liveAt0_10 t, after_10]
theorem leaves_11 (c : Dev nD) (t : Fin cfg0.N) : (dats m 0 c).leavesExact 11 t = owns (c : Thread nD τ) (ms0_11 t) fullShare (iblk m c 11 t) := by
  unfold Dat.leavesExact; rw [liveAt0_11 t, after_11]
theorem leaves_12 (c : Dev nD) (t : Fin cfg0.N) : (dats m 0 c).leavesExact 12 t = owns (c : Thread nD τ) (ms0_12 t) fullShare (iblk m c 12 t) := by
  unfold Dat.leavesExact; rw [liveAt0_12 t, after_12]
theorem leaves_13 (c : Dev nD) (t : Fin cfg0.N) : (dats m 0 c).leavesExact 13 t = owns (c : Thread nD τ) (ms0_13 t) fullShare (iblk m c 13 t) := by
  unfold Dat.leavesExact; rw [liveAt0_13 t, after_13]
theorem leaves_14 (c : Dev nD) (t : Fin cfg0.N) : (dats m 0 c).leavesExact 14 t = owns (c : Thread nD τ) (ms0_14 t) fullShare (iblk m c 14 t) := by
  unfold Dat.leavesExact; rw [liveAt0_14 t, after_14]
theorem leaves_15 (c : Dev nD) (t : Fin cfg0.N) : (dats m 0 c).leavesExact 15 t = owns (c : Thread nD τ) (ms0_15 t) fullShare (iblk m c 15 t) := by
  unfold Dat.leavesExact; rw [liveAt0_15 t, after_15]

/-! ## The body at every point -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 1600000 in
theorem body_A0 (c : Dev nD) (t : Fin cfg0.N) (h0 : t.val % 4 = 0) (hz : t.val = 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  have h1 : ¬t.val % 4 = 3 := by omega
  rw [hAt_first m c t h0, accAt_first m c t h0]
  rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
  rw [Phi_castSucc m c t, Phi_zero m c _ _ hz, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (hFirst_cover m c t h0)
      unfold owns; iexists _; isplitr
      swap; · iexact HS1
      ipureintro; exact View.read_writes_of_cover _ _ _ _ _ (accFirst_cover m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 1600000 in
theorem body_A (c : Dev nD) (t : Fin cfg0.N) (h0 : t.val % 4 = 0) (hz : t.val ≠ 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  have h1 : ¬t.val % 4 = 3 := by omega
  rw [hAt_first m c t h0, accAt_first m c t h0]
  rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
  rw [Phi_castSucc m c t, Phi_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexists _; iexact HS0
  isplitl [HS1]; · iexists _; iexact HS1
  iintro ⟨H0, H1, H2, H3, H4, H5, H6, H7, H8, H9, H10, H11, H12, H13, H14, H15, H16, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (hFirst_cover m c t h0)
      unfold owns; iexists _; isplitr
      swap; · iexact HS1
      ipureintro; exact View.read_writes_of_cover _ _ _ _ _ (accFirst_cover m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 1600000 in
theorem body_B (c : Dev nD) (t : Fin cfg0.N) (h0 : ¬t.val % 4 = 0) (h1 : ¬t.val % 4 = 3) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  rw [hAt_next m c t h0, accAt_middle m c t h0 h1]
  rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
  rw [Phi_castSucc m c t, Phi_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runB m c t h0 h1 (hAt m c (t.val - 1) (pred_lt t)) (accAt m c (t.val - 1) (pred_lt t))).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (accMiddle_cover m c t h0 h1 _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 1600000 in
theorem body_C (c : Dev nD) (t : Fin cfg0.N) (h1 : t.val % 4 = 3) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  have h0 : ¬t.val % 4 = 0 := by omega
  rw [hAt_next m c t h0, accAt_last m c t h1]
  rw [show (dats m 0 c).leavesExact 16 t = owns (c : Thread nD τ) (ms0_16 t) fullShare (outAt m c t) from by
    unfold Dat.leavesExact; rw [liveAt0_16_C t (fun h => h0 ((hcond0_0 t).mp h)) ((hcond0_1 t).mpr h1), after_16], outAt_last m c t h1]
  rw [Phi_castSucc m c t, Phi_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runC m c t h1 (hAt m c (t.val - 1) (pred_lt t)) (accAt m c (t.val - 1) (pred_lt t))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  iintro ⟨H0, H1, H2, H3, H4, H5, H6, H7, H8, H9, H10, H11, H12, H13, H14, H15, ⟨%e16, H16⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (accLast_cover m c t h1 _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr
  swap; · iexact H16
  ipureintro; exact View.read_writes_of_cover _ _ _ _ _ (outLast_cover m c t h1 _ _)

/-- The body at any point. -/
theorem body (c : Dev nD) (t : Fin cfg0.N) :
    pre m c t ⊢ wp frame (wpE (defs₀ (F := F)) Variants.none c none) Set.univ (bodyAt0 t) (fun _ => post m c t) := by
  by_cases h0 : t.val % 4 = 0
  · by_cases hz : t.val = 0
    · exact body_A0 m c t h0 hz
    · exact body_A m c t h0 hz
  · by_cases h1 : t.val % 4 = 3
    · exact body_C m c t h1
    · exact body_B m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem enter (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem leave (c : Dev nD) : (dats m 0 c).Φ (Fin.last cfg0.N) ⊢ Pipeline.ΦA spec0 c := by
  have hN : cfg0.N = 128 := N_0
  rw [show (dats m 0 c).Φ (Fin.last cfg0.N) = Phi m c cfg0.N (Nat.le_refl _) from rfl, Phi_pos m c _ _ (by omega), PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- The whole program runs to its end with every array at what the proof data says and no semaphore left raised. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and no semaphore is left raised. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel2Ideal.MlpRun

end
-- ==== Proof.MlpValue.lean ====
/- The value of the mlp call over the extended reals: the result array is the reference's term.

   `hidden`, `active` and `closing` are the stages of the reference's own term, `REF` the whole of it. A row block's
   four points each add the product over a quarter of the activation columns; the last one adds the input back. -/
module

public import proofs.«01_k».proof.Proof.MlpRun
public import proofs.«01_k».proof.Proof.Gen.Reference2Ideal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Mlp

open Cert.Kernel2Ideal Cert.Kernel2Ideal.Gen Cert.Kernel2Ideal.MlpRun

variable (m : (ℓ : Loc nD τ sig) → Buf (Elt Ideal) ℓ)

open Cert.Reference2Ideal (S8x4096x1024 S8x4096x4096 S16x6x1x1024 S8x6x1x1024 S8x1x1x1024 S8x1x6x1024 S8x1x1024 S8x4096x1 S8x4096 S1x1x1024 S_ S1024x4096 S4096x1024 S32768x1024 dot_S8x4096x4096_S4096x1024_S8x4096x1024_2_0_01_1_n_n dot_S8x4096x1024_S1024x4096_S8x4096x4096_2_0_01_1_n_n)
open Cert.Reference2Ideal.Gen (bcast_S8x4096x1_S8x4096x1024_0_1_2 bcast_S8x4096_S8x4096x1_0_1 reducesTo_S8x4096x1024_S8x4096_d2 h_S_ bcast_S_S8x4096x1 bcast_S1x1x1024_S8x4096x1024_0_1_2 bcast_S1024_S1x1x1024_2 bcast_S8x1x1024_S8x4096x1024_0_1_2 bcast_S_S8x1x1024 slices_S16x6x1x1024_S8x6x1x1024_0_0_0_0 shapeCasts_S8x6x1x1024_S8x1x6x1024 slices_S8x1x6x1024_S8x1x1x1024_0_0_4_0 slices_S8x1x6x1024_S8x1x1x1024_0_0_3_0 slices_S8x1x6x1024_S8x1x1x1024_0_0_5_0 shapeCasts_S8x1x1x1024_S8x1x1024 bcast_S_S8x4096x4096)

/-- The modulation rows of the eight batches, one of six after another. -/
def rows (M : FVec Ideal S16x6x1x1024 .f32) : FVec Ideal S8x1x6x1024 .f32 :=
  shapeCast _ (extractStridedSlice S8x6x1x1024 ![0, 0, 0, 0] M slices_S16x6x1x1024_S8x6x1x1024_0_0_0_0) shapeCasts_S8x6x1x1024_S8x1x6x1024

/-- The reference's normalised and modulated input of the two products. -/
def hidden (X : FVec Ideal S8x4096x1024 .f32) (g : FVec Ideal S1024 .f32) (M : FVec Ideal S16x6x1x1024 .f32) : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 0, 4, 0] (rows M) slices_S8x1x6x1024_S8x1x1x1024_0_0_4_0) shapeCasts_S8x1x1x1024_S8x1x1024)))) (broadcastInDim S8x4096x1024 ![0, 1, 2] bcast_S8x1x1024_S8x4096x1024_0_1_2 (shapeCast _ (extractStridedSlice S8x1x1x1024 ![0, 0, 3, 0] (rows M) slices_S8x1x6x1024_S8x1x1x1024_0_0_3_0) shapeCasts_S8x1x1x1024_S8x1x1024))

/-- The reference's squared activations. -/
def active (H : FVec Ideal S8x4096x1024 .f32) (w : FVec Ideal S1024x4096 .f32) : FVec Ideal S8x4096x4096 .f32 :=
  mulf (maximumf (Host.dotGeneral dot_S8x4096x1024_S1024x4096_S8x4096x4096_2_0_01_1_n_n none H w) (broadcastInDim S8x4096x4096 ![] bcast_S_S8x4096x4096 (constant S_ .f32 0x00000000#32)))
    (maximumf (Host.dotGeneral dot_S8x4096x1024_S1024x4096_S8x4096x4096_2_0_01_1_n_n none H w) (broadcastInDim S8x4096x4096 ![] bcast_S_S8x4096x4096 (constant S_ .f32 0x00000000#32)))

/-- The reference's result, over its activations, before the last reshape. -/
def closing (X : FVec Ideal S8x4096x1024 .f32) (M : FVec Ideal S16x6x1x1024 .f32) (A : FVec Ideal S8x4096x4096 .f32) (w : FVec Ideal S4096x1024 .f32) : FVec Ideal S8x4096x1024 .f32 :=
  addf X (mulf (broadcastInDim S8x4096x1024 ![0, 1, 2] bcast_S8x1x1024_S8x4096x1024_0_1_2 (shapeCast _ (extractStridedSlice S8x1x1x1024 ![0, 0, 5, 0] (rows M) slices_S8x1x6x1024_S8x1x1x1024_0_0_5_0) shapeCasts_S8x1x1x1024_S8x1x1024)) (Host.dotGeneral dot_S8x4096x4096_S4096x1024_S8x4096x1024_2_0_01_1_n_n none A w))

/-- The reference's result. -/
def REF (X : FVec Ideal S8x4096x1024 .f32) (g : FVec Ideal S1024 .f32) (M : FVec Ideal S16x6x1x1024 .f32) (w1 : FVec Ideal S1024x4096 .f32) (w2 : FVec Ideal S4096x1024 .f32) : FVec Ideal S32768x1024 .f32 :=
  shapeCast _ (closing X M (active (hidden X g M) w1) w2) Cert.Reference2Ideal.Gen.shapeCasts_S8x4096x1024_S32768x1024

theorem ref_eq (m : (ℓ : Loc Cert.Reference2Ideal.nD Cert.Reference2Ideal.τ Cert.Reference2Ideal.sig) → Buf (Elt Ideal) ℓ) (c : Dev Cert.Reference2Ideal.nD) :
    Cert.Reference2Ideal.Value.res_main_v35 m c = REF (m ((c.tc : Thread _ _).loc Cert.Reference2Ideal.main_arg0)) (m ((c.tc : Thread _ _).loc Cert.Reference2Ideal.main_arg1)) (m ((c.tc : Thread _ _).loc Cert.Reference2Ideal.main_arg2)) (m ((c.tc : Thread _ _).loc Cert.Reference2Ideal.main_arg3)) (m ((c.tc : Thread _ _).loc Cert.Reference2Ideal.main_arg4)) := rfl

/-- Times 1/1024 is divided by 1024. -/
theorem mean_eq (a : EReal) : Ideal.div a (Ideal.ofBits FTy.f32 1149239296#32) = a * Ideal.ofBits FTy.f32 981467136#32 := by
  have e1 : Ideal.ofBits FTy.f32 1149239296#32 = ((1024 : ℝ) : EReal) := by
    simp [Ideal.ofBits, Ideal.ieee, -EReal.coe_mul]; norm_num
  have e2 : Ideal.ofBits FTy.f32 981467136#32 = ((1 / 1024 : ℝ) : EReal) := by
    simp [Ideal.ofBits, Ideal.ieee, -EReal.coe_mul]; norm_num
  rw [e1, e2, Ideal.div_coe (by norm_num)]

theorem rows_at (M : FVec Ideal S16x6x1x1024 .f32) (b : Fin 8) (j : Fin 6) (k : Fin 1024) :
    rows M (ix4 b 0 j k) = M (ix4 ⟨b.val, by omega⟩ j 0 k) := by
  pointwise [rows]

theorem hidden_at (X : FVec Ideal S8x4096x1024 .f32) (g : FVec Ideal S1024 .f32) (M : FVec Ideal S16x6x1x1024 .f32) (b : Fin 8) (n : Fin 4096) (k : Fin 1024) :
    hidden X g M (ix3 b n k) = X (ix3 b n k) *
            Ideal.rsqrt ((∑ x, X (ix3 b n x) * X (ix3 b n x)) * Ideal.ofBits FTy.f32 981467136#32 + Ideal.ofBits FTy.f32 897988541#32) *
          g (ix1 k) * (1 + M (ix4 ⟨b.val, by omega⟩ 4 0 k)) + M (ix4 ⟨b.val, by omega⟩ 3 0 k) := by
  rw [← mean_eq, ← rows_at M b 4 k, ← rows_at M b 3 k]
  pointwise [hidden]

theorem active_at (H : FVec Ideal S8x4096x1024 .f32) (w : FVec Ideal S1024x4096 .f32) (b : Fin 8) (n : Fin 4096) (k : Fin 4096) :
    active H w (ix3 b n k) = max (∑ x, H (ix3 b n x) * w (ix2 x k)) 0 * max (∑ x, H (ix3 b n x) * w (ix2 x k)) 0 := by
  pointwise [active]

theorem closing_at (X : FVec Ideal S8x4096x1024 .f32) (M : FVec Ideal S16x6x1x1024 .f32) (A : FVec Ideal S8x4096x4096 .f32) (w : FVec Ideal S4096x1024 .f32) (b : Fin 8) (n : Fin 4096) (k : Fin 1024) :
    closing X M A w (ix3 b n k) = X (ix3 b n k) + M (ix4 ⟨b.val, by omega⟩ 5 0 k) * ∑ x, A (ix3 b n x) * w (ix2 x k) := by
  rw [← rows_at M b 5 k]
  pointwise [closing]

/-- Every window's block index at every grid point. -/
theorem idx : ∀ t : Fin cfg0.N, win0_0.index t = ![t.val / 4, 0]
    ∧ win0_1.index t = ![0, 0]
    ∧ win0_14.index t = ![0, t.val % 4]
    ∧ win0_15.index t = ![t.val % 4, 0]
    ∧ win0_16.index t = ![t.val / 4, 0] :=
  (by decide +kernel : ∀ t : Fin grid0.N, _)

theorem idxm : ∀ t : Fin cfg0.N, win0_2.index t = ![t.val / 16, 3, 0, 0]
    ∧ win0_3.index t = ![t.val / 16, 4, 0, 0]
    ∧ win0_4.index t = ![t.val / 16, 5, 0, 0]
    ∧ win0_5.index t = ![t.val / 16, 3, 0, 0]
    ∧ win0_6.index t = ![t.val / 16, 4, 0, 0]
    ∧ win0_7.index t = ![t.val / 16, 5, 0, 0]
    ∧ win0_8.index t = ![t.val / 16, 3, 0, 0]
    ∧ win0_9.index t = ![t.val / 16, 4, 0, 0]
    ∧ win0_10.index t = ![t.val / 16, 5, 0, 0]
    ∧ win0_11.index t = ![t.val / 16, 3, 0, 0]
    ∧ win0_12.index t = ![t.val / 16, 4, 0, 0]
    ∧ win0_13.index t = ![t.val / 16, 5, 0, 0] :=
  (by decide +kernel : ∀ t : Fin grid0.N, _)

/-- A first point stores the hidden rows of its row block. -/
theorem hFirst_at (c : Dev nD) (t : Fin cfg0.N) (h0 : t.val % 4 = 0) (y : S1024x1024.Idx) (b : Fin 8) (n : Fin 4096) (k : Fin 1024)
    (hb : b.val = t.val / 16) (hn : n.val = t.val / 4 % 4 * 1024 + (y 0).val) (hk : k.val = (y 1).val) :
    hFirst m c t h0 y = hidden (m ((c : Thread nD τ).loc main_arg0)) (m ((c : Thread nD τ).loc main_arg1)) (m ((c : Thread nD τ).loc main_arg2)) (ix3 b n k) := by
  have hN : t.val < 128 := lt_of_lt_of_eq t.isLt (show cfg0.N = 128 from N_0)
  unfold hFirst runA; frame_out
  rw [hidden_at]
  canon_tiles x h
  · pointwise [k0_pay1, k0_pay15, k0_pay16, k0_pay17, k0_pay18]
    blk_point [iblk, V, idx t, idxm t]
  · pointwise [k0_pay14, k0_pay9, k0_pay10, k0_pay11, k0_pay12, k0_pay13]
    blk_point [iblk, V, idx t, idxm t]
  · pointwise [k0_pay8, k0_pay6, k0_pay7]
    blk_point [iblk, V, idx t, idxm t]
  · pointwise [k0_pay5]
    blk_point [iblk, V, idx t, idxm t]

/-- The hidden rows. -/
abbrev HR (c : Dev nD) : FVec Ideal S8x4096x1024 .f32 := hidden (m ((c : Thread nD τ).loc main_arg0)) (m ((c : Thread nD τ).loc main_arg1)) (m ((c : Thread nD τ).loc main_arg2))

/-- The activations. -/
abbrev AR (c : Dev nD) : FVec Ideal S8x4096x4096 .f32 := active (HR m c) (m ((c : Thread nD τ).loc main_arg3))

/-- A scratch block that holds the hidden rows of point `t`. -/
def Holds (c : Dev nD) (t : ℕ) (h : Vec Ideal S1024x1024 .bf16) : Prop :=
  ∀ (y : S1024x1024.Idx) (b : Fin 8) (n : Fin 4096) (k : Fin 1024), b.val = t / 16 → n.val = t / 4 % 4 * 1024 + (y 0).val → k.val = (y 1).val → h y = HR m c (ix3 b n k)

/-- What point `t` adds to the entry of row `n` and column `k`. -/
def part (c : Dev nD) (j : Fin 4) (b : Fin 8) (n : Fin 4096) (k : Fin 1024) : EReal :=
  ∑ x : Fin 1024, AR m c (ix3 b n ⟨j.val * 1024 + x.val, by omega⟩) * m ((c : Thread nD τ).loc main_arg4) (ix2 (⟨j.val * 1024 + x.val, by omega⟩ : Fin 4096) k)

theorem step (c : Dev nD) (t : Fin cfg0.N) (h : Vec Ideal S1024x1024 .bf16) (a : Vec Ideal S1024x1024 .f32) (hh : Holds m c t.val h)
    (y : S1024x1024.Idx) (b : Fin 8) (n : Fin 4096) (k : Fin 1024) (j : Fin 4) (hb : b.val = t.val / 16) (hn : n.val = t.val / 4 % 4 * 1024 + (y 0).val) (hk : k.val = (y 1).val)
    (hj : j.val = t.val % 4) :
    k0_pay3 h (iblk m c 14 t) a (iblk m c 15 t) y = a y + part m c j b n k := by
  have hN : t.val < 128 := lt_of_lt_of_eq t.isLt (show cfg0.N = 128 from N_0)
  have inner : ∀ x : Fin 1024, (∑ x_1, h (ix2 (y 0) x_1) * iblk m c 14 t (ix2 x_1 x))
      = ∑ x_1, HR m c (ix3 b n x_1) * m ((c : Thread nD τ).loc main_arg3) (ix2 x_1 (⟨j.val * 1024 + x.val, by omega⟩ : Fin 4096)) := fun x =>
    Finset.sum_congr rfl fun x_1 _ => by
      rw [hh (ix2 (y 0) x_1) b n x_1 hb hn rfl]
      blk_point [iblk, V, idx t]
  have outer : ∀ x : Fin 1024, iblk m c 15 t (ix2 x (y 1)) = m ((c : Thread nD τ).loc main_arg4) (ix2 (⟨j.val * 1024 + x.val, by omega⟩ : Fin 4096) k) := fun x => by
    blk_point [iblk, V, idx t]
  pointwise [k0_pay3]
  refine congrArg₂ (· + ·) rfl (Finset.sum_congr rfl fun x _ => ?_)
  refine (congrArg₂ (· * ·) (congrArg (fun z : EReal => max z 0 * max z 0) (inner x)) (outer x)).trans ?_
  exact congrArg (fun z : EReal => z * m ((c : Thread nD τ).loc main_arg4) (ix2 (⟨j.val * 1024 + x.val, by omega⟩ : Fin 4096) k)) (active_at (HR m c) _ b n _).symm

theorem first_at (c : Dev nD) (t : Fin cfg0.N) (h0 : t.val % 4 = 0) : accFirst m c t h0 = k0_pay3 (hFirst m c t h0) (iblk m c 14 t) (k0_pay2 (F := Ideal)) (iblk m c 15 t) := by
  funext y
  unfold accFirst hFirst runA; frame_out
  rw [View.readCov_eq_canon_ld]
  · rw [View.ld_unit_zero (by funext a; fin_cases a <;> rfl)]
  · exact View.cover_of_tiledL (s := S1024x1024) _ S256x1024.size (by sl_kernel_rfl)

theorem middle_at (c : Dev nD) (t : Fin cfg0.N) (h0 : ¬t.val % 4 = 0) (h1 : ¬t.val % 4 = 3) (h a) : accMiddle m c t h0 h1 h a = k0_pay3 h (iblk m c 14 t) a (iblk m c 15 t) := by
  funext y
  unfold accMiddle runB; frame_out
  simp only [(Memref.isWhole_whole _).read_unread]

theorem last_at (c : Dev nD) (t : Fin cfg0.N) (h1 : t.val % 4 = 3) (h a) : accLast m c t h1 h a = k0_pay3 h (iblk m c 14 t) a (iblk m c 15 t) := by
  funext y
  unfold accLast runC; frame_out
  simp only [(Memref.isWhole_whole _).read_unread]

theorem out_at (c : Dev nD) (t : Fin cfg0.N) (h1 : t.val % 4 = 3) (h a) (y : S1024x1024.Idx) (b : Fin 8) (n : Fin 4096) (k : Fin 1024)
    (hb : b.val = t.val / 16) (hn : n.val = t.val / 4 % 4 * 1024 + (y 0).val) (hk : k.val = (y 1).val) :
    outLast m c t h1 h a y = HAdd.hAdd (α := EReal) (m ((c : Thread nD τ).loc main_arg0) (ix3 b n k)) (HMul.hMul (α := EReal) (m ((c : Thread nD τ).loc main_arg2) (ix4 (⟨b.val, by omega⟩ : Fin 16) 5 0 k)) (accLast m c t h1 h a y)) := by
  have hN : t.val < 128 := lt_of_lt_of_eq t.isLt (show cfg0.N = 128 from N_0)
  rw [last_at]
  unfold outLast runC; frame_out
  simp only [(Memref.isWhole_whole _).read_unread]
  generalize k0_pay3 h (iblk m c 14 t) a (iblk m c 15 t) = G
  have e : View.canon (Val := Elt Ideal) (s := S1024x1024) (e := .f32) [⟨Rect.unit (s := S1024x1024) ![0, 0] ![1024, 1024] inb_S1024x1024_S1024x1024_0_0, G⟩] = G :=
    View.canon_cons_unit_lit (Val := Elt Ideal) (S := S1024x1024) (e := .f32) (off := ![0, 0]) inb_S1024x1024_S1024x1024_0_0 G [] (fun a => by fin_cases a <;> rfl)
  canon_tiles x h
  · rw [View.readCov_eq_canon_ld]
    · rw [e]
      pointwise [k0_pay4]
      blk_point [iblk, V, idx t, idxm t]
    · exact View.cover_of_tiledL (s := S1024x1024) _ S1024x1024.size (by sl_kernel_rfl)
  · rw [View.readCov_eq_canon_ld]
    · rw [e]
      pointwise [k0_pay21]
      blk_point [iblk, V, idx t, idxm t]
    · exact View.cover_of_tiledL (s := S1024x1024) _ S1024x1024.size (by sl_kernel_rfl)
  · rw [View.readCov_eq_canon_ld]
    · rw [e]
      pointwise [k0_pay20]
      blk_point [iblk, V, idx t, idxm t]
    · exact View.cover_of_tiledL (s := S1024x1024) _ S1024x1024.size (by sl_kernel_rfl)
  · rw [View.readCov_eq_canon_ld]
    · rw [e]
      pointwise [k0_pay19]
      blk_point [iblk, V, idx t, idxm t]
    · exact View.cover_of_tiledL (s := S1024x1024) _ S1024x1024.size (by sl_kernel_rfl)

/-- Before the last point of a run the accumulator holds three parts. -/
theorem holds (c : Dev nD) (t : Fin cfg0.N) : Holds m c t.val (hAt m c t.val t.isLt) := by
  have key : ∀ (j : ℕ), j < 4 → ∀ t : Fin cfg0.N, t.val % 4 = j → Holds m c t.val (hAt m c t.val t.isLt) := by
    intro j
    induction j with
    | zero =>
      intro _ t ht y b n k hb hn hk
      rw [hAt_first m c t ht]
      exact hFirst_at m c t ht y b n k hb hn hk
    | succ j ih =>
      intro hj t ht y b n k hb hn hk
      rw [hAt_next m c t (by omega)]
      exact ih (by omega) ⟨t.val - 1, pred_lt t⟩ (by show (t.val - 1) % 4 = j; omega) y b n k (by show b.val = (t.val - 1) / 16; omega)
        (by show n.val = (t.val - 1) / 4 % 4 * 1024 + (y 0).val; omega) hk
  exact key (t.val % 4) (by omega) t rfl

theorem Holds.next {c : Dev nD} {t t' : ℕ} {h} (H : Holds m c t h) (e : t' / 4 = t / 4) : Holds m c t' h :=
  fun y b n k hb hn hk => H y b n k (by omega) (by omega) hk

theorem acc0 (c : Dev nD) (t : Fin cfg0.N) (h0 : t.val % 4 = 0) (y : S1024x1024.Idx) (b : Fin 8) (n : Fin 4096) (k : Fin 1024)
    (hb : b.val = t.val / 16) (hn : n.val = t.val / 4 % 4 * 1024 + (y 0).val) (hk : k.val = (y 1).val) :
    accAt m c t.val t.isLt y = part m c 0 b n k := by
  have hH := holds m c t
  rw [hAt_first m c t h0] at hH
  rw [accAt_first m c t h0, first_at, step m c t _ _ hH y b n k 0 hb hn hk (by omega)]
  have : (k0_pay2 (F := Ideal)) y = 0 := by pointwise [k0_pay2]
  rw [this, zero_add]

theorem accN (c : Dev nD) (t : Fin cfg0.N) (j : Fin 4) (hj : j.val = t.val % 4) (h0 : ¬t.val % 4 = 0) (y : S1024x1024.Idx) (b : Fin 8) (n : Fin 4096) (k : Fin 1024)
    (hb : b.val = t.val / 16) (hn : n.val = t.val / 4 % 4 * 1024 + (y 0).val) (hk : k.val = (y 1).val) :
    accAt m c t.val t.isLt y = accAt m c (t.val - 1) (pred_lt t) y + part m c j b n k := by
  have hH : Holds m c t.val (hAt m c (t.val - 1) (pred_lt t)) := (holds m c ⟨t.val - 1, pred_lt t⟩).next m (by show t.val / 4 = (t.val - 1) / 4; omega)
  by_cases h1 : t.val % 4 = 3
  · rw [accAt_last m c t h1, last_at]
    exact step m c t _ _ hH y b n k j hb hn hk hj
  · rw [accAt_middle m c t h0 h1, middle_at]
    exact step m c t _ _ hH y b n k j hb hn hk hj

theorem acc3 (c : Dev nD) (t : Fin cfg0.N) (h1 : t.val % 4 = 3) (y : S1024x1024.Idx) (b : Fin 8) (n : Fin 4096) (k : Fin 1024)
    (hb : b.val = t.val / 16) (hn : n.val = t.val / 4 % 4 * 1024 + (y 0).val) (hk : k.val = (y 1).val) :
    accAt m c t.val t.isLt y = ∑ x : Fin 4096, AR m c (ix3 b n x) * m ((c : Thread nD τ).loc main_arg4) (ix2 x k) := by
  have p := pred_lt t
  have p2 : t.val - 2 < cfg0.N := by omega
  have p3 : t.val - 3 < cfg0.N := by omega
  rw [accN m c t 3 h1.symm (by omega) y b n k hb hn hk]
  have e2 := accN m c ⟨t.val - 1, p⟩ 2 (by show 2 = (t.val - 1) % 4; omega) (by show ¬ (t.val - 1) % 4 = 0; omega) y b n k
    (by show b.val = (t.val - 1) / 16; omega) (by show n.val = (t.val - 1) / 4 % 4 * 1024 + _; omega) hk
  have e1 := accN m c ⟨t.val - 2, p2⟩ 1 (by show 1 = (t.val - 2) % 4; omega) (by show ¬ (t.val - 2) % 4 = 0; omega) y b n k
    (by show b.val = (t.val - 2) / 16; omega) (by show n.val = (t.val - 2) / 4 % 4 * 1024 + _; omega) hk
  have e0 := acc0 m c ⟨t.val - 3, p3⟩ (by show (t.val - 3) % 4 = 0; omega) y b n k
    (by show b.val = (t.val - 3) / 16; omega) (by show n.val = (t.val - 3) / 4 % 4 * 1024 + _; omega) hk
  have e : accAt m c (t.val - 1) p y = part m c 0 b n k + part m c 1 b n k + part m c 2 b n k :=
    e2.trans (congrArg (· + part m c 2 b n k) (e1.trans (congrArg (· + part m c 1 b n k) e0)))
  rw [e]
  refine Eq.symm ((Fin.sum_univ_tiles 4 1024 rfl _).trans ?_)
  rw [Fin.sum_univ_four]
  rfl

theorem ref_at (X : FVec Ideal S8x4096x1024 .f32) (g : FVec Ideal S1024 .f32) (M : FVec Ideal S16x6x1x1024 .f32) (w1 : FVec Ideal S1024x4096 .f32) (w2 : FVec Ideal S4096x1024 .f32)
    (i : S32768x1024.Idx) (b : Fin 8) (n : Fin 4096) (k : Fin 1024) (hi : (i 0).val = b.val * 4096 + n.val) (hk : (i 1).val = k.val) :
    REF X g M w1 w2 i = closing X M (active (hidden X g M) w1) w2 (ix3 b n k) := by
  pointwise [REF]
  blk_ext

theorem point (c : Dev nD) (t : Fin cfg0.N) (h1 : t.val % 4 = 3) (y : S1024x1024.Idx) (i : S32768x1024.Idx) (hi : (i 0).val = t.val / 4 * 1024 + (y 0).val) (hk : (i 1).val = (y 1).val) :
    outAt m c t y
      = REF (m ((c : Thread nD τ).loc main_arg0)) (m ((c : Thread nD τ).loc main_arg1)) (m ((c : Thread nD τ).loc main_arg2)) (m ((c : Thread nD τ).loc main_arg3)) (m ((c : Thread nD τ).loc main_arg4)) i := by
  have hN : t.val < 128 := lt_of_lt_of_eq t.isLt (show cfg0.N = 128 from N_0)
  have y0 : (y 0).val < 1024 := (y 0).isLt
  have y1 : (y 1).val < 1024 := (y 1).isLt
  have a := acc3 m c t h1 y ⟨t.val / 16, by omega⟩ ⟨t.val / 4 % 4 * 1024 + (y 0).val, by omega⟩ ⟨(y 1).val, y1⟩ rfl rfl rfl
  have o := out_at m c t h1 (hAt m c (t.val - 1) (pred_lt t)) (accAt m c (t.val - 1) (pred_lt t)) y ⟨t.val / 16, by omega⟩ ⟨t.val / 4 % 4 * 1024 + (y 0).val, by omega⟩ ⟨(y 1).val, y1⟩ rfl rfl rfl
  rw [← accAt_last, a] at o
  rw [outAt_last m c t h1, o, ref_at _ _ _ _ _ i ⟨t.val / 16, by omega⟩ ⟨t.val / 4 % 4 * 1024 + (y 0).val, by omega⟩ ⟨(y 1).val, y1⟩ (by rw [hi]; show _ = t.val / 16 * 4096 + (t.val / 4 % 4 * 1024 + (y 0).val); omega) hk,
    closing_at]

theorem final (c : Dev nD) : (dats m 0 c).arrAt 16 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  have h1 : t.val % 4 = 3 := (by decide +kernel : ∀ t : Fin cfg0.N, (cfg0.win 16).flush t = true → t.val % 4 = 3) t hf
  blk_simp
  rw [after_16]
  refine point m c t h1 _ _ ?_ ?_ <;> (blk_simp [idx t] <;> try omega)

end Cert.Kernel2Ideal.Mlp

end
-- ==== Proof.MlpClaims.lean ====
/- The claims about the mlp call: both programs' frames, the reference's, and the value. -/
module

public import proofs.«01_k».proof.Defs
public import proofs.«01_k».proof.Proof.MlpValue
public import proofs.«01_k».proof.Proof.Gen.Kernel2
public import Idealize.ShloMosaic.Lib.Quiescent

@[expose] public section

set_option maxRecDepth 16384

noncomputable section

namespace Cert.Proof

open Idealize.ShloMosaic Idealize.SL.Sem

section
variable {F : FTy → Type} [FloatOps F]

set_option maxHeartbeats 4000000 in
/-- The two kernels have one text: their body tables agree at any reading of the values, -/
theorem mlp_bodies : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | 0, (t, s) => rfl
  | ⟨_ + 1, h⟩, _ => exact absurd h (Nat.not_lt.2 (Nat.le_add_left _ _))

theorem mlp_tables : @Cert.Kernel2.defs F _ _ = @Cert.Kernel2Ideal.defs F _ _ := congrArg (Pipeline.defs Cert.Kernel2Ideal.pcfgs) mlp_bodies

end

/-- so the run at any reading serves both frames. -/
theorem mlp_frame : Cert.quiescent_Kernel2 := fun m ρ _ => by
  have h := Cert.Kernel2Ideal.MlpRun.kept (F := Bits) m ρ
  rw [← mlp_tables] at h
  exact h

theorem mlp_frame_ideal : Cert.quiescent_Kernel2Ideal := fun m ρ _ => Cert.Kernel2Ideal.MlpRun.kept (F := Ideal) m ρ

theorem mlp_frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem mlp_value : Cert.algebraic_Kernel2Ideal_Reference2Ideal := by
  pair_intro
  · run_from Cert.Kernel2Ideal.MlpRun.run_main m g
    exact hc.1 16
  · hlo_run
    exact (Cert.Kernel2Ideal.Mlp.final m c).symm

end Cert.Proof

end
-- ==== Proof.InProj.lean ====
/- The value of the in_proj call over the extended reals: its five result arrays are the reference's terms.

   `hiddenC` and `hiddenL` are the reference's normalised and modulated rows, `Z` all its projections in one array,
   `REF10` to `REF14` its five results. A grid point holds 256 rows of one batch: the context's at the first of a
   batch's seventeen points, the latents' at the others (`hb_at`). Its products with the five weight slices
   are the reference's columns, `Z_of`; the padded columns of the third slice are zero on both sides. -/
module

public import proofs.«01_k».proof.Proof.Gen.Kernel3Ideal.Frame
public import proofs.«01_k».proof.Proof.Gen.Reference3Ideal
public import Idealize.ShloMosaic.Lib.Pipeline.ValueKit
public import Idealize.ShloMosaic.Lib.Claim
public import Idealize.ShloMosaic.Lib.Pointwise

set_option maxRecDepth 16384

@[expose] public noncomputable section

open Idealize.ShloMosaic Idealize.ShloMosaic.TcCoe Idealize.SL.Sem
open Idealize.ShloMosaic.Pipeline (Dat)
open scoped BigOperators

namespace Cert.Kernel3Ideal.InProj

open Cert.Kernel3Ideal Cert.Kernel3Ideal.Gen

variable (m : (ℓ : Loc nD τ sig) → Buf (Elt Ideal) ℓ)

/-- The modulation rows of the eight batches. -/
def rowsL (M : FVec Ideal Cert.Reference3Ideal.S16x6x1x1024 .f32) : FVec Ideal Cert.Reference3Ideal.S8x1x6x1024 .f32 :=
  shapeCast _ (extractStridedSlice Cert.Reference3Ideal.S8x6x1x1024 ![0, 0, 0, 0] M Cert.Reference3Ideal.Gen.slices_S16x6x1x1024_S8x6x1x1024_0_0_0_0) Cert.Reference3Ideal.Gen.shapeCasts_S8x6x1x1024_S8x1x6x1024

/-- The modulation rows of the context. -/
def rowsC (M : FVec Ideal Cert.Reference3Ideal.S16x6x1x1024 .f32) : FVec Ideal Cert.Reference3Ideal.S6x1024 .f32 :=
  shapeCast _ (shapeCast _ (extractStridedSlice Cert.Reference3Ideal.S1x6x1x1024 ![8, 0, 0, 0] M Cert.Reference3Ideal.Gen.slices_S16x6x1x1024_S1x6x1x1024_8_0_0_0) Cert.Reference3Ideal.Gen.shapeCasts_S1x6x1x1024_S6x1x1024) Cert.Reference3Ideal.Gen.shapeCasts_S6x1x1024_S6x1024

/-- The latents, normalised and modulated. -/
def hiddenL (X : FVec Ideal Cert.Reference3Ideal.S8x4096x1024 .f32) (g : FVec Ideal Cert.Reference3Ideal.S1024 .f32) (M : FVec Ideal Cert.Reference3Ideal.S16x6x1x1024 .f32) : FVec Ideal Cert.Reference3Ideal.S8x4096x1024 .f32 :=
  addf (mulf (mulf (mulf X (broadcastInDim Cert.Reference3Ideal.S8x4096x1024 ![0, 1, 2] Cert.Reference3Ideal.Gen.bcast_S8x4096x1_S8x4096x1024_0_1_2 (Host.rsqrt (addf (Host.divf (broadcastInDim Cert.Reference3Ideal.S8x4096x1 ![0, 1] Cert.Reference3Ideal.Gen.bcast_S8x4096_S8x4096x1_0_1 (Host.reduceAdd (mulf X X) (constant Cert.Reference3Ideal.S_ .f32 0x00000000#32) Cert.Reference3Ideal.Gen.reducesTo_S8x4096x1024_S8x4096_d2 Cert.Reference3Ideal.Gen.h_S_)) (broadcastInDim Cert.Reference3Ideal.S8x4096x1 ![] Cert.Reference3Ideal.Gen.bcast_S_S8x4096x1 (constant Cert.Reference3Ideal.S_ .f32 0x44800000#32))) (broadcastInDim Cert.Reference3Ideal.S8x4096x1 ![] Cert.Reference3Ideal.Gen.bcast_S_S8x4096x1 (constant Cert.Reference3Ideal.S_ .f32 0x358637BD#32)))))) (broadcastInDim Cert.Reference3Ideal.S8x4096x1024 ![0, 1, 2] Cert.Reference3Ideal.Gen.bcast_S1x1x1024_S8x4096x1024_0_1_2 (broadcastInDim Cert.Reference3Ideal.S1x1x1024 ![2] Cert.Reference3Ideal.Gen.bcast_S1024_S1x1x1024_2 g))) (broadcastInDim Cert.Reference3Ideal.S8x4096x1024 ![0, 1, 2] Cert.Reference3Ideal.Gen.bcast_S8x1x1024_S8x4096x1024_0_1_2 (addf (broadcastInDim Cert.Reference3Ideal.S8x1x1024 ![] Cert.Reference3Ideal.Gen.bcast_S_S8x1x1024 (constant Cert.Reference3Ideal.S_ .f32 0x3F800000#32)) (shapeCast _ (extractStridedSlice Cert.Reference3Ideal.S8x1x1x1024 ![0, 0, 1, 0] (rowsL M) Cert.Reference3Ideal.Gen.slices_S8x1x6x1024_S8x1x1x1024_0_0_1_0) Cert.Reference3Ideal.Gen.shapeCasts_S8x1x1x1024_S8x1x1024)))) (broadcastInDim Cert.Reference3Ideal.S8x4096x1024 ![0, 1, 2] Cert.Reference3Ideal.Gen.bcast_S8x1x1024_S8x4096x1024_0_1_2 (shapeCast _ (extractStridedSlice Cert.Reference3Ideal.S8x1x1x1024 ![0, 0, 0, 0] (rowsL M) Cert.Reference3Ideal.Gen.slices_S8x1x6x1024_S8x1x1x1024_0_0_0_0) Cert.Reference3Ideal.Gen.shapeCasts_S8x1x1x1024_S8x1x1024))

/-- The context, normalised and modulated. -/
def hiddenC (C : FVec Ideal Cert.Reference3Ideal.S8x256x1024 .f32) (g : FVec Ideal Cert.Reference3Ideal.S1024 .f32) (M : FVec Ideal Cert.Reference3Ideal.S16x6x1x1024 .f32) : FVec Ideal Cert.Reference3Ideal.S8x256x1024 .f32 :=
  addf (mulf (mulf (mulf C (broadcastInDim Cert.Reference3Ideal.S8x256x1024 ![0, 1, 2] Cert.Reference3Ideal.Gen.bcast_S8x256x1_S8x256x1024_0_1_2 (Host.rsqrt (addf (Host.divf (broadcastInDim Cert.Reference3Ideal.S8x256x1 ![0, 1] Cert.Reference3Ideal.Gen.bcast_S8x256_S8x256x1_0_1 (Host.reduceAdd (mulf C C) (constant Cert.Reference3Ideal.S_ .f32 0x00000000#32) Cert.Reference3Ideal.Gen.reducesTo_S8x256x1024_S8x256_d2 Cert.Reference3Ideal.Gen.h_S_)) (broadcastInDim Cert.Reference3Ideal.S8x256x1 ![] Cert.Reference3Ideal.Gen.bcast_S_S8x256x1 (constant Cert.Reference3Ideal.S_ .f32 0x44800000#32))) (broadcastInDim Cert.Reference3Ideal.S8x256x1 ![] Cert.Reference3Ideal.Gen.bcast_S_S8x256x1 (constant Cert.Reference3Ideal.S_ .f32 0x358637BD#32)))))) (broadcastInDim Cert.Reference3Ideal.S8x256x1024 ![0, 1, 2] Cert.Reference3Ideal.Gen.bcast_S1x1x1024_S8x256x1024_0_1_2 (broadcastInDim Cert.Reference3Ideal.S1x1x1024 ![2] Cert.Reference3Ideal.Gen.bcast_S1024_S1x1x1024_2 g))) (broadcastInDim Cert.Reference3Ideal.S8x256x1024 ![0, 1, 2] Cert.Reference3Ideal.Gen.bcast_S1x1x1024_S8x256x1024_0_1_2 (broadcastInDim Cert.Reference3Ideal.S1x1x1024 ![2] Cert.Reference3Ideal.Gen.bcast_S1024_S1x1x1024_2 (addf (broadcastInDim Cert.Reference3Ideal.S1024 ![] Cert.Reference3Ideal.Gen.bcast_S_S1024 (constant Cert.Reference3Ideal.S_ .f32 0x3F800000#32)) (shapeCast _ (extractStridedSlice Cert.Reference3Ideal.S1x1024 ![1, 0] (rowsC M) Cert.Reference3Ideal.Gen.slices_S6x1024_S1x1024_1_0) Cert.Reference3Ideal.Gen.shapeCasts_S1x1024_S1024))))) (broadcastInDim Cert.Reference3Ideal.S8x256x1024 ![0, 1, 2] Cert.Reference3Ideal.Gen.bcast_S1x1x1024_S8x256x1024_0_1_2 (broadcastInDim Cert.Reference3Ideal.S1x1x1024 ![2] Cert.Reference3Ideal.Gen.bcast_S1024_S1x1x1024_2 (shapeCast _ (extractStridedSlice Cert.Reference3Ideal.S1x1024 ![0, 0] (rowsC M) Cert.Reference3Ideal.Gen.slices_S6x1024_S1x1024_0_0) Cert.Reference3Ideal.Gen.shapeCasts_S1x1024_S1024)))

/-- All the rows' projections. -/
def Z (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) : FVec Ideal Cert.Reference3Ideal.S8x4352x5152 .f32 :=
  concatenate Cert.Reference3Ideal.S8x4352x5152 1 [⟨Cert.Reference3Ideal.S8x256x5152, (Host.dotGeneral Cert.Reference3Ideal.dot_S8x256x1024_S1024x5152_S8x256x5152_2_0_01_1_n_n none (hiddenC C g M) W)⟩, ⟨Cert.Reference3Ideal.S8x4096x5152, (Host.dotGeneral Cert.Reference3Ideal.dot_S8x4096x1024_S1024x5152_S8x4096x5152_2_0_01_1_n_n none (hiddenL X g M) W)⟩] Cert.Reference3Ideal.Gen.concatenates_S8x256x5152_S8x4096x5152_S8x4352x5152_d1

/-- The reference's five results. -/
def REF10 (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) : FVec Ideal Cert.Reference3Ideal.S8x4352x256 .f32 :=
  extractStridedSlice Cert.Reference3Ideal.S8x4352x256 ![0, 0, 0] (Z X C g M W) Cert.Reference3Ideal.Gen.slices_S8x4352x5152_S8x4352x256_0_0_0

def REF11 (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) : FVec Ideal Cert.Reference3Ideal.S8x4352x384 .f32 :=
  extractStridedSlice Cert.Reference3Ideal.S8x4352x384 ![0, 0, 256] (Z X C g M W) Cert.Reference3Ideal.Gen.slices_S8x4352x5152_S8x4352x384_0_0_256

def REF12 (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) : FVec Ideal Cert.Reference3Ideal.S8x4352x384 .f32 :=
  pad Cert.Reference3Ideal.S8x4352x384 ![0, 0, 0] ![0, 0, 96] ![0, 0, 0] (extractStridedSlice Cert.Reference3Ideal.S8x4352x288 ![0, 0, 640] (Z X C g M W) Cert.Reference3Ideal.Gen.slices_S8x4352x5152_S8x4352x288_0_0_640) (sitofp .f32 (constantI Cert.Reference3Ideal.S_ 32 0#32)) Cert.Reference3Ideal.Gen.pads_S8x4352x288_S8x4352x384_000_000_0960 Cert.Reference3Ideal.Gen.h_S_

def REF13 (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) : FVec Ideal Cert.Reference3Ideal.S8x4352x1152 .f32 :=
  extractStridedSlice Cert.Reference3Ideal.S8x4352x1152 ![0, 0, 928] (Z X C g M W) Cert.Reference3Ideal.Gen.slices_S8x4352x5152_S8x4352x1152_0_0_928

def REF14 (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) : FVec Ideal Cert.Reference3Ideal.S8x4352x3072 .bf16 :=
  truncf .bf16 (Host.divf (broadcastInDim Cert.Reference3Ideal.S8x4352x3072 ![] Cert.Reference3Ideal.Gen.bcast_S_S8x4352x3072 (constant Cert.Reference3Ideal.S_ .f32 0x3F800000#32)) (addf (broadcastInDim Cert.Reference3Ideal.S8x4352x3072 ![] Cert.Reference3Ideal.Gen.bcast_S_S8x4352x3072 (constant Cert.Reference3Ideal.S_ .f32 0x3F800000#32)) (Host.exp (Host.negf (extractStridedSlice Cert.Reference3Ideal.S8x4352x3072 ![0, 0, 2080] (Z X C g M W) Cert.Reference3Ideal.Gen.slices_S8x4352x5152_S8x4352x3072_0_0_2080))))) Cert.Reference3Ideal.Gen.bitsLt_bf16_f32

theorem mean_eq (a : EReal) : Ideal.div a (Ideal.ofBits FTy.f32 1149239296#32) = a * Ideal.ofBits FTy.f32 981467136#32 := by
  have e1 : Ideal.ofBits FTy.f32 1149239296#32 = ((1024 : ℝ) : EReal) := by
    simp [Ideal.ofBits, Ideal.ieee, -EReal.coe_mul]; norm_num
  have e2 : Ideal.ofBits FTy.f32 981467136#32 = ((1 / 1024 : ℝ) : EReal) := by
    simp [Ideal.ofBits, Ideal.ieee, -EReal.coe_mul]; norm_num
  rw [e1, e2, Ideal.div_coe (by norm_num)]

theorem hiddenL_at (X : FVec Ideal Cert.Reference3Ideal.S8x4096x1024 .f32) (g : FVec Ideal Cert.Reference3Ideal.S1024 .f32) (M : FVec Ideal Cert.Reference3Ideal.S16x6x1x1024 .f32) (b : Fin 8) (n : Fin 4096) (k : Fin 1024) :
    hiddenL X g M (ix3 b n k) = X (ix3 b n k) *
            Ideal.rsqrt ((∑ x, X (ix3 b n x) * X (ix3 b n x)) * Ideal.ofBits FTy.f32 981467136#32 + Ideal.ofBits FTy.f32 897988541#32) *
          g (ix1 k) * (1 + M (ix4 ⟨b.val, by omega⟩ 1 0 k)) + M (ix4 ⟨b.val, by omega⟩ 0 0 k) := by
  rw [← mean_eq]
  pointwise [hiddenL, rowsL]

theorem hiddenC_at (C : FVec Ideal Cert.Reference3Ideal.S8x256x1024 .f32) (g : FVec Ideal Cert.Reference3Ideal.S1024 .f32) (M : FVec Ideal Cert.Reference3Ideal.S16x6x1x1024 .f32) (b : Fin 8) (n : Fin 256) (k : Fin 1024) :
    hiddenC C g M (ix3 b n k) = C (ix3 b n k) *
            Ideal.rsqrt ((∑ x, C (ix3 b n x) * C (ix3 b n x)) * Ideal.ofBits FTy.f32 981467136#32 + Ideal.ofBits FTy.f32 897988541#32) *
          g (ix1 k) * (1 + M (ix4 8 1 0 k)) + M (ix4 8 0 0 k) := by
  rw [← mean_eq]
  pointwise [hiddenC, rowsC]

theorem idx : ∀ t : Fin cfg0.N, win0_0.index t = ![t.val / 17, 0, 0]
    ∧ win0_1.index t = ![t.val / 17, t.val % 17 - 1, 0]
    ∧ win0_2.index t = ![0, 0]
    ∧ win0_3.index t = ![if t.val % 17 = 0 then 8 else t.val / 17, 0, 0, 0]
    ∧ win0_4.index t = ![if t.val % 17 = 0 then 8 else t.val / 17, 1, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 17, t.val % 17, 0]
    ∧ win0_11.index t = ![t.val / 17, t.val % 17, 0]
    ∧ win0_12.index t = ![t.val / 17, t.val % 17, 0]
    ∧ win0_13.index t = ![t.val / 17, t.val % 17, 0]
    ∧ win0_14.index t = ![t.val / 17, t.val % 17, 0] :=
  (by decide +kernel : ∀ t : Fin grid0.N, _)

abbrev mX (c : Dev nD) : FVec Ideal Cert.Reference3Ideal.S8x4096x1024 .f32 := m ((c : Thread nD τ).loc main_arg0)
abbrev mC (c : Dev nD) : FVec Ideal Cert.Reference3Ideal.S8x256x1024 .f32 := m ((c : Thread nD τ).loc main_arg1)
abbrev mg (c : Dev nD) : FVec Ideal Cert.Reference3Ideal.S1024 .f32 := m ((c : Thread nD τ).loc main_arg2)
abbrev mM (c : Dev nD) : FVec Ideal Cert.Reference3Ideal.S16x6x1x1024 .f32 := m ((c : Thread nD τ).loc main_arg3)
abbrev mW (c : Dev nD) : FVec Ideal Cert.Reference3Ideal.S1024x5152 .f32 := m ((c : Thread nD τ).loc main_arg4)

/-- The normalised block of point `t`. -/
abbrev hb (c : Dev nD) (t : Fin cfg0.N) : FVec Ideal S256x1024 .bf16 :=
  k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t)

/-- The condition on the grid coordinate, decided. -/
theorem cond : ∀ t : Fin cfg0.N, Scalar.cmpi .slt (Scalar.addi (BitVec.ofNat 32 (grid0.coords t 1).val) 0#32) 1#32 = if t.val % 17 = 0 then 1#1 else 0#1 :=
  (by decide +kernel : ∀ t : Fin grid0.N, _)

theorem V_v7 (c : Dev nD) : V m c main_v7 = shapeCast S1x1024 (mg m c) shapeCasts_S1024_S1x1024 := by
  show StableHlo.after (List.flatten [hostOps0, hostOps0_1, hostOps0_2]) (fun b => m (c, b)) _ = _
  simp only [hostOps0, hostOps0_1, hostOps0_2, List.flatten_cons, List.flatten_nil, List.cons_append, List.nil_append, List.append_nil, StableHlo.after_cons, StableHlo.after_nil]
  after_results_simp
  rfl

theorem V_v1 (c : Dev nD) : V m c main_v1 = extractStridedSlice S1024x256 ![0, 0] (truncf (F := Ideal) .bf16 (mW m c) bitsLt_bf16_f32) slices_S1024x5152_S1024x256_0_0 := by
  show StableHlo.after (List.flatten [hostOps0, hostOps0_1, hostOps0_2]) (fun b => m (c, b)) _ = _
  simp only [hostOps0, hostOps0_1, hostOps0_2, List.flatten_cons, List.flatten_nil, List.cons_append, List.nil_append, List.append_nil, StableHlo.after_cons, StableHlo.after_nil]
  after_results_simp

theorem V_v2 (c : Dev nD) : V m c main_v2 = extractStridedSlice S1024x384 ![0, 256] (truncf (F := Ideal) .bf16 (mW m c) bitsLt_bf16_f32) slices_S1024x5152_S1024x384_0_256 := by
  show StableHlo.after (List.flatten [hostOps0, hostOps0_1, hostOps0_2]) (fun b => m (c, b)) _ = _
  simp only [hostOps0, hostOps0_1, hostOps0_2, List.flatten_cons, List.flatten_nil, List.cons_append, List.nil_append, List.append_nil, StableHlo.after_cons, StableHlo.after_nil]
  after_results_simp

theorem V_v4 (c : Dev nD) : V m c main_v4 = extractStridedSlice S1024x1152 ![0, 928] (truncf (F := Ideal) .bf16 (mW m c) bitsLt_bf16_f32) slices_S1024x5152_S1024x1152_0_928 := by
  show StableHlo.after (List.flatten [hostOps0, hostOps0_1, hostOps0_2]) (fun b => m (c, b)) _ = _
  simp only [hostOps0, hostOps0_1, hostOps0_2, List.flatten_cons, List.flatten_nil, List.cons_append, List.nil_append, List.append_nil, StableHlo.after_cons, StableHlo.after_nil]
  after_results_simp

theorem V_v5 (c : Dev nD) : V m c main_v5 = extractStridedSlice S1024x3072 ![0, 2080] (truncf (F := Ideal) .bf16 (mW m c) bitsLt_bf16_f32) slices_S1024x5152_S1024x3072_0_2080 := by
  show StableHlo.after (List.flatten [hostOps0, hostOps0_1, hostOps0_2]) (fun b => m (c, b)) _ = _
  simp only [hostOps0, hostOps0_1, hostOps0_2, List.flatten_cons, List.flatten_nil, List.cons_append, List.nil_append, List.append_nil, StableHlo.after_cons, StableHlo.after_nil]
  after_results_simp

theorem V_v6 (c : Dev nD) : V m c main_v6 = pad S1024x384 ![0, 0] ![0, 96] ![0, 0] (extractStridedSlice S1024x288 ![0, 640] (truncf (F := Ideal) .bf16 (mW m c) bitsLt_bf16_f32) slices_S1024x5152_S1024x288_0_640) (sitofp (F := Ideal) .bf16 (constantI S_ 32 0#32)) pads_S1024x288_S1024x384_000_0960 h_S_ := by
  show StableHlo.after (List.flatten [hostOps0, hostOps0_1, hostOps0_2]) (fun b => m (c, b)) _ = _
  simp only [hostOps0, hostOps0_1, hostOps0_2, List.flatten_cons, List.flatten_nil, List.cons_append, List.nil_append, List.append_nil, StableHlo.after_cons, StableHlo.after_nil]
  after_results_simp
  rfl

theorem read2 (c : Dev nD) (t : Fin cfg0.N) (k : Fin 1024) :
    iblk m c 2 t (ix2 0 k) = mg m c (ix1 k) := by
  have hN : t.val < 136 := lt_of_lt_of_eq t.isLt (show cfg0.N = 136 from N_0)
  unfold iblk
  simp only [View.read]
  rw [show V m c (Pipeline.arrRef spec0 2) = _ from V_v7 m c]
  pointwise
  blk_ext [idx t]

theorem read5 (c : Dev nD) (t : Fin cfg0.N) (x : Fin 1024) (k : Fin 256) :
    iblk m c 5 t (ix2 x k) = mW m c (ix2 x ⟨0 + k.val, by omega⟩) := by
  have hN : t.val < 136 := lt_of_lt_of_eq t.isLt (show cfg0.N = 136 from N_0)
  unfold iblk
  simp only [View.read]
  rw [show V m c (Pipeline.arrRef spec0 5) = _ from V_v1 m c]
  pointwise
  blk_ext [idx t]

theorem read6 (c : Dev nD) (t : Fin cfg0.N) (x : Fin 1024) (k : Fin 384) :
    iblk m c 6 t (ix2 x k) = mW m c (ix2 x ⟨256 + k.val, by omega⟩) := by
  have hN : t.val < 136 := lt_of_lt_of_eq t.isLt (show cfg0.N = 136 from N_0)
  unfold iblk
  simp only [View.read]
  rw [show V m c (Pipeline.arrRef spec0 6) = _ from V_v2 m c]
  pointwise
  blk_ext [idx t]

theorem read8 (c : Dev nD) (t : Fin cfg0.N) (x : Fin 1024) (k : Fin 1152) :
    iblk m c 8 t (ix2 x k) = mW m c (ix2 x ⟨928 + k.val, by omega⟩) := by
  have hN : t.val < 136 := lt_of_lt_of_eq t.isLt (show cfg0.N = 136 from N_0)
  unfold iblk
  simp only [View.read]
  rw [show V m c (Pipeline.arrRef spec0 8) = _ from V_v4 m c]
  pointwise
  blk_ext [idx t]

theorem read9 (c : Dev nD) (t : Fin cfg0.N) (x : Fin 1024) (k : Fin 3072) :
    iblk m c 9 t (ix2 x k) = mW m c (ix2 x ⟨2080 + k.val, by omega⟩) := by
  have hN : t.val < 136 := lt_of_lt_of_eq t.isLt (show cfg0.N = 136 from N_0)
  unfold iblk
  simp only [View.read]
  rw [show V m c (Pipeline.arrRef spec0 9) = _ from V_v5 m c]
  pointwise
  blk_ext [idx t]

theorem read7 (c : Dev nD) (t : Fin cfg0.N) (x : Fin 1024) (k : Fin 384) :
    iblk m c 7 t (ix2 x k) = if h : k.val < 288 then mW m c (ix2 x ⟨640 + k.val, by omega⟩) else (0 : EReal) := by
  have hN : t.val < 136 := lt_of_lt_of_eq t.isLt (show cfg0.N = 136 from N_0)
  unfold iblk
  simp only [View.read]
  rw [show V m c (Pipeline.arrRef spec0 7) = _ from V_v6 m c]
  pointwise
  have z : FloatOps.sitofp (F := Ideal) FTy.bf16 0#32 = (0 : EReal) := by simp [FloatOps.sitofp]
  rw [z]
  by_cases h : k.val < 288
  · blk_simp [idx t]
    simp only [h, dif_pos]
    blk_ext [idx t]
  · blk_simp [idx t]
    simp only [h, dif_neg, not_false_eq_true]

theorem hb_ctx (c : Dev nD) (t : Fin cfg0.N) (h : t.val % 17 = 0) (p : Fin 256) (k : Fin 1024) (b : Fin 8) (hb' : b.val = t.val / 17) :
    hb m c t (ix2 p k) = hiddenC (mC m c) (mg m c) (mM m c) (ix3 b p k) := by
  have hN : t.val < 136 := lt_of_lt_of_eq t.isLt (show cfg0.N = 136 from N_0)
  have hc := cond t
  rw [if_pos h] at hc
  have e3 : (if t.val % 17 = 0 then 8 else t.val / 17) = 8 := if_pos h
  have i0 := (idx t).1
  have i1 := (idx t).2.1
  have i3 := (idx t).2.2.2.1
  have i4 := (idx t).2.2.2.2.1
  rw [e3] at i3 i4
  rw [hiddenC_at]
  unfold hb k0_pay12
  pointwise [k0_pay1, hc]
  rw [read2]
  blk_point [iblk, V, i0, i1, i3, i4]

theorem hb_lat (c : Dev nD) (t : Fin cfg0.N) (h : ¬ t.val % 17 = 0) (p : Fin 256) (k : Fin 1024) (b : Fin 8) (hb' : b.val = t.val / 17) (n : Fin 4096) (hn : n.val = (t.val % 17 - 1) * 256 + p.val) :
    hb m c t (ix2 p k) = hiddenL (mX m c) (mg m c) (mM m c) (ix3 b n k) := by
  have hN : t.val < 136 := lt_of_lt_of_eq t.isLt (show cfg0.N = 136 from N_0)
  have hc := cond t
  rw [if_neg h] at hc
  have e3 : (if t.val % 17 = 0 then 8 else t.val / 17) = t.val / 17 := if_neg h
  have i0 := (idx t).1
  have i1 := (idx t).2.1
  have i3 := (idx t).2.2.2.1
  have i4 := (idx t).2.2.2.2.1
  rw [e3] at i3 i4
  rw [hiddenL_at]
  unfold hb k0_pay12
  pointwise [k0_pay1, hc]
  rw [read2]
  blk_point [iblk, V, i0, i1, i3, i4]

theorem Z_at (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) (b : Fin 8) (n : Fin 4352) (k : Fin 5152) :
    Z X C g M W (ix3 b n k) = ∑ x : Fin 1024, (if h : n.val < 256 then hiddenC C g M (ix3 b ⟨n.val, h⟩ x) else hiddenL X g M (ix3 b ⟨n.val - 256, by omega⟩ x)) * W (ix2 x k) := by
  pointwise [Z]
  split <;> rfl

theorem hb_at (c : Dev nD) (t : Fin cfg0.N) (p : Fin 256) (x : Fin 1024) (b : Fin 8) (n : Fin 4352) (hb' : b.val = t.val / 17) (hn : n.val = t.val % 17 * 256 + p.val) :
    hb m c t (ix2 p x) = if h : n.val < 256 then hiddenC (mC m c) (mg m c) (mM m c) (ix3 b ⟨n.val, h⟩ x) else hiddenL (mX m c) (mg m c) (mM m c) (ix3 b ⟨n.val - 256, by omega⟩ x) := by
  by_cases h : t.val % 17 = 0
  · have h' : n.val < 256 := by omega
    rw [dif_pos h', hb_ctx m c t h p x b hb']
    exact congrArg (fun q => hiddenC (mC m c) (mg m c) (mM m c) (ix3 b q x)) (Fin.ext (by show p.val = n.val; omega))
  · have h' : ¬ n.val < 256 := by omega
    rw [dif_neg h']
    exact hb_lat m c t h p x b hb' ⟨n.val - 256, by omega⟩ (by show n.val - 256 = _; omega)

theorem Z_of (X : FVec Ideal Cert.Reference3Ideal.S8x4096x1024 .f32) (C : FVec Ideal Cert.Reference3Ideal.S8x256x1024 .f32) (g : FVec Ideal Cert.Reference3Ideal.S1024 .f32) (M : FVec Ideal Cert.Reference3Ideal.S16x6x1x1024 .f32) (W : FVec Ideal Cert.Reference3Ideal.S1024x5152 .f32) (b : Fin 8) (n : Fin 4352) (k : Fin 5152)
    (f w : Fin 1024 → EReal) (hf : ∀ x, f x = if h : n.val < 256 then hiddenC C g M (ix3 b ⟨n.val, h⟩ x) else hiddenL X g M (ix3 b ⟨n.val - 256, by omega⟩ x)) (hw : ∀ x, w x = W (ix2 x k)) :
    ∑ x, f x * w x = Z X C g M W (ix3 b n k) := by
  rw [Z_at]
  exact Finset.sum_congr rfl fun x _ => congrArg₂ (· * ·) (hf x) (hw x)

theorem sum_of_zero (f w : Fin 1024 → EReal) (hw : ∀ x, w x = 0) : ∑ x, f x * w x = 0 :=
  Finset.sum_eq_zero fun x _ => by rw [hw x, mul_zero]

theorem point_12 (c : Dev nD) (t : Fin cfg0.N) (y : S1x256x384.Idx) (b : Fin 8) (n : Fin 4352) (k : Fin 384) (hb' : b.val = t.val / 17) (hn : n.val = t.val % 17 * 256 + (y 1).val) (hk : k.val = (y 2).val) :
    (dats m 0 c).after 12 t y = REF12 (mX m c) (mC m c) (mg m c) (mM m c) (mW m c) (ix3 b n k) := by
  rw [after0_12]
  unfold out0_12
  have row := fun x => hb_at m c t (y 1) x b n hb' hn
  have rd := fun (x : Fin 1024) => read7 m c t x (y 2)
  unfold hb at row
  generalize k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) = H at row ⊢
  frame_out
  pointwise [k0_pay5, REF12]
  have z : FloatOps.sitofp (F := Ideal) FTy.f32 0#32 = (0 : EReal) := by simp [FloatOps.sitofp]
  rw [z]
  by_cases h : k.val < 288
  · have h2 : (y 2).val < 288 := by omega
    rw [dif_pos h]
    exact Z_of _ _ _ _ _ b n _ (fun x => H (ix2 (y 1) x)) _ row fun x => ((rd x).trans (dif_pos h2)).trans (congrArg (fun q => mW m c (ix2 x q)) (Fin.ext (by show 640 + (y 2).val = 640 + k.val; omega)))
  · have h2 : ¬ (y 2).val < 288 := by omega
    rw [dif_neg h]
    exact sum_of_zero (fun x => H (ix2 (y 1) x)) _ fun x => (rd x).trans (dif_neg h2)

theorem point_14 (c : Dev nD) (t : Fin cfg0.N) (y : S1x256x3072.Idx) (b : Fin 8) (n : Fin 4352) (k : Fin 3072) (hb' : b.val = t.val / 17) (hn : n.val = t.val % 17 * 256 + (y 1).val) (hk : k.val = (y 2).val) :
    (dats m 0 c).after 14 t y = REF14 (mX m c) (mC m c) (mg m c) (mM m c) (mW m c) (ix3 b n k) := by
  rw [after0_14]
  unfold out0_14
  have row := fun (p : Fin 256) (hp : n.val = t.val % 17 * 256 + p.val) x => hb_at m c t p x b n hb' hp
  have rd := fun (x : Fin 1024) (q : Fin 3072) => read9 m c t x q
  unfold hb at row
  generalize k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) = H at row ⊢
  frame_out
  canon_tiles x h
  · pointwise [k0_pay7, k0_pay8, k0_pay9, k0_pay10, k0_pay11, REF14]
    refine congrArg (fun z : EReal => Ideal.div 1 (1 + Ideal.exp z)) ?_
    rw [zero_sub]
    refine congrArg Neg.neg ?_
    exact Z_of _ _ _ _ _ b n _ (fun q => H (ix2 (x 1) q)) _ (row (x 1) (by omega)) fun q => (rd q ⟨2048 + (x 2).val, by omega⟩).trans (congrArg (fun r => mW m c (ix2 q r)) (Fin.ext (by show 2080 + (2048 + (x 2).val) = 2080 + k.val; omega)))
  · pointwise [k0_pay7, k0_pay8, k0_pay9, k0_pay10, k0_pay11, REF14]
    refine congrArg (fun z : EReal => Ideal.div 1 (1 + Ideal.exp z)) ?_
    rw [zero_sub]
    refine congrArg Neg.neg ?_
    exact Z_of _ _ _ _ _ b n _ (fun q => H (ix2 (x 1) q)) _ (row (x 1) (by omega)) fun q => (rd q ⟨1024 + (x 2).val, by omega⟩).trans (congrArg (fun r => mW m c (ix2 q r)) (Fin.ext (by show 2080 + (1024 + (x 2).val) = 2080 + k.val; omega)))
  · pointwise [k0_pay7, k0_pay8, k0_pay9, k0_pay10, k0_pay11, REF14]
    refine congrArg (fun z : EReal => Ideal.div 1 (1 + Ideal.exp z)) ?_
    rw [zero_sub]
    refine congrArg Neg.neg ?_
    exact Z_of _ _ _ _ _ b n _ (fun q => H (ix2 (x 1) q)) _ (row (x 1) (by omega)) fun q => (rd q ⟨(x 2).val, by omega⟩).trans (congrArg (fun r => mW m c (ix2 q r)) (Fin.ext (by show 2080 + ((x 2).val) = 2080 + k.val; omega)))

theorem point_10 (c : Dev nD) (t : Fin cfg0.N) (y : S1x256x256.Idx) (b : Fin 8) (n : Fin 4352) (k : Fin 256) (hb' : b.val = t.val / 17) (hn : n.val = t.val % 17 * 256 + (y 1).val) (hk : k.val = (y 2).val) :
    (dats m 0 c).after 10 t y = REF10 (mX m c) (mC m c) (mg m c) (mM m c) (mW m c) (ix3 b n k) := by
  rw [after0_10]
  unfold out0_10
  have row := fun x => hb_at m c t (y 1) x b n hb' hn
  have rd := fun (x : Fin 1024) => read5 m c t x (y 2)
  unfold hb at row
  generalize k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) = H at row ⊢
  frame_out
  pointwise [k0_pay3, k0_pay2, REF10]
  exact Z_of _ _ _ _ _ b n _ (fun x => H (ix2 (y 1) x)) _ row fun x => (rd x).trans (congrArg (fun q => mW m c (ix2 x q)) (Fin.ext (by show 0 + (y 2).val = k.val; omega)))

theorem point_11 (c : Dev nD) (t : Fin cfg0.N) (y : S1x256x384.Idx) (b : Fin 8) (n : Fin 4352) (k : Fin 384) (hb' : b.val = t.val / 17) (hn : n.val = t.val % 17 * 256 + (y 1).val) (hk : k.val = (y 2).val) :
    (dats m 0 c).after 11 t y = REF11 (mX m c) (mC m c) (mg m c) (mM m c) (mW m c) (ix3 b n k) := by
  rw [after0_11]
  unfold out0_11
  have row := fun x => hb_at m c t (y 1) x b n hb' hn
  have rd := fun (x : Fin 1024) => read6 m c t x (y 2)
  unfold hb at row
  generalize k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) = H at row ⊢
  frame_out
  pointwise [k0_pay4, REF11]
  exact Z_of _ _ _ _ _ b n _ (fun x => H (ix2 (y 1) x)) _ row fun x => (rd x).trans (congrArg (fun q => mW m c (ix2 x q)) (Fin.ext (by show 256 + (y 2).val = 256 + k.val; omega)))

theorem point_13 (c : Dev nD) (t : Fin cfg0.N) (y : S1x256x1152.Idx) (b : Fin 8) (n : Fin 4352) (k : Fin 1152) (hb' : b.val = t.val / 17) (hn : n.val = t.val % 17 * 256 + (y 1).val) (hk : k.val = (y 2).val) :
    (dats m 0 c).after 13 t y = REF13 (mX m c) (mC m c) (mg m c) (mM m c) (mW m c) (ix3 b n k) := by
  rw [after0_13]
  unfold out0_13
  have row := fun x => hb_at m c t (y 1) x b n hb' hn
  have rd := fun (x : Fin 1024) => read8 m c t x (y 2)
  unfold hb at row
  generalize k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) = H at row ⊢
  frame_out
  pointwise [k0_pay6, REF13]
  exact Z_of _ _ _ _ _ b n _ (fun x => H (ix2 (y 1) x)) _ row fun x => (rd x).trans (congrArg (fun q => mW m c (ix2 x q)) (Fin.ext (by show 928 + (y 2).val = 928 + k.val; omega)))

theorem point_at_10 (c : Dev nD) (t : Fin cfg0.N) (y : S1x256x256.Idx) (i : Cert.Reference3Ideal.S8x4352x256.Idx) (h0 : (i 0).val = t.val / 17) (h1 : (i 1).val = t.val % 17 * 256 + (y 1).val) (h2 : (i 2).val = (y 2).val) :
    (dats m 0 c).after 10 t y = REF10 (mX m c) (mC m c) (mg m c) (mM m c) (mW m c) i := by
  have e : i = ix3 (i 0) (i 1) (i 2) := by funext a; fin_cases a <;> rfl
  exact (point_10 m c t y (i 0) (i 1) (i 2) h0 h1 h2).trans (congrArg (REF10 (mX m c) (mC m c) (mg m c) (mM m c) (mW m c)) e.symm)

theorem final_10 (c : Dev nD) : (dats m 0 c).arrAt 10 (cfgs 0).N = REF10 (mX m c) (mC m c) (mg m c) (mM m c) (mW m c) := by
  refine (dats m 0 c).arrAt_eq_of_covers 10 _ (by decide +kernel) fun t hf y => ?_
  have y0 : (y 0).val < 1 := (y 0).isLt
  blk_simp
  refine point_at_10 m c t _ _ ?_ ?_ ?_ <;> (blk_simp [idx t] <;> try omega)

theorem point_at_11 (c : Dev nD) (t : Fin cfg0.N) (y : S1x256x384.Idx) (i : Cert.Reference3Ideal.S8x4352x384.Idx) (h0 : (i 0).val = t.val / 17) (h1 : (i 1).val = t.val % 17 * 256 + (y 1).val) (h2 : (i 2).val = (y 2).val) :
    (dats m 0 c).after 11 t y = REF11 (mX m c) (mC m c) (mg m c) (mM m c) (mW m c) i := by
  have e : i = ix3 (i 0) (i 1) (i 2) := by funext a; fin_cases a <;> rfl
  exact (point_11 m c t y (i 0) (i 1) (i 2) h0 h1 h2).trans (congrArg (REF11 (mX m c) (mC m c) (mg m c) (mM m c) (mW m c)) e.symm)

theorem final_11 (c : Dev nD) : (dats m 0 c).arrAt 11 (cfgs 0).N = REF11 (mX m c) (mC m c) (mg m c) (mM m c) (mW m c) := by
  refine (dats m 0 c).arrAt_eq_of_covers 11 _ (by decide +kernel) fun t hf y => ?_
  have y0 : (y 0).val < 1 := (y 0).isLt
  blk_simp
  refine point_at_11 m c t _ _ ?_ ?_ ?_ <;> (blk_simp [idx t] <;> try omega)

theorem point_at_12 (c : Dev nD) (t : Fin cfg0.N) (y : S1x256x384.Idx) (i : Cert.Reference3Ideal.S8x4352x384.Idx) (h0 : (i 0).val = t.val / 17) (h1 : (i 1).val = t.val % 17 * 256 + (y 1).val) (h2 : (i 2).val = (y 2).val) :
    (dats m 0 c).after 12 t y = REF12 (mX m c) (mC m c) (mg m c) (mM m c) (mW m c) i := by
  have e : i = ix3 (i 0) (i 1) (i 2) := by funext a; fin_cases a <;> rfl
  exact (point_12 m c t y (i 0) (i 1) (i 2) h0 h1 h2).trans (congrArg (REF12 (mX m c) (mC m c) (mg m c) (mM m c) (mW m c)) e.symm)

theorem final_12 (c : Dev nD) : (dats m 0 c).arrAt 12 (cfgs 0).N = REF12 (mX m c) (mC m c) (mg m c) (mM m c) (mW m c) := by
  refine (dats m 0 c).arrAt_eq_of_covers 12 _ (by decide +kernel) fun t hf y => ?_
  have y0 : (y 0).val < 1 := (y 0).isLt
  blk_simp
  refine point_at_12 m c t _ _ ?_ ?_ ?_ <;> (blk_simp [idx t] <;> try omega)

theorem point_at_13 (c : Dev nD) (t : Fin cfg0.N) (y : S1x256x1152.Idx) (i : Cert.Reference3Ideal.S8x4352x1152.Idx) (h0 : (i 0).val = t.val / 17) (h1 : (i 1).val = t.val % 17 * 256 + (y 1).val) (h2 : (i 2).val = (y 2).val) :
    (dats m 0 c).after 13 t y = REF13 (mX m c) (mC m c) (mg m c) (mM m c) (mW m c) i := by
  have e : i = ix3 (i 0) (i 1) (i 2) := by funext a; fin_cases a <;> rfl
  exact (point_13 m c t y (i 0) (i 1) (i 2) h0 h1 h2).trans (congrArg (REF13 (mX m c) (mC m c) (mg m c) (mM m c) (mW m c)) e.symm)

theorem final_13 (c : Dev nD) : (dats m 0 c).arrAt 13 (cfgs 0).N = REF13 (mX m c) (mC m c) (mg m c) (mM m c) (mW m c) := by
  refine (dats m 0 c).arrAt_eq_of_covers 13 _ (by decide +kernel) fun t hf y => ?_
  have y0 : (y 0).val < 1 := (y 0).isLt
  blk_simp
  refine point_at_13 m c t _ _ ?_ ?_ ?_ <;> (blk_simp [idx t] <;> try omega)

theorem point_at_14 (c : Dev nD) (t : Fin cfg0.N) (y : S1x256x3072.Idx) (i : Cert.Reference3Ideal.S8x4352x3072.Idx) (h0 : (i 0).val = t.val / 17) (h1 : (i 1).val = t.val % 17 * 256 + (y 1).val) (h2 : (i 2).val = (y 2).val) :
    (dats m 0 c).after 14 t y = REF14 (mX m c) (mC m c) (mg m c) (mM m c) (mW m c) i := by
  have e : i = ix3 (i 0) (i 1) (i 2) := by funext a; fin_cases a <;> rfl
  exact (point_14 m c t y (i 0) (i 1) (i 2) h0 h1 h2).trans (congrArg (REF14 (mX m c) (mC m c) (mg m c) (mM m c) (mW m c)) e.symm)

theorem final_14 (c : Dev nD) : (dats m 0 c).arrAt 14 (cfgs 0).N = REF14 (mX m c) (mC m c) (mg m c) (mM m c) (mW m c) := by
  refine (dats m 0 c).arrAt_eq_of_covers 14 _ (by decide +kernel) fun t hf y => ?_
  have y0 : (y 0).val < 1 := (y 0).isLt
  blk_simp
  refine point_at_14 m c t _ _ ?_ ?_ ?_ <;> (blk_simp [idx t] <;> try omega)

end Cert.Kernel3Ideal.InProj

end
-- ==== Proof.InProjClaims.lean ====
/- The claims about the in_proj call: both programs' frames, the reference's, and the five values. -/
module

public import proofs.«01_k».proof.Defs
public import proofs.«01_k».proof.Proof.InProj
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Proof

open Idealize.ShloMosaic Idealize.SL.Sem

theorem in_proj_frame : Cert.quiescent_Kernel3 := fun m ρ _ => Cert.Kernel3.Gen.frame m ρ

theorem in_proj_frame_ideal : Cert.quiescent_Kernel3Ideal := fun m ρ _ => Cert.Kernel3Ideal.Gen.frame m ρ

theorem in_proj_frame_reference : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

set_option maxHeartbeats 4000000 in
/-- The reference's run, its results under their names here. -/
theorem in_proj_reference_run (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v56) = Cert.Kernel3Ideal.InProj.REF10 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v57) = Cert.Kernel3Ideal.InProj.REF11 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v61) = Cert.Kernel3Ideal.InProj.REF12 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v59) = Cert.Kernel3Ideal.InProj.REF13 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v68) = Cert.Kernel3Ideal.InProj.REF14 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4) :=
  Cert.Reference3Ideal.Value.run (F := Ideal) m ρ

set_option maxHeartbeats 4000000 in
theorem in_proj_value : Cert.algebraic_Kernel3Ideal_Reference3Ideal := by
  pair_intro
  · run_from Cert.Kernel3Ideal.Gen.run_main m g
    · exact Cert.Kernel3Ideal.Gen.V_main_arg2 m c
    · exact Cert.Kernel3Ideal.Gen.V_main_arg4 m c
  · refine (θ_run Cert.Reference3Ideal.defs _ _).mono (fun r h c => ?_) (in_proj_reference_run m' g')
    obtain ⟨a0, a1, a2, a3, a4⟩ := hagree c
    obtain ⟨h0, h1, h2, h3, h4, k⟩ := h c
    have e0 := h0.trans ((by rw [a0, a1, a2, a3, a4] : Cert.Kernel3Ideal.InProj.REF10 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Kernel3Ideal.InProj.REF10 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).trans (Cert.Kernel3Ideal.InProj.final_10 m c).symm)
    have e1 := h1.trans ((by rw [a0, a1, a2, a3, a4] : Cert.Kernel3Ideal.InProj.REF11 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Kernel3Ideal.InProj.REF11 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).trans (Cert.Kernel3Ideal.InProj.final_11 m c).symm)
    have e2 := h2.trans ((by rw [a0, a1, a2, a3, a4] : Cert.Kernel3Ideal.InProj.REF12 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Kernel3Ideal.InProj.REF12 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).trans (Cert.Kernel3Ideal.InProj.final_12 m c).symm)
    have e3 := h3.trans ((by rw [a0, a1, a2, a3, a4] : Cert.Kernel3Ideal.InProj.REF13 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Kernel3Ideal.InProj.REF13 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).trans (Cert.Kernel3Ideal.InProj.final_13 m c).symm)
    have e4 := h4.trans ((by rw [a0, a1, a2, a3, a4] : Cert.Kernel3Ideal.InProj.REF14 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Kernel3Ideal.InProj.REF14 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).trans (Cert.Kernel3Ideal.InProj.final_14 m c).symm)
    exact ⟨e0, e1, e2, e3, e4, k⟩

end Cert.Proof

end
-- ==== Proof.MlpFirstRun.lean ====
/- The run of the first layer's mlp call for any reading of its values: what the two carried buffers hold after each grid point, the
   proof data, the body at every point, and the run of the whole program.

   The generated runs of the three kinds of point (first, middle and last column tile of a row block) give what one point
   stores; here they are strung together: `hAt` is the normalised block after a point, `accAt` the running sum. -/
module

public import proofs.«01_k».proof.Proof.Gen.Kernel4Ideal.Frame.RunC
public import Idealize.ShloMosaic.Lib.Claim

@[expose] public section

set_option maxRecDepth 16384

noncomputable section

namespace Cert.Kernel4Ideal.MlpFirstRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's stores -/

/-- The stores of a first point. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The normalised block a first point leaves. -/
def hFirst (c : Dev nD) (t : Fin cfg0.N) (h0 : t.val % 4 = 0) : Vec F S1024x1024 .bf16 :=
  VS0_0.read (Elt F) (VS0_0.writes (Elt F) VS0_0.junk (runA m c t h0).2.1)

theorem hFirst_cover (c : Dev nD) (t : Fin cfg0.N) (h0 : t.val % 4 = 0) (i : S1024x1024.Idx) : ∃ pc ∈ (runA m c t h0).2.1, i ∈ pc.1.set :=
  View.cover_of_tiledL (runA m c t h0).2.1 S256x1024.size (by sl_kernel_rfl) i

/-- The sum a first point leaves. -/
def accFirst (c : Dev nD) (t : Fin cfg0.N) (h0 : t.val % 4 = 0) : Vec F S1024x1024 .f32 :=
  VS0_1.read (Elt F) (VS0_1.writes (Elt F) VS0_1.junk (runA m c t h0).2.2.1)

theorem accFirst_cover (c : Dev nD) (t : Fin cfg0.N) (h0 : t.val % 4 = 0) (i : S1024x1024.Idx) : ∃ pc ∈ (runA m c t h0).2.2.1, i ∈ pc.1.set :=
  View.cover_of_tiledL (runA m c t h0).2.2.1 S1024x1024.size (by sl_kernel_rfl) i

/-- The stores of a middle point. -/
abbrev runB (c : Dev nD) (t : Fin cfg0.N) (h0 : ¬t.val % 4 = 0) (h1 : ¬t.val % 4 = 3) (xs0 : Vec F S1024x1024 .bf16) (xs1 : Vec F S1024x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs0 xs1

/-- The sum a middle point leaves. -/
def accMiddle (c : Dev nD) (t : Fin cfg0.N) (h0 : ¬t.val % 4 = 0) (h1 : ¬t.val % 4 = 3) (xs0 : Vec F S1024x1024 .bf16) (xs1 : Vec F S1024x1024 .f32) : Vec F S1024x1024 .f32 :=
  VS0_1.read (Elt F) (VS0_1.writes (Elt F) VS0_1.junk (runB m c t h0 h1 xs0 xs1).2.2.1)

theorem accMiddle_cover (c : Dev nD) (t : Fin cfg0.N) (h0 : ¬t.val % 4 = 0) (h1 : ¬t.val % 4 = 3) (xs0 : Vec F S1024x1024 .bf16) (xs1 : Vec F S1024x1024 .f32) (i : S1024x1024.Idx) : ∃ pc ∈ (runB m c t h0 h1 xs0 xs1).2.2.1, i ∈ pc.1.set :=
  View.cover_of_tiledL (runB m c t h0 h1 xs0 xs1).2.2.1 S1024x1024.size (by sl_kernel_rfl) i

/-- The stores of a last point. -/
abbrev runC (c : Dev nD) (t : Fin cfg0.N) (h1 : t.val % 4 = 3) (xs0 : Vec F S1024x1024 .bf16) (xs1 : Vec F S1024x1024 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs0 xs1

/-- The sum a last point leaves. -/
def accLast (c : Dev nD) (t : Fin cfg0.N) (h1 : t.val % 4 = 3) (xs0 : Vec F S1024x1024 .bf16) (xs1 : Vec F S1024x1024 .f32) : Vec F S1024x1024 .f32 :=
  VS0_1.read (Elt F) (VS0_1.writes (Elt F) VS0_1.junk (runC m c t h1 xs0 xs1).2.2.1)

theorem accLast_cover (c : Dev nD) (t : Fin cfg0.N) (h1 : t.val % 4 = 3) (xs0 : Vec F S1024x1024 .bf16) (xs1 : Vec F S1024x1024 .f32) (i : S1024x1024.Idx) : ∃ pc ∈ (runC m c t h1 xs0 xs1).2.2.1, i ∈ pc.1.set :=
  View.cover_of_tiledL (runC m c t h1 xs0 xs1).2.2.1 S1024x1024.size (by sl_kernel_rfl) i

/-- The result block a last point leaves. -/
def outLast (c : Dev nD) (t : Fin cfg0.N) (h1 : t.val % 4 = 3) (xs0 : Vec F S1024x1024 .bf16) (xs1 : Vec F S1024x1024 .f32) : Vec F S1024x1024 .f32 :=
  VO0_16.read (Elt F) (VO0_16.writes (Elt F) VO0_16.junk (runC m c t h1 xs0 xs1).1)

theorem outLast_cover (c : Dev nD) (t : Fin cfg0.N) (h1 : t.val % 4 = 3) (xs0 : Vec F S1024x1024 .bf16) (xs1 : Vec F S1024x1024 .f32) (i : S1024x1024.Idx) : ∃ pc ∈ (runC m c t h1 xs0 xs1).1, i ∈ pc.1.set :=
  View.cover_of_tiledL (runC m c t h1 xs0 xs1).1 S256x1024.size (by sl_kernel_rfl) i

/-! ## What the carried buffers hold after each point -/

/-- The normalised block after point `n`: stored by the first point of its row block, kept by the others. -/
def hAt (c : Dev nD) : (n : ℕ) → n < cfg0.N → Vec F S1024x1024 .bf16
  | 0, hn => hFirst m c ⟨0, hn⟩ rfl
  | n + 1, hn => if h0 : (n + 1) % 4 = 0 then hFirst m c ⟨n + 1, hn⟩ h0 else hAt c n (Nat.lt_of_succ_lt hn)

/-- The running sum after point `n`. -/
def accAt (c : Dev nD) : (n : ℕ) → n < cfg0.N → Vec F S1024x1024 .f32
  | 0, hn => accFirst m c ⟨0, hn⟩ rfl
  | n + 1, hn =>
    if h0 : (n + 1) % 4 = 0 then accFirst m c ⟨n + 1, hn⟩ h0
    else if h1 : (n + 1) % 4 = 3 then
      accLast m c ⟨n + 1, hn⟩ h1 (hAt m c n (Nat.lt_of_succ_lt hn)) (accAt c n (Nat.lt_of_succ_lt hn))
    else accMiddle m c ⟨n + 1, hn⟩ h0 h1 (hAt m c n (Nat.lt_of_succ_lt hn)) (accAt c n (Nat.lt_of_succ_lt hn))

theorem pred_lt (t : Fin cfg0.N) : t.val - 1 < cfg0.N := Nat.lt_of_le_of_lt (Nat.sub_le _ _) t.isLt

theorem hAt_first (c : Dev nD) (t : Fin cfg0.N) (h0 : t.val % 4 = 0) : hAt m c t.val t.isLt = hFirst m c t h0 := by
  obtain ⟨n, hn⟩ := t
  cases n with
  | zero => rfl
  | succ n => exact dif_pos h0

theorem hAt_next (c : Dev nD) (t : Fin cfg0.N) (h0 : ¬t.val % 4 = 0) :
    hAt m c t.val t.isLt = hAt m c (t.val - 1) (pred_lt t) := by
  obtain ⟨n, hn⟩ := t
  cases n with
  | zero => exact absurd rfl h0
  | succ n => exact dif_neg h0

theorem accAt_first (c : Dev nD) (t : Fin cfg0.N) (h0 : t.val % 4 = 0) : accAt m c t.val t.isLt = accFirst m c t h0 := by
  obtain ⟨n, hn⟩ := t
  cases n with
  | zero => rfl
  | succ n => exact dif_pos h0

theorem accAt_middle (c : Dev nD) (t : Fin cfg0.N) (h0 : ¬t.val % 4 = 0) (h1 : ¬t.val % 4 = 3) :
    accAt m c t.val t.isLt = accMiddle m c t h0 h1 (hAt m c (t.val - 1) (pred_lt t)) (accAt m c (t.val - 1) (pred_lt t)) := by
  obtain ⟨n, hn⟩ := t
  cases n with
  | zero => exact absurd rfl h0
  | succ n => exact (dif_neg h0).trans (dif_neg h1)

theorem accAt_last (c : Dev nD) (t : Fin cfg0.N) (h1 : t.val % 4 = 3) :
    accAt m c t.val t.isLt = accLast m c t h1 (hAt m c (t.val - 1) (pred_lt t)) (accAt m c (t.val - 1) (pred_lt t)) := by
  obtain ⟨n, hn⟩ := t
  have h0 : ¬n % 4 = 0 := by dsimp only at h1; omega
  cases n with
  | zero => exact absurd rfl h0
  | succ n => exact (dif_neg h0).trans (dif_pos h1)

/-- What the result's buffer holds after a last point (at the other points it is not written back). -/
def outAt (c : Dev nD) (t : Fin cfg0.N) : Vec F S1024x1024 .f32 :=
  if h1 : t.val % 4 = 3 then outLast m c t h1 (hAt m c (t.val - 1) (pred_lt t)) (accAt m c (t.val - 1) (pred_lt t))
  else VO0_16.read (Elt F) VO0_16.junk

theorem outAt_last (c : Dev nD) (t : Fin cfg0.N) (h1 : t.val % 4 = 3) :
    outAt m c t = outLast m c t h1 (hAt m c (t.val - 1) (pred_lt t)) (accAt m c (t.val - 1) (pred_lt t)) := dif_pos h1

/-! ## The proof data -/

/-- Before point `n`: the carried buffers at what the point before left, at anything before the first. -/
def Phi (c : Dev nD) : (n : ℕ) → n ≤ cfg0.N → sProp 𝕄
  | 0, _ => Pipeline.ΦA spec0 c
  | n + 1, hn => iprop(iprop(owns (c : Thread nD τ) scM0_0 fullShare (hAt m c n hn) ∗ owns (c : Thread nD τ) scM0_1 fullShare (accAt m c n hn)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scM0_0 fullShare (hAt m c (n - 1) (by omega)) ∗ owns (c : Thread nD τ) scM0_1 fullShare (accAt m c (n - 1) (by omega))) ∗ (∃ r, prngReg c r)) := by
  cases n with
  | zero => exact absurd rfl hz
  | succ n => rfl

/-- The proof data: each input's buffer at its block after every point, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨_ + 17, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = outAt m c t := by dsimp only [dats]

theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem leaves_8 (c : Dev nD) (t : Fin cfg0.N) : (dats m 0 c).leavesExact 8 t = owns (c : Thread nD τ) (ms0_8 t) fullShare (iblk m c 8 t) := by
  unfold Dat.leavesExact; rw [liveAt0_8 t, after_8]
theorem leaves_9 (c : Dev nD) (t : Fin cfg0.N) : (dats m 0 c).leavesExact 9 t = owns (c : Thread nD τ) (ms0_9 t) fullShare (iblk m c 9 t) := by
  unfold Dat.leavesExact; rw [liveAt0_9 t, after_9]
theorem leaves_10 (c : Dev nD) (t : Fin cfg0.N) : (dats m 0 c).leavesExact 10 t = owns (c : Thread nD τ) (ms0_10 t) fullShare (iblk m c 10 t) := by
  unfold Dat.leavesExact; rw [liveAt0_10 t, after_10]
theorem leaves_11 (c : Dev nD) (t : Fin cfg0.N) : (dats m 0 c).leavesExact 11 t = owns (c : Thread nD τ) (ms0_11 t) fullShare (iblk m c 11 t) := by
  unfold Dat.leavesExact; rw [liveAt0_11 t, after_11]
theorem leaves_12 (c : Dev nD) (t : Fin cfg0.N) : (dats m 0 c).leavesExact 12 t = owns (c : Thread nD τ) (ms0_12 t) fullShare (iblk m c 12 t) := by
  unfold Dat.leavesExact; rw [liveAt0_12 t, after_12]
theorem leaves_13 (c : Dev nD) (t : Fin cfg0.N) : (dats m 0 c).leavesExact 13 t = owns (c : Thread nD τ) (ms0_13 t) fullShare (iblk m c 13 t) := by
  unfold Dat.leavesExact; rw [liveAt0_13 t, after_13]
theorem leaves_14 (c : Dev nD) (t : Fin cfg0.N) : (dats m 0 c).leavesExact 14 t = owns (c : Thread nD τ) (ms0_14 t) fullShare (iblk m c 14 t) := by
  unfold Dat.leavesExact; rw [liveAt0_14 t, after_14]
theorem leaves_15 (c : Dev nD) (t : Fin cfg0.N) : (dats m 0 c).leavesExact 15 t = owns (c : Thread nD τ) (ms0_15 t) fullShare (iblk m c 15 t) := by
  unfold Dat.leavesExact; rw [liveAt0_15 t, after_15]

/-! ## The body at every point -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 1600000 in
theorem body_A0 (c : Dev nD) (t : Fin cfg0.N) (h0 : t.val % 4 = 0) (hz : t.val = 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  have h1 : ¬t.val % 4 = 3 := by omega
  rw [hAt_first m c t h0, accAt_first m c t h0]
  rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
  rw [Phi_castSucc m c t, Phi_zero m c _ _ hz, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (hFirst_cover m c t h0)
      unfold owns; iexists _; isplitr
      swap; · iexact HS1
      ipureintro; exact View.read_writes_of_cover _ _ _ _ _ (accFirst_cover m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 1600000 in
theorem body_A (c : Dev nD) (t : Fin cfg0.N) (h0 : t.val % 4 = 0) (hz : t.val ≠ 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  have h1 : ¬t.val % 4 = 3 := by omega
  rw [hAt_first m c t h0, accAt_first m c t h0]
  rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
  rw [Phi_castSucc m c t, Phi_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexists _; iexact HS0
  isplitl [HS1]; · iexists _; iexact HS1
  iintro ⟨H0, H1, H2, H3, H4, H5, H6, H7, H8, H9, H10, H11, H12, H13, H14, H15, H16, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (hFirst_cover m c t h0)
      unfold owns; iexists _; isplitr
      swap; · iexact HS1
      ipureintro; exact View.read_writes_of_cover _ _ _ _ _ (accFirst_cover m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 1600000 in
theorem body_B (c : Dev nD) (t : Fin cfg0.N) (h0 : ¬t.val % 4 = 0) (h1 : ¬t.val % 4 = 3) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  rw [hAt_next m c t h0, accAt_middle m c t h0 h1]
  rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
  rw [Phi_castSucc m c t, Phi_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runB m c t h0 h1 (hAt m c (t.val - 1) (pred_lt t)) (accAt m c (t.val - 1) (pred_lt t))).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (accMiddle_cover m c t h0 h1 _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 1600000 in
theorem body_C (c : Dev nD) (t : Fin cfg0.N) (h1 : t.val % 4 = 3) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, leaves_0, leaves_1, leaves_2, leaves_3, leaves_4, leaves_5, leaves_6, leaves_7, leaves_8, leaves_9, leaves_10, leaves_11, leaves_12, leaves_13, leaves_14, leaves_15]
  rw [show (dats m 0 c).owesAt () t.succ = (dats m 0 c).owesAt () t.castSucc from rfl]
  rw [show (dats m 0 c).Φ t.succ = iprop(iprop(owns (c : Thread nD τ) scM0_0 fullShare (hAt m c t.val t.isLt) ∗ owns (c : Thread nD τ) scM0_1 fullShare (accAt m c t.val t.isLt)) ∗ (∃ r, prngReg c r)) from rfl]
  have h0 : ¬t.val % 4 = 0 := by omega
  rw [hAt_next m c t h0, accAt_last m c t h1]
  rw [show (dats m 0 c).leavesExact 16 t = owns (c : Thread nD τ) (ms0_16 t) fullShare (outAt m c t) from by
    unfold Dat.leavesExact; rw [liveAt0_16_C t (fun h => h0 ((hcond0_0 t).mp h)) ((hcond0_1 t).mpr h1), after_16], outAt_last m c t h1]
  rw [Phi_castSucc m c t, Phi_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runC m c t h1 (hAt m c (t.val - 1) (pred_lt t)) (accAt m c (t.val - 1) (pred_lt t))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  iintro ⟨H0, H1, H2, H3, H4, H5, H6, H7, H8, H9, H10, H11, H12, H13, H14, H15, ⟨%e16, H16⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (accLast_cover m c t h1 _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr
  swap; · iexact H16
  ipureintro; exact View.read_writes_of_cover _ _ _ _ _ (outLast_cover m c t h1 _ _)

/-- The body at any point. -/
theorem body (c : Dev nD) (t : Fin cfg0.N) :
    pre m c t ⊢ wp frame (wpE (defs₀ (F := F)) Variants.none c none) Set.univ (bodyAt0 t) (fun _ => post m c t) := by
  by_cases h0 : t.val % 4 = 0
  · by_cases hz : t.val = 0
    · exact body_A0 m c t h0 hz
    · exact body_A m c t h0 hz
  · by_cases h1 : t.val % 4 = 3
    · exact body_C m c t h1
    · exact body_B m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem enter (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem leave (c : Dev nD) : (dats m 0 c).Φ (Fin.last cfg0.N) ⊢ Pipeline.ΦA spec0 c := by
  have hN : cfg0.N = 136 := N_0
  rw [show (dats m 0 c).Φ (Fin.last cfg0.N) = Phi m c cfg0.N (Nat.le_refl _) from rfl, Phi_pos m c _ _ (by omega), PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- The whole program runs to its end with every array at what the proof data says and no semaphore left raised. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and no semaphore is left raised. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel4Ideal.MlpFirstRun

end
-- ==== Proof.MlpFirstValue.lean ====
/- The value of the first layer's mlp call over the extended reals: the result array is the reference's term.

   `hidden`, `active` and `closing` are the stages of the reference's own term, `REF` the whole of it. A row block's
   four points each add the product over a quarter of the activation columns; the last one adds the input back. -/
module

public import proofs.«01_k».proof.Proof.MlpFirstRun
public import proofs.«01_k».proof.Proof.Gen.Reference4Ideal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.MlpFirst

open Cert.Kernel4Ideal Cert.Kernel4Ideal.Gen Cert.Kernel4Ideal.MlpFirstRun

variable (m : (ℓ : Loc nD τ sig) → Buf (Elt Ideal) ℓ)

open Cert.Reference4Ideal (S1x1x1024 S8x1x1x1024 S8x256x1024 S8x4096x1024 S8x4352x1 S8x4352x4096 S_ dot_S8x4352x1024_S1024x4096_S8x4352x4096_2_0_01_1_n_n dot_S8x4352x4096_S4096x1024_S8x4352x1024_2_0_01_1_n_n)
open Cert.Reference4Ideal.Gen (bcast_S1024_S1x1x1024_2 bcast_S1x1024_S8x256x1024_1_2 bcast_S1x1x1024_S8x4352x1024_0_1_2 bcast_S8x1x1024_S8x4096x1024_0_1_2 bcast_S8x4352_S8x4352x1_0_1 bcast_S8x4352x1_S8x4352x1024_0_1_2 bcast_S_S8x4352x1 bcast_S_S8x4352x1024 bcast_S_S8x4352x4096 concatenates_S8x256x1024_S8x4096x1024_S8x4352x1024_d1 h_S_ reducesTo_S8x4352x1024_S8x4352_d2 shapeCasts_S8x1x1x1024_S8x1x1024 slices_S16x6x1x1024_S1x1x1x1024_8_3_0_0 slices_S16x6x1x1024_S1x1x1x1024_8_4_0_0 slices_S16x6x1x1024_S1x1x1x1024_8_5_0_0 slices_S16x6x1x1024_S8x1x1x1024_0_3_0_0 slices_S16x6x1x1024_S8x1x1x1024_0_4_0_0 slices_S16x6x1x1024_S8x1x1x1024_0_5_0_0)

/-- Every row's shift. -/
def shifts (M : FVec Ideal Cert.Reference4Ideal.S16x6x1x1024 .f32) : FVec Ideal Cert.Reference4Ideal.S8x4352x1024 .f32 :=
  concatenate Cert.Reference4Ideal.S8x4352x1024 1 [⟨S8x256x1024, (broadcastInDim S8x256x1024 ![1, 2] bcast_S1x1024_S8x256x1024_1_2 (shapeCast _ (extractStridedSlice Cert.Reference4Ideal.S1x1x1x1024 ![8, 3, 0, 0] M slices_S16x6x1x1024_S1x1x1x1024_8_3_0_0) Cert.Reference4Ideal.Gen.shapeCasts_S1x1x1x1024_S1x1024))⟩, ⟨S8x4096x1024, (broadcastInDim S8x4096x1024 ![0, 1, 2] bcast_S8x1x1024_S8x4096x1024_0_1_2 (shapeCast _ (extractStridedSlice S8x1x1x1024 ![0, 3, 0, 0] M slices_S16x6x1x1024_S8x1x1x1024_0_3_0_0) shapeCasts_S8x1x1x1024_S8x1x1024))⟩] concatenates_S8x256x1024_S8x4096x1024_S8x4352x1024_d1

/-- Every row's scale. -/
def scales (M : FVec Ideal Cert.Reference4Ideal.S16x6x1x1024 .f32) : FVec Ideal Cert.Reference4Ideal.S8x4352x1024 .f32 :=
  concatenate Cert.Reference4Ideal.S8x4352x1024 1 [⟨S8x256x1024, (broadcastInDim S8x256x1024 ![1, 2] bcast_S1x1024_S8x256x1024_1_2 (shapeCast _ (extractStridedSlice Cert.Reference4Ideal.S1x1x1x1024 ![8, 4, 0, 0] M slices_S16x6x1x1024_S1x1x1x1024_8_4_0_0) Cert.Reference4Ideal.Gen.shapeCasts_S1x1x1x1024_S1x1024))⟩, ⟨S8x4096x1024, (broadcastInDim S8x4096x1024 ![0, 1, 2] bcast_S8x1x1024_S8x4096x1024_0_1_2 (shapeCast _ (extractStridedSlice S8x1x1x1024 ![0, 4, 0, 0] M slices_S16x6x1x1024_S8x1x1x1024_0_4_0_0) shapeCasts_S8x1x1x1024_S8x1x1024))⟩] concatenates_S8x256x1024_S8x4096x1024_S8x4352x1024_d1

/-- Every row's gate. -/
def gates (M : FVec Ideal Cert.Reference4Ideal.S16x6x1x1024 .f32) : FVec Ideal Cert.Reference4Ideal.S8x4352x1024 .f32 :=
  concatenate Cert.Reference4Ideal.S8x4352x1024 1 [⟨S8x256x1024, (broadcastInDim S8x256x1024 ![1, 2] bcast_S1x1024_S8x256x1024_1_2 (shapeCast _ (extractStridedSlice Cert.Reference4Ideal.S1x1x1x1024 ![8, 5, 0, 0] M slices_S16x6x1x1024_S1x1x1x1024_8_5_0_0) Cert.Reference4Ideal.Gen.shapeCasts_S1x1x1x1024_S1x1024))⟩, ⟨S8x4096x1024, (broadcastInDim S8x4096x1024 ![0, 1, 2] bcast_S8x1x1024_S8x4096x1024_0_1_2 (shapeCast _ (extractStridedSlice S8x1x1x1024 ![0, 5, 0, 0] M slices_S16x6x1x1024_S8x1x1x1024_0_5_0_0) shapeCasts_S8x1x1x1024_S8x1x1024))⟩] concatenates_S8x256x1024_S8x4096x1024_S8x4352x1024_d1

/-- The reference's normalised and modulated input of the two products. -/
def hidden (X : FVec Ideal Cert.Reference4Ideal.S8x4352x1024 .f32) (g : FVec Ideal Cert.Reference4Ideal.S1024 .f32) (M : FVec Ideal Cert.Reference4Ideal.S16x6x1x1024 .f32) : FVec Ideal Cert.Reference4Ideal.S8x4352x1024 .f32 :=
  addf (mulf (mulf (mulf X (broadcastInDim Cert.Reference4Ideal.S8x4352x1024 ![0, 1, 2] bcast_S8x4352x1_S8x4352x1024_0_1_2 (Host.rsqrt (addf (Host.divf (broadcastInDim S8x4352x1 ![0, 1] bcast_S8x4352_S8x4352x1_0_1 (Host.reduceAdd (mulf X X) (constant S_ .f32 0x00000000#32) reducesTo_S8x4352x1024_S8x4352_d2 h_S_)) (broadcastInDim S8x4352x1 ![] bcast_S_S8x4352x1 (constant S_ .f32 0x44800000#32))) (broadcastInDim S8x4352x1 ![] bcast_S_S8x4352x1 (constant S_ .f32 0x358637BD#32)))))) (broadcastInDim Cert.Reference4Ideal.S8x4352x1024 ![0, 1, 2] bcast_S1x1x1024_S8x4352x1024_0_1_2 (broadcastInDim S1x1x1024 ![2] bcast_S1024_S1x1x1024_2 g))) (addf (broadcastInDim Cert.Reference4Ideal.S8x4352x1024 ![] bcast_S_S8x4352x1024 (constant S_ .f32 0x3F800000#32)) (scales M))) (shifts M)

/-- The reference's squared activations. -/
def active (H : FVec Ideal Cert.Reference4Ideal.S8x4352x1024 .f32) (w : FVec Ideal Cert.Reference4Ideal.S1024x4096 .f32) : FVec Ideal S8x4352x4096 .f32 :=
  mulf (maximumf (Host.dotGeneral dot_S8x4352x1024_S1024x4096_S8x4352x4096_2_0_01_1_n_n none H w) (broadcastInDim S8x4352x4096 ![] bcast_S_S8x4352x4096 (constant S_ .f32 0x00000000#32))) (maximumf (Host.dotGeneral dot_S8x4352x1024_S1024x4096_S8x4352x4096_2_0_01_1_n_n none H w) (broadcastInDim S8x4352x4096 ![] bcast_S_S8x4352x4096 (constant S_ .f32 0x00000000#32)))

/-- The reference's result, over its activations, before the last reshape. -/
def closing (X : FVec Ideal Cert.Reference4Ideal.S8x4352x1024 .f32) (M : FVec Ideal Cert.Reference4Ideal.S16x6x1x1024 .f32) (A : FVec Ideal S8x4352x4096 .f32) (w : FVec Ideal Cert.Reference4Ideal.S4096x1024 .f32) : FVec Ideal Cert.Reference4Ideal.S8x4352x1024 .f32 :=
  addf X (mulf (gates M) (Host.dotGeneral dot_S8x4352x4096_S4096x1024_S8x4352x1024_2_0_01_1_n_n none A w))

/-- The reference's result. -/
def REF (X : FVec Ideal Cert.Reference4Ideal.S8x4352x1024 .f32) (g : FVec Ideal Cert.Reference4Ideal.S1024 .f32) (M : FVec Ideal Cert.Reference4Ideal.S16x6x1x1024 .f32) (w1 : FVec Ideal Cert.Reference4Ideal.S1024x4096 .f32) (w2 : FVec Ideal Cert.Reference4Ideal.S4096x1024 .f32) : FVec Ideal Cert.Reference4Ideal.S34816x1024 .f32 :=
  shapeCast _ (closing X M (active (hidden X g M) w1) w2) Cert.Reference4Ideal.Gen.shapeCasts_S8x4352x1024_S34816x1024

theorem ref_eq (m : (ℓ : Loc Cert.Reference4Ideal.nD Cert.Reference4Ideal.τ Cert.Reference4Ideal.sig) → Buf (Elt Ideal) ℓ) (c : Dev Cert.Reference4Ideal.nD) :
    Cert.Reference4Ideal.Value.res_main_v45 m c = REF (m ((c.tc : Thread _ _).loc Cert.Reference4Ideal.main_arg0)) (m ((c.tc : Thread _ _).loc Cert.Reference4Ideal.main_arg1)) (m ((c.tc : Thread _ _).loc Cert.Reference4Ideal.main_arg2)) (m ((c.tc : Thread _ _).loc Cert.Reference4Ideal.main_arg3)) (m ((c.tc : Thread _ _).loc Cert.Reference4Ideal.main_arg4)) := rfl

/-- Times 1/1024 is divided by 1024. -/
theorem mean_eq (a : EReal) : Ideal.div a (Ideal.ofBits FTy.f32 1149239296#32) = a * Ideal.ofBits FTy.f32 981467136#32 := by
  have e1 : Ideal.ofBits FTy.f32 1149239296#32 = ((1024 : ℝ) : EReal) := by
    simp [Ideal.ofBits, Ideal.ieee, -EReal.coe_mul]; norm_num
  have e2 : Ideal.ofBits FTy.f32 981467136#32 = ((1 / 1024 : ℝ) : EReal) := by
    simp [Ideal.ofBits, Ideal.ieee, -EReal.coe_mul]; norm_num
  rw [e1, e2, Ideal.div_coe (by norm_num)]

/-- The modulation row of a row of a batch. -/
def mrow (b : Fin 8) (n : Fin 4352) : Fin 16 := if n.val < 256 then 8 else ⟨b.val, by omega⟩

theorem mrow_eq (b : Fin 8) (n : Fin 4352) (q x : ℕ) (hx : x < 256) (e : b.val * 4352 + n.val = q * 256 + x) :
    (mrow b n).val = if q % 17 = 0 then 8 else q / 17 := by
  unfold mrow
  by_cases h : n.val < 256
  · rw [if_pos h, if_pos (by omega)]; rfl
  · rw [if_neg h, if_neg (by omega)]; show b.val = _; omega

theorem shifts_at (M : FVec Ideal Cert.Reference4Ideal.S16x6x1x1024 .f32) (b : Fin 8) (n : Fin 4352) (k : Fin 1024) :
    shifts M (ix3 b n k) = M (ix4 (mrow b n) 3 0 k) := by
  unfold mrow
  pointwise [shifts]
  split <;> rfl

theorem scales_at (M : FVec Ideal Cert.Reference4Ideal.S16x6x1x1024 .f32) (b : Fin 8) (n : Fin 4352) (k : Fin 1024) :
    scales M (ix3 b n k) = M (ix4 (mrow b n) 4 0 k) := by
  unfold mrow
  pointwise [scales]
  split <;> rfl

theorem gates_at (M : FVec Ideal Cert.Reference4Ideal.S16x6x1x1024 .f32) (b : Fin 8) (n : Fin 4352) (k : Fin 1024) :
    gates M (ix3 b n k) = M (ix4 (mrow b n) 5 0 k) := by
  unfold mrow
  pointwise [gates]
  split <;> rfl

theorem hidden_at (X : FVec Ideal S8x4352x1024 .f32) (g : FVec Ideal S1024 .f32) (M : FVec Ideal S16x6x1x1024 .f32) (b : Fin 8) (n : Fin 4352) (k : Fin 1024) :
    hidden X g M (ix3 b n k) = X (ix3 b n k) *
            Ideal.rsqrt ((∑ x, X (ix3 b n x) * X (ix3 b n x)) * Ideal.ofBits FTy.f32 981467136#32 + Ideal.ofBits FTy.f32 897988541#32) *
          g (ix1 k) * (1 + M (ix4 (mrow b n) 4 0 k)) + M (ix4 (mrow b n) 3 0 k) := by
  rw [← mean_eq, ← scales_at M b n k, ← shifts_at M b n k]
  pointwise [hidden]

theorem active_at (H : FVec Ideal S8x4352x1024 .f32) (w : FVec Ideal S1024x4096 .f32) (b : Fin 8) (n : Fin 4352) (k : Fin 4096) :
    active H w (ix3 b n k) = max (∑ x, H (ix3 b n x) * w (ix2 x k)) 0 * max (∑ x, H (ix3 b n x) * w (ix2 x k)) 0 := by
  pointwise [active]

theorem closing_at (X : FVec Ideal S8x4352x1024 .f32) (M : FVec Ideal S16x6x1x1024 .f32) (A : FVec Ideal S8x4352x4096 .f32) (w : FVec Ideal S4096x1024 .f32) (b : Fin 8) (n : Fin 4352) (k : Fin 1024) :
    closing X M A w (ix3 b n k) = X (ix3 b n k) + M (ix4 (mrow b n) 5 0 k) * ∑ x, A (ix3 b n x) * w (ix2 x k) := by
  rw [← gates_at M b n k]
  pointwise [closing]

/-- Every window's block index at every grid point. -/
theorem idx : ∀ t : Fin cfg0.N, win0_0.index t = ![t.val / 4, 0]
    ∧ win0_1.index t = ![0, 0]
    ∧ win0_14.index t = ![0, t.val % 4]
    ∧ win0_15.index t = ![t.val % 4, 0]
    ∧ win0_16.index t = ![t.val / 4, 0] :=
  (by decide +kernel : ∀ t : Fin grid0.N, _)

theorem idx_2 : ∀ t : Fin cfg0.N, win0_2.index t = ![if (t.val / 4 * 4 + 0) % 17 = 0 then 8 else (t.val / 4 * 4 + 0) / 17, 3, 0, 0] :=
  (by decide +kernel : ∀ t : Fin grid0.N, _)

theorem idx_3 : ∀ t : Fin cfg0.N, win0_3.index t = ![if (t.val / 4 * 4 + 0) % 17 = 0 then 8 else (t.val / 4 * 4 + 0) / 17, 4, 0, 0] :=
  (by decide +kernel : ∀ t : Fin grid0.N, _)

theorem idx_4 : ∀ t : Fin cfg0.N, win0_4.index t = ![if (t.val / 4 * 4 + 0) % 17 = 0 then 8 else (t.val / 4 * 4 + 0) / 17, 5, 0, 0] :=
  (by decide +kernel : ∀ t : Fin grid0.N, _)

theorem idx_5 : ∀ t : Fin cfg0.N, win0_5.index t = ![if (t.val / 4 * 4 + 1) % 17 = 0 then 8 else (t.val / 4 * 4 + 1) / 17, 3, 0, 0] :=
  (by decide +kernel : ∀ t : Fin grid0.N, _)

theorem idx_6 : ∀ t : Fin cfg0.N, win0_6.index t = ![if (t.val / 4 * 4 + 1) % 17 = 0 then 8 else (t.val / 4 * 4 + 1) / 17, 4, 0, 0] :=
  (by decide +kernel : ∀ t : Fin grid0.N, _)

theorem idx_7 : ∀ t : Fin cfg0.N, win0_7.index t = ![if (t.val / 4 * 4 + 1) % 17 = 0 then 8 else (t.val / 4 * 4 + 1) / 17, 5, 0, 0] :=
  (by decide +kernel : ∀ t : Fin grid0.N, _)

theorem idx_8 : ∀ t : Fin cfg0.N, win0_8.index t = ![if (t.val / 4 * 4 + 2) % 17 = 0 then 8 else (t.val / 4 * 4 + 2) / 17, 3, 0, 0] :=
  (by decide +kernel : ∀ t : Fin grid0.N, _)

theorem idx_9 : ∀ t : Fin cfg0.N, win0_9.index t = ![if (t.val / 4 * 4 + 2) % 17 = 0 then 8 else (t.val / 4 * 4 + 2) / 17, 4, 0, 0] :=
  (by decide +kernel : ∀ t : Fin grid0.N, _)

theorem idx_10 : ∀ t : Fin cfg0.N, win0_10.index t = ![if (t.val / 4 * 4 + 2) % 17 = 0 then 8 else (t.val / 4 * 4 + 2) / 17, 5, 0, 0] :=
  (by decide +kernel : ∀ t : Fin grid0.N, _)

theorem idx_11 : ∀ t : Fin cfg0.N, win0_11.index t = ![if (t.val / 4 * 4 + 3) % 17 = 0 then 8 else (t.val / 4 * 4 + 3) / 17, 3, 0, 0] :=
  (by decide +kernel : ∀ t : Fin grid0.N, _)

theorem idx_12 : ∀ t : Fin cfg0.N, win0_12.index t = ![if (t.val / 4 * 4 + 3) % 17 = 0 then 8 else (t.val / 4 * 4 + 3) / 17, 4, 0, 0] :=
  (by decide +kernel : ∀ t : Fin grid0.N, _)

theorem idx_13 : ∀ t : Fin cfg0.N, win0_13.index t = ![if (t.val / 4 * 4 + 3) % 17 = 0 then 8 else (t.val / 4 * 4 + 3) / 17, 5, 0, 0] :=
  (by decide +kernel : ∀ t : Fin grid0.N, _)

/-- A first point stores the hidden rows of its row block. -/
theorem hFirst_at (c : Dev nD) (t : Fin cfg0.N) (h0 : t.val % 4 = 0) (y : S1024x1024.Idx) (b : Fin 8) (n : Fin 4352) (k : Fin 1024)
    (hb : b.val = (t.val / 4 * 1024 + (y 0).val) / 4352) (hn : n.val = (t.val / 4 * 1024 + (y 0).val) % 4352) (hk : k.val = (y 1).val) :
    hFirst m c t h0 y = hidden (m ((c : Thread nD τ).loc main_arg0)) (m ((c : Thread nD τ).loc main_arg1)) (m ((c : Thread nD τ).loc main_arg2)) (ix3 b n k) := by
  have hN : t.val < 136 := lt_of_lt_of_eq t.isLt (show cfg0.N = 136 from N_0)
  unfold hFirst runA; frame_out
  rw [hidden_at]
  canon_tiles x h
  · have r := mrow_eq b n (t.val / 4 * 4 + 3) (x 0).val (by omega) (by omega)
    have i0 := idx_11 t
    have i1 := idx_12 t
    rw [← r] at i0 i1
    generalize mrow b n = R at i0 i1 ⊢
    pointwise [k0_pay1, k0_pay15, k0_pay16, k0_pay17, k0_pay18]
    blk_point [iblk, V, idx t, i0, i1]
  · have r := mrow_eq b n (t.val / 4 * 4 + 2) (x 0).val (by omega) (by omega)
    have i0 := idx_8 t
    have i1 := idx_9 t
    rw [← r] at i0 i1
    generalize mrow b n = R at i0 i1 ⊢
    pointwise [k0_pay14, k0_pay9, k0_pay10, k0_pay11, k0_pay12, k0_pay13]
    blk_point [iblk, V, idx t, i0, i1]
  · have r := mrow_eq b n (t.val / 4 * 4 + 1) (x 0).val (by omega) (by omega)
    have i0 := idx_5 t
    have i1 := idx_6 t
    rw [← r] at i0 i1
    generalize mrow b n = R at i0 i1 ⊢
    pointwise [k0_pay8, k0_pay6, k0_pay7]
    blk_point [iblk, V, idx t, i0, i1]
  · have r := mrow_eq b n (t.val / 4 * 4 + 0) (x 0).val (by omega) (by omega)
    have i0 := idx_2 t
    have i1 := idx_3 t
    rw [← r] at i0 i1
    generalize mrow b n = R at i0 i1 ⊢
    pointwise [k0_pay5]
    blk_point [iblk, V, idx t, i0, i1]

/-- The hidden rows. -/
abbrev HR (c : Dev nD) : FVec Ideal S8x4352x1024 .f32 := hidden (m ((c : Thread nD τ).loc main_arg0)) (m ((c : Thread nD τ).loc main_arg1)) (m ((c : Thread nD τ).loc main_arg2))

/-- The activations. -/
abbrev AR (c : Dev nD) : FVec Ideal S8x4352x4096 .f32 := active (HR m c) (m ((c : Thread nD τ).loc main_arg3))

/-- A scratch block that holds the hidden rows of point `t`. -/
def Holds (c : Dev nD) (t : ℕ) (h : Vec Ideal S1024x1024 .bf16) : Prop :=
  ∀ (y : S1024x1024.Idx) (b : Fin 8) (n : Fin 4352) (k : Fin 1024), b.val = (t / 4 * 1024 + (y 0).val) / 4352 → n.val = (t / 4 * 1024 + (y 0).val) % 4352 → k.val = (y 1).val → h y = HR m c (ix3 b n k)

/-- What point `t` adds to the entry of row `n` and column `k`. -/
def part (c : Dev nD) (j : Fin 4) (b : Fin 8) (n : Fin 4352) (k : Fin 1024) : EReal :=
  ∑ x : Fin 1024, AR m c (ix3 b n ⟨j.val * 1024 + x.val, by omega⟩) * m ((c : Thread nD τ).loc main_arg4) (ix2 (⟨j.val * 1024 + x.val, by omega⟩ : Fin 4096) k)

theorem step (c : Dev nD) (t : Fin cfg0.N) (h : Vec Ideal S1024x1024 .bf16) (a : Vec Ideal S1024x1024 .f32) (hh : Holds m c t.val h)
    (y : S1024x1024.Idx) (b : Fin 8) (n : Fin 4352) (k : Fin 1024) (j : Fin 4) (hb : b.val = (t.val / 4 * 1024 + (y 0).val) / 4352) (hn : n.val = (t.val / 4 * 1024 + (y 0).val) % 4352) (hk : k.val = (y 1).val)
    (hj : j.val = t.val % 4) :
    k0_pay3 h (iblk m c 14 t) a (iblk m c 15 t) y = a y + part m c j b n k := by
  have hN : t.val < 136 := lt_of_lt_of_eq t.isLt (show cfg0.N = 136 from N_0)
  have inner : ∀ x : Fin 1024, (∑ x_1, h (ix2 (y 0) x_1) * iblk m c 14 t (ix2 x_1 x))
      = ∑ x_1, HR m c (ix3 b n x_1) * m ((c : Thread nD τ).loc main_arg3) (ix2 x_1 (⟨j.val * 1024 + x.val, by omega⟩ : Fin 4096)) := fun x =>
    Finset.sum_congr rfl fun x_1 _ => by
      rw [hh (ix2 (y 0) x_1) b n x_1 hb hn rfl]
      blk_point [iblk, V, idx t]
  have outer : ∀ x : Fin 1024, iblk m c 15 t (ix2 x (y 1)) = m ((c : Thread nD τ).loc main_arg4) (ix2 (⟨j.val * 1024 + x.val, by omega⟩ : Fin 4096) k) := fun x => by
    blk_point [iblk, V, idx t]
  pointwise [k0_pay3]
  refine congrArg₂ (· + ·) rfl (Finset.sum_congr rfl fun x _ => ?_)
  refine (congrArg₂ (· * ·) (congrArg (fun z : EReal => max z 0 * max z 0) (inner x)) (outer x)).trans ?_
  exact congrArg (fun z : EReal => z * m ((c : Thread nD τ).loc main_arg4) (ix2 (⟨j.val * 1024 + x.val, by omega⟩ : Fin 4096) k)) (active_at (HR m c) _ b n _).symm

theorem first_at (c : Dev nD) (t : Fin cfg0.N) (h0 : t.val % 4 = 0) : accFirst m c t h0 = k0_pay3 (hFirst m c t h0) (iblk m c 14 t) (k0_pay2 (F := Ideal)) (iblk m c 15 t) := by
  funext y
  unfold accFirst hFirst runA; frame_out
  rw [View.readCov_eq_canon_ld]
  · rw [View.ld_unit_zero (by funext a; fin_cases a <;> rfl)]
  · exact View.cover_of_tiledL (s := S1024x1024) _ S256x1024.size (by sl_kernel_rfl)

theorem middle_at (c : Dev nD) (t : Fin cfg0.N) (h0 : ¬t.val % 4 = 0) (h1 : ¬t.val % 4 = 3) (h a) : accMiddle m c t h0 h1 h a = k0_pay3 h (iblk m c 14 t) a (iblk m c 15 t) := by
  funext y
  unfold accMiddle runB; frame_out
  simp only [(Memref.isWhole_whole _).read_unread]

theorem last_at (c : Dev nD) (t : Fin cfg0.N) (h1 : t.val % 4 = 3) (h a) : accLast m c t h1 h a = k0_pay3 h (iblk m c 14 t) a (iblk m c 15 t) := by
  funext y
  unfold accLast runC; frame_out
  simp only [(Memref.isWhole_whole _).read_unread]

theorem out_at (c : Dev nD) (t : Fin cfg0.N) (h1 : t.val % 4 = 3) (h a) (y : S1024x1024.Idx) (b : Fin 8) (n : Fin 4352) (k : Fin 1024)
    (hb : b.val = (t.val / 4 * 1024 + (y 0).val) / 4352) (hn : n.val = (t.val / 4 * 1024 + (y 0).val) % 4352) (hk : k.val = (y 1).val) :
    outLast m c t h1 h a y = HAdd.hAdd (α := EReal) (m ((c : Thread nD τ).loc main_arg0) (ix3 b n k)) (HMul.hMul (α := EReal) (m ((c : Thread nD τ).loc main_arg2) (ix4 (mrow b n) 5 0 k)) (accLast m c t h1 h a y)) := by
  have hN : t.val < 136 := lt_of_lt_of_eq t.isLt (show cfg0.N = 136 from N_0)
  rw [last_at]
  unfold outLast runC; frame_out
  simp only [(Memref.isWhole_whole _).read_unread]
  generalize k0_pay3 h (iblk m c 14 t) a (iblk m c 15 t) = G
  have e : View.canon (Val := Elt Ideal) (s := S1024x1024) (e := .f32) [⟨Rect.unit (s := S1024x1024) ![0, 0] ![1024, 1024] inb_S1024x1024_S1024x1024_0_0, G⟩] = G :=
    View.canon_cons_unit_lit (Val := Elt Ideal) (S := S1024x1024) (e := .f32) (off := ![0, 0]) inb_S1024x1024_S1024x1024_0_0 G [] (fun a => by fin_cases a <;> rfl)
  canon_tiles x h
  · rw [View.readCov_eq_canon_ld]
    · rw [e]
      have r := mrow_eq b n (t.val / 4 * 4 + 3) (x 0).val (by omega) (by omega)
      have i0 := idx_13 t
      rw [← r] at i0
      generalize mrow b n = R at i0 ⊢
      pointwise [k0_pay4]
      blk_point [iblk, V, idx t, i0]
    · exact View.cover_of_tiledL (s := S1024x1024) _ S1024x1024.size (by sl_kernel_rfl)
  · rw [View.readCov_eq_canon_ld]
    · rw [e]
      have r := mrow_eq b n (t.val / 4 * 4 + 2) (x 0).val (by omega) (by omega)
      have i0 := idx_10 t
      rw [← r] at i0
      generalize mrow b n = R at i0 ⊢
      pointwise [k0_pay21]
      blk_point [iblk, V, idx t, i0]
    · exact View.cover_of_tiledL (s := S1024x1024) _ S1024x1024.size (by sl_kernel_rfl)
  · rw [View.readCov_eq_canon_ld]
    · rw [e]
      have r := mrow_eq b n (t.val / 4 * 4 + 1) (x 0).val (by omega) (by omega)
      have i0 := idx_7 t
      rw [← r] at i0
      generalize mrow b n = R at i0 ⊢
      pointwise [k0_pay20]
      blk_point [iblk, V, idx t, i0]
    · exact View.cover_of_tiledL (s := S1024x1024) _ S1024x1024.size (by sl_kernel_rfl)
  · rw [View.readCov_eq_canon_ld]
    · rw [e]
      have r := mrow_eq b n (t.val / 4 * 4 + 0) (x 0).val (by omega) (by omega)
      have i0 := idx_4 t
      rw [← r] at i0
      generalize mrow b n = R at i0 ⊢
      pointwise [k0_pay19]
      blk_point [iblk, V, idx t, i0]
    · exact View.cover_of_tiledL (s := S1024x1024) _ S1024x1024.size (by sl_kernel_rfl)

/-- Before the last point of a run the accumulator holds three parts. -/
theorem holds (c : Dev nD) (t : Fin cfg0.N) : Holds m c t.val (hAt m c t.val t.isLt) := by
  have key : ∀ (j : ℕ), j < 4 → ∀ t : Fin cfg0.N, t.val % 4 = j → Holds m c t.val (hAt m c t.val t.isLt) := by
    intro j
    induction j with
    | zero =>
      intro _ t ht y b n k hb hn hk
      rw [hAt_first m c t ht]
      exact hFirst_at m c t ht y b n k hb hn hk
    | succ j ih =>
      intro hj t ht y b n k hb hn hk
      rw [hAt_next m c t (by omega)]
      exact ih (by omega) ⟨t.val - 1, pred_lt t⟩ (by show (t.val - 1) % 4 = j; omega) y b n k (by show b.val = ((t.val - 1) / 4 * 1024 + (y 0).val) / 4352; omega)
        (by show n.val = ((t.val - 1) / 4 * 1024 + (y 0).val) % 4352; omega) hk
  exact key (t.val % 4) (by omega) t rfl

theorem Holds.next {c : Dev nD} {t t' : ℕ} {h} (H : Holds m c t h) (e : t' / 4 = t / 4) : Holds m c t' h :=
  fun y b n k hb hn hk => H y b n k (by omega) (by omega) hk

theorem acc0 (c : Dev nD) (t : Fin cfg0.N) (h0 : t.val % 4 = 0) (y : S1024x1024.Idx) (b : Fin 8) (n : Fin 4352) (k : Fin 1024)
    (hb : b.val = (t.val / 4 * 1024 + (y 0).val) / 4352) (hn : n.val = (t.val / 4 * 1024 + (y 0).val) % 4352) (hk : k.val = (y 1).val) :
    accAt m c t.val t.isLt y = part m c 0 b n k := by
  have hH := holds m c t
  rw [hAt_first m c t h0] at hH
  rw [accAt_first m c t h0, first_at, step m c t _ _ hH y b n k 0 hb hn hk (by omega)]
  have : (k0_pay2 (F := Ideal)) y = 0 := by pointwise [k0_pay2]
  rw [this, zero_add]

theorem accN (c : Dev nD) (t : Fin cfg0.N) (j : Fin 4) (hj : j.val = t.val % 4) (h0 : ¬t.val % 4 = 0) (y : S1024x1024.Idx) (b : Fin 8) (n : Fin 4352) (k : Fin 1024)
    (hb : b.val = (t.val / 4 * 1024 + (y 0).val) / 4352) (hn : n.val = (t.val / 4 * 1024 + (y 0).val) % 4352) (hk : k.val = (y 1).val) :
    accAt m c t.val t.isLt y = accAt m c (t.val - 1) (pred_lt t) y + part m c j b n k := by
  have hH : Holds m c t.val (hAt m c (t.val - 1) (pred_lt t)) := (holds m c ⟨t.val - 1, pred_lt t⟩).next m (by show t.val / 4 = (t.val - 1) / 4; omega)
  by_cases h1 : t.val % 4 = 3
  · rw [accAt_last m c t h1, last_at]
    exact step m c t _ _ hH y b n k j hb hn hk hj
  · rw [accAt_middle m c t h0 h1, middle_at]
    exact step m c t _ _ hH y b n k j hb hn hk hj

theorem acc3 (c : Dev nD) (t : Fin cfg0.N) (h1 : t.val % 4 = 3) (y : S1024x1024.Idx) (b : Fin 8) (n : Fin 4352) (k : Fin 1024)
    (hb : b.val = (t.val / 4 * 1024 + (y 0).val) / 4352) (hn : n.val = (t.val / 4 * 1024 + (y 0).val) % 4352) (hk : k.val = (y 1).val) :
    accAt m c t.val t.isLt y = ∑ x : Fin 4096, AR m c (ix3 b n x) * m ((c : Thread nD τ).loc main_arg4) (ix2 x k) := by
  have p := pred_lt t
  have p2 : t.val - 2 < cfg0.N := by omega
  have p3 : t.val - 3 < cfg0.N := by omega
  rw [accN m c t 3 h1.symm (by omega) y b n k hb hn hk]
  have e2 := accN m c ⟨t.val - 1, p⟩ 2 (by show 2 = (t.val - 1) % 4; omega) (by show ¬ (t.val - 1) % 4 = 0; omega) y b n k
    (by show b.val = ((t.val - 1) / 4 * 1024 + (y 0).val) / 4352; omega) (by show n.val = ((t.val - 1) / 4 * 1024 + (y 0).val) % 4352; omega) hk
  have e1 := accN m c ⟨t.val - 2, p2⟩ 1 (by show 1 = (t.val - 2) % 4; omega) (by show ¬ (t.val - 2) % 4 = 0; omega) y b n k
    (by show b.val = ((t.val - 2) / 4 * 1024 + (y 0).val) / 4352; omega) (by show n.val = ((t.val - 2) / 4 * 1024 + (y 0).val) % 4352; omega) hk
  have e0 := acc0 m c ⟨t.val - 3, p3⟩ (by show (t.val - 3) % 4 = 0; omega) y b n k
    (by show b.val = ((t.val - 3) / 4 * 1024 + (y 0).val) / 4352; omega) (by show n.val = ((t.val - 3) / 4 * 1024 + (y 0).val) % 4352; omega) hk
  have e : accAt m c (t.val - 1) p y = part m c 0 b n k + part m c 1 b n k + part m c 2 b n k :=
    e2.trans (congrArg (· + part m c 2 b n k) (e1.trans (congrArg (· + part m c 1 b n k) e0)))
  rw [e]
  refine Eq.symm ((Fin.sum_univ_tiles 4 1024 rfl _).trans ?_)
  rw [Fin.sum_univ_four]
  rfl

theorem ref_at (X : FVec Ideal S8x4352x1024 .f32) (g : FVec Ideal S1024 .f32) (M : FVec Ideal S16x6x1x1024 .f32) (w1 : FVec Ideal S1024x4096 .f32) (w2 : FVec Ideal S4096x1024 .f32)
    (i : S34816x1024.Idx) (b : Fin 8) (n : Fin 4352) (k : Fin 1024) (hi : (i 0).val = b.val * 4352 + n.val) (hk : (i 1).val = k.val) :
    REF X g M w1 w2 i = closing X M (active (hidden X g M) w1) w2 (ix3 b n k) := by
  pointwise [REF]
  blk_ext

theorem point (c : Dev nD) (t : Fin cfg0.N) (h1 : t.val % 4 = 3) (y : S1024x1024.Idx) (i : S34816x1024.Idx) (hi : (i 0).val = t.val / 4 * 1024 + (y 0).val) (hk : (i 1).val = (y 1).val) :
    outAt m c t y
      = REF (m ((c : Thread nD τ).loc main_arg0)) (m ((c : Thread nD τ).loc main_arg1)) (m ((c : Thread nD τ).loc main_arg2)) (m ((c : Thread nD τ).loc main_arg3)) (m ((c : Thread nD τ).loc main_arg4)) i := by
  have hN : t.val < 136 := lt_of_lt_of_eq t.isLt (show cfg0.N = 136 from N_0)
  have y0 : (y 0).val < 1024 := (y 0).isLt
  have y1 : (y 1).val < 1024 := (y 1).isLt
  have a := acc3 m c t h1 y ⟨(t.val / 4 * 1024 + (y 0).val) / 4352, by omega⟩ ⟨(t.val / 4 * 1024 + (y 0).val) % 4352, by omega⟩ ⟨(y 1).val, y1⟩ rfl rfl rfl
  have o := out_at m c t h1 (hAt m c (t.val - 1) (pred_lt t)) (accAt m c (t.val - 1) (pred_lt t)) y ⟨(t.val / 4 * 1024 + (y 0).val) / 4352, by omega⟩ ⟨(t.val / 4 * 1024 + (y 0).val) % 4352, by omega⟩ ⟨(y 1).val, y1⟩ rfl rfl rfl
  rw [← accAt_last, a] at o
  rw [outAt_last m c t h1, o, ref_at _ _ _ _ _ i ⟨(t.val / 4 * 1024 + (y 0).val) / 4352, by omega⟩ ⟨(t.val / 4 * 1024 + (y 0).val) % 4352, by omega⟩ ⟨(y 1).val, y1⟩ (by rw [hi]; show _ = (t.val / 4 * 1024 + (y 0).val) / 4352 * 4352 + ((t.val / 4 * 1024 + (y 0).val) % 4352); omega) hk,
    closing_at]

theorem final (c : Dev nD) : (dats m 0 c).arrAt 16 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  have h1 : t.val % 4 = 3 := (by decide +kernel : ∀ t : Fin cfg0.N, (cfg0.win 16).flush t = true → t.val % 4 = 3) t hf
  blk_simp
  rw [after_16]
  refine point m c t h1 _ _ ?_ ?_ <;> (blk_simp [idx t] <;> try omega)

end Cert.Kernel4Ideal.MlpFirst

end
-- ==== Proof.MlpFirstClaims.lean ====
/- The claims about the first layer's mlp call: both programs' frames, the reference's, and the value. -/
module

public import proofs.«01_k».proof.Defs
public import proofs.«01_k».proof.Proof.MlpFirstValue
public import proofs.«01_k».proof.Proof.Gen.Kernel4
public import Idealize.ShloMosaic.Lib.Quiescent

@[expose] public section

set_option maxRecDepth 16384

noncomputable section

namespace Cert.Proof

open Idealize.ShloMosaic Idealize.SL.Sem

section
variable {F : FTy → Type} [FloatOps F]

set_option maxHeartbeats 4000000 in
/-- The two kernels have one text: their body tables agree at any reading of the values, -/
theorem mlp_first_bodies : @Cert.Kernel4.defs₀ F _ _ = @Cert.Kernel4Ideal.defs₀ F _ _ := by
  unfold Cert.Kernel4.defs₀ Cert.Kernel4Ideal.defs₀
  refine congrArg Defs.onTc (funext fun l => funext fun a => ?_)
  match l, a with
  | 0, (t, s) => rfl
  | ⟨_ + 1, h⟩, _ => exact absurd h (Nat.not_lt.2 (Nat.le_add_left _ _))

theorem mlp_first_tables : @Cert.Kernel4.defs F _ _ = @Cert.Kernel4Ideal.defs F _ _ := congrArg (Pipeline.defs Cert.Kernel4Ideal.pcfgs) mlp_first_bodies

end

/-- so the run at any reading serves both frames. -/
theorem mlp_first_frame : Cert.quiescent_Kernel4 := fun m ρ _ => by
  have h := Cert.Kernel4Ideal.MlpFirstRun.kept (F := Bits) m ρ
  rw [← mlp_first_tables] at h
  exact h

theorem mlp_first_frame_ideal : Cert.quiescent_Kernel4Ideal := fun m ρ _ => Cert.Kernel4Ideal.MlpFirstRun.kept (F := Ideal) m ρ

theorem mlp_first_frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

set_option maxHeartbeats 4000000 in
/-- The reference's run, its result under its name here. -/
theorem mlp_first_reference_run (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v45) = Cert.Kernel4Ideal.MlpFirst.REF (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4) :=
  Cert.Reference4Ideal.Value.run (F := Ideal) m ρ

set_option maxHeartbeats 4000000 in
theorem mlp_first_value : Cert.algebraic_Kernel4Ideal_Reference4Ideal := by
  pair_intro
  · run_from Cert.Kernel4Ideal.MlpFirstRun.run_main m g
    exact hc.1 16
  · refine (θ_run Cert.Reference4Ideal.defs _ _).mono (fun r h c => ?_) (mlp_first_reference_run m' g')
    obtain ⟨a0, a1, a2, a3, a4⟩ := hagree c
    obtain ⟨h0, k⟩ := h c
    have e0 := h0.trans ((by rw [a0, a1, a2, a3, a4] : Cert.Kernel4Ideal.MlpFirst.REF (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = Cert.Kernel4Ideal.MlpFirst.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).trans (Cert.Kernel4Ideal.MlpFirst.final m c).symm)
    exact ⟨e0, k⟩

end Cert.Proof

end
-- ==== Proof.AttnSafe.lean ====
/- Rules for a program that only loads and stores through buffers it holds at contents nobody names.

   `Safe c P p`: from `P` the program `p` runs to its end and leaves `P`. `Held P m`: `P` holds the buffer of `m` and can take
   it back at any contents. Over these, a straight run of loads and stores is safe whatever the values are. -/
module

public import proofs.«01_k».proof.Proof.Gen.KernelIdeal.Frame
public import Idealize.ShloMosaic.Lib.Claim

@[expose] public section

noncomputable section

namespace Cert.KernelIdeal.AttnSafe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A program of the kernel's own signature. -/
abbrev Pg (F : FTy → Type) (α : Type) := Prog (TpuEff nD τ sig (Elt F) Λ₀ .tc) α

/-- Its runs. -/
abbrev W (c : Dev nD) {α : Type} (p : Pg F α) (Q : α → sProp 𝕄) : sProp 𝕄 :=
  wp frame (wpE (defs₀ (F := F)) Variants.none (c : Thread nD τ) none) Set.univ p Q

/-- From `P` the program runs to its end and leaves `P`. -/
def Safe (c : Dev nD) (P : sProp 𝕄) {α : Type} (p : Pg F α) : Prop := P ⊢ W c p (fun _ => P)

/-- `P` holds the buffer of `m` and takes it back at any contents. -/
def Held (c : Dev nD) (P : sProp 𝕄) {sh : Shape} {e : EltTy} (m : Memref sig .tc .vmem sh e) : Prop :=
  ∃ S : Finset (Idx (m.view.loc (c : Thread nD τ))), m.view.set ⊆ S ∧
    (P ⊢ iprop(∃ f : Buf (Elt F) (m.view.loc (c : Thread nD τ)), (m.view.loc (c : Thread nD τ) ↦[S]{fullShare} f)
      ∗ (∀ f' : Buf (Elt F) (m.view.loc (c : Thread nD τ)), (m.view.loc (c : Thread nD τ) ↦[S]{fullShare} f') -∗ P)))

variable {c : Dev nD} {P : sProp (MT nD τ sig Unit (Elt F) ℕ (UR sig nD τ) ℕ)}

theorem safe_load {α : Type} {sh : Shape} {e : EltTy} {m : Memref sig .tc .vmem sh e} {r : LoadRect sh} {hl : m.view.LoadsAt r}
    {k : (r.shape.Idx → Elt F e) → Pg F α} (h : Held c P m) (hk : ∀ v, Safe c P (k v)) :
    Safe c P (Prog.lift (.load m r hl) >>= k) := by
  obtain ⟨S, hS, hP⟩ := h
  refine hP.trans ?_
  iintro ⟨%f, H, HK⟩
  iapply (wp_load (defs := defs₀ (F := F)) Variants.none (c : Thread nD τ) none Set.univ
    (Q := fun _ => P) (m := m) (r := r) (hl := hl) (k := k) (q := fullShare) (f := f) ((View.setOn_subset_set _ _).trans hS)) $$ [H]
  · iexact H
  iintro H
  iapply (show P ⊢ W c (k _) (fun _ => P) from hk _)
  iapply HK $$ %f
  iexact H

theorem safe_store {α : Type} {sh : Shape} {e : EltTy} {m : Memref sig .tc .vmem sh e} {r : Rect sh} {w : r.shape.Idx → Elt F e}
    {hx : (m.access r).Stores Finset.univ} {hm : Finset.univ = Finset.univ ∨ ∀ a, r.stride a = 1}
    {k : PUnit → Pg F α} (h : Held c P m) (hk : Safe c P (k ⟨⟩)) :
    Safe c P (Prog.lift (.store m r w Finset.univ hx hm) >>= k) := by
  obtain ⟨S, hS, hP⟩ := h
  have hS' : (m.access r).setOn Finset.univ ⊆ S := ((View.setOn_subset_set (m.access r) _).trans (View.set_slice_subset m.view r)).trans hS
  refine hP.trans ?_
  iintro ⟨%f, H, HK⟩
  iapply (wp_store (defs := defs₀ (F := F)) Variants.none (c : Thread nD τ) none Set.univ
    (Q := fun _ => P) (m := m) (r := r) (w := w) (hx := hx) (hm := hm) (k := k) (f := f) hS') $$ [H]
  · iexact H
  iintro H
  iapply (show P ⊢ W c (k ⟨⟩) (fun _ => P) from hk)
  iapply HK
  iexact H

theorem safe_pure {α : Type} (a : α) : Safe (F := F) c P (Pure.pure a) := by
  unfold Safe W; exact le_wp_ret frame (wpE (defs₀ (F := F)) Variants.none (c : Thread nD τ) none) Set.univ a (fun _ => P)

theorem safe_bind {α β : Type} {p : Pg F α} {k : α → Pg F β} (hp : Safe c P p) (hk : ∀ a, Safe c P (k a)) : Safe c P (p >>= k) := by
  unfold Safe W; rw [wp_bind]; exact hp.trans (wp_mono _ _ _ hk)

theorem held_slice {sh : Shape} {e : EltTy} {m : Memref sig .tc .vmem sh e} (h : Held c P m) (r : Rect sh) (hr : ∀ a, r.stride a = 1)
    (s' : Shape) (hs : r.shape.Squeezes s') : Held c P ((m.slice r hr).squeeze s' hs) := by
  obtain ⟨S, hS, hP⟩ := h
  have h' : ((m.slice r hr).squeeze s' hs).view.set ⊆ m.view.set :=
    View.set_reshape_subset (m.view.slice r) _ (View.set_slice_subset m.view r)
  exact ⟨S, h'.trans hS, hP⟩

/-- A whole buffer held at contents nobody names. -/
def held (c : Dev nD) {sh : Shape} {e : EltTy} (m : Memref sig .tc .vmem sh e) : sProp 𝕄 :=
  iprop(∃ f : Buf (Elt F) (m.view.loc (c : Thread nD τ)), (m.view.loc (c : Thread nD τ) ↦[m.view.set]{fullShare} f))

theorem Held.self {sh : Shape} {e : EltTy} (m : Memref sig .tc .vmem sh e) : Held (F := F) c (held c m) m := by
  refine ⟨_, Finset.Subset.refl _, ?_⟩
  unfold held
  iintro ⟨%f, H⟩; iexists f; isplitl [H]; · iexact H
  iintro %f' H; iexists f'; iexact H

theorem Held.left {P Q : sProp 𝕄} {sh : Shape} {e : EltTy} {m : Memref sig .tc .vmem sh e} (h : Held c P m) : Held c iprop(P ∗ Q) m := by
  obtain ⟨S, hS, hP⟩ := h
  refine ⟨S, hS, (sep_mono hP .rfl).trans ?_⟩
  iintro ⟨⟨%f, H, HK⟩, HQ⟩; iexists f; isplitl [H]; · iexact H
  iintro %f' H; isplitl [H HK]; · iapply HK $$ %f'; iexact H
  iexact HQ

theorem Held.right {P Q : sProp 𝕄} {sh : Shape} {e : EltTy} {m : Memref sig .tc .vmem sh e} (h : Held c P m) : Held c iprop(Q ∗ P) m := by
  obtain ⟨S, hS, hP⟩ := h
  refine ⟨S, hS, (sep_mono .rfl hP).trans ?_⟩
  iintro ⟨HQ, ⟨%f, H, HK⟩⟩; iexists f; isplitl [H]; · iexact H
  iintro %f' H; isplitl [HQ]; · iexact HQ
  iapply HK $$ %f'; iexact H

/-- The buffers of the scan half of the kernel, at contents nobody names. -/
def B (c : Dev nD) (arg7 arg8 : Memref sig .tc .vmem S17x64x128 .bf16) (arg9 arg10 : Memref sig .tc .vmem S17x32x128 .bf16)
    (arg12 : Memref sig .tc .vmem S17x32x128 .f32) (arg13 : Memref sig .tc .vmem S64x32x128 .f32) (arg16 : Memref sig .tc .vmem S5x17x64x128 .f32) : sProp 𝕄 :=
  iprop(held c arg7 ∗ held c arg8 ∗ held c arg9 ∗ held c arg10 ∗ held c arg12 ∗ held c arg13 ∗ held c arg16)

section
variable {arg7 arg8 : Memref sig .tc .vmem S17x64x128 .bf16} {arg9 arg10 : Memref sig .tc .vmem S17x32x128 .bf16}
    {arg12 : Memref sig .tc .vmem S17x32x128 .f32} {arg13 : Memref sig .tc .vmem S64x32x128 .f32} {arg16 : Memref sig .tc .vmem S5x17x64x128 .f32}

theorem h7 : Held (F := F) c (B c arg7 arg8 arg9 arg10 arg12 arg13 arg16) arg7 := (Held.self _).left
theorem h8 : Held (F := F) c (B c arg7 arg8 arg9 arg10 arg12 arg13 arg16) arg8 := (Held.self _).left.right
theorem h9 : Held (F := F) c (B c arg7 arg8 arg9 arg10 arg12 arg13 arg16) arg9 := (Held.self _).left.right.right
theorem h10 : Held (F := F) c (B c arg7 arg8 arg9 arg10 arg12 arg13 arg16) arg10 := (Held.self _).left.right.right.right
theorem h12 : Held (F := F) c (B c arg7 arg8 arg9 arg10 arg12 arg13 arg16) arg12 := (Held.self _).left.right.right.right.right
theorem h13 : Held (F := F) c (B c arg7 arg8 arg9 arg10 arg12 arg13 arg16) arg13 := (Held.self _).left.right.right.right.right.right
theorem h16 : Held (F := F) c (B c arg7 arg8 arg9 arg10 arg12 arg13 arg16) arg16 := (Held.self _).right.right.right.right.right.right
end

end Cert.KernelIdeal.AttnSafe

end
-- ==== Proof.AttnS1.lean ====
/- The straight runs of loads and stores of the scan half of the kernel, part by part: each is safe from the buffers it holds. -/
module

public import proofs.«01_k».proof.Proof.AttnSafe

@[expose] public section

set_option maxRecDepth 16384

noncomputable section

namespace Cert.KernelIdeal.AttnSafe

open Cert.KernelIdeal Cert.KernelIdeal.Gen
open Idealize.ShloMosaic Idealize.ShloMosaic.TcCoe

variable {F : FTy → Type} [FloatOps F]

variable (c : Dev nD) (i : grid0.Coords)
  (arg3 : Memref sig .tc .smem S1 .i32) (harg3 : arg3.IsWhole)
  (arg4 : Memref sig .tc .vmem S1x512x256 .bf16) (harg4 : arg4.IsWhole)
  (arg5 : Memref sig .tc .vmem S1x4352x256 .bf16) (harg5 : arg5.IsWhole)
  (arg6 : Memref sig .tc .vmem S1x4352x128 .bf16) (harg6 : arg6.IsWhole)
  (arg7 : Memref sig .tc .vmem S17x64x128 .bf16) (harg7 : arg7.IsWhole)
  (arg8 : Memref sig .tc .vmem S17x64x128 .bf16) (harg8 : arg8.IsWhole)
  (arg9 : Memref sig .tc .vmem S17x32x128 .bf16) (harg9 : arg9.IsWhole)
  (arg10 : Memref sig .tc .vmem S17x32x128 .bf16) (harg10 : arg10.IsWhole)
  (arg11 : Memref sig .tc .vmem S1x512x128 .bf16) (harg11 : arg11.IsWhole)
  (arg12 : Memref sig .tc .vmem S17x32x128 .f32) (harg12 : arg12.IsWhole)
  (arg13 : Memref sig .tc .vmem S64x32x128 .f32) (harg13 : arg13.IsWhole)
  (arg14 : Memref sig .tc .vmem S2x512x128 .f32) (harg14 : arg14.IsWhole)
  (arg15 : Memref sig .tc .vmem S2x512x128 .f32) (harg15 : arg15.IsWhole)
  (arg16 : Memref sig .tc .vmem S5x17x64x128 .f32) (harg16 : arg16.IsWhole)

theorem s_part1  (c0_i32_917 : BitVec 32) (c1_i32_918 : BitVec 32) (k0_t1 : Fin k0_t1_loop.trips) (arg18 : FVec F S8x128 .f32) :
    Safe (F := F) c (B c arg7 arg8 arg9 arg10 arg12 arg13 arg16) (k0_part1 i arg3 harg3 arg4 harg4 arg5 harg5 arg6 harg6 arg7 harg7 arg8 harg8 arg9 harg9 arg10 harg10 arg11 harg11 arg12 harg12 arg13 harg13 arg14 harg14 arg15 harg15 arg16 harg16 c0_i32_917 c1_i32_918 k0_t1 arg18) := by
  unfold k0_part1
  refine safe_load h10 ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part2  (k0_t1 : Fin k0_t1_loop.trips) (arg17 : BitVec 32) (v1220 : FVec F S32x128 .f32) (v1230 : FVec F S32x128 .f32) (v1232 : FVec F S32x128 .f32) :
    Safe (F := F) c (B c arg7 arg8 arg9 arg10 arg12 arg13 arg16) (k0_part2 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1220 v1230 v1232) := by
  unfold k0_part2
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part3  (k0_t1 : Fin k0_t1_loop.trips) (arg17 : BitVec 32) (v1250 : FVec F S32x128 .f32) (v1260 : FVec F S32x128 .f32) (v1269 : FVec F S32x128 .f32) :
    Safe (F := F) c (B c arg7 arg8 arg9 arg10 arg12 arg13 arg16) (k0_part3 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1250 v1260 v1269) := by
  unfold k0_part3
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part4  (k0_t1 : Fin k0_t1_loop.trips) (arg17 : BitVec 32) (v1290 : FVec F S32x128 .f32) (v1300 : FVec F S32x128 .f32) (v1302 : FVec F S32x128 .f32) :
    Safe (F := F) c (B c arg7 arg8 arg9 arg10 arg12 arg13 arg16) (k0_part4 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1290 v1300 v1302) := by
  unfold k0_part4
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part5  (k0_t1 : Fin k0_t1_loop.trips) (arg17 : BitVec 32) (v1320 : FVec F S32x128 .f32) (v1330 : FVec F S32x128 .f32) (v1332 : FVec F S32x128 .f32) :
    Safe (F := F) c (B c arg7 arg8 arg9 arg10 arg12 arg13 arg16) (k0_part5 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1320 v1330 v1332) := by
  unfold k0_part5
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part6  (k0_t1 : Fin k0_t1_loop.trips) (arg17 : BitVec 32) (v1350 : FVec F S32x128 .f32) (v1360 : FVec F S32x128 .f32) (v1369 : FVec F S32x128 .f32) :
    Safe (F := F) c (B c arg7 arg8 arg9 arg10 arg12 arg13 arg16) (k0_part6 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1350 v1360 v1369) := by
  unfold k0_part6
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part7  (k0_t1 : Fin k0_t1_loop.trips) (arg17 : BitVec 32) (v1390 : FVec F S32x128 .f32) (v1400 : FVec F S32x128 .f32) (v1402 : FVec F S32x128 .f32) :
    Safe (F := F) c (B c arg7 arg8 arg9 arg10 arg12 arg13 arg16) (k0_part7 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1390 v1400 v1402) := by
  unfold k0_part7
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part8  (k0_t1 : Fin k0_t1_loop.trips) (arg17 : BitVec 32) (v1420 : FVec F S32x128 .f32) (v1430 : FVec F S32x128 .f32) (v1432 : FVec F S32x128 .f32) :
    Safe (F := F) c (B c arg7 arg8 arg9 arg10 arg12 arg13 arg16) (k0_part8 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1420 v1430 v1432) := by
  unfold k0_part8
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part9  (k0_t1 : Fin k0_t1_loop.trips) (arg17 : BitVec 32) (v1450 : FVec F S32x128 .f32) (v1460 : FVec F S32x128 .f32) (v1469 : FVec F S32x128 .f32) :
    Safe (F := F) c (B c arg7 arg8 arg9 arg10 arg12 arg13 arg16) (k0_part9 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1450 v1460 v1469) := by
  unfold k0_part9
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part10  (k0_t1 : Fin k0_t1_loop.trips) (arg17 : BitVec 32) (v1490 : FVec F S32x128 .f32) (v1500 : FVec F S32x128 .f32) (v1502 : FVec F S32x128 .f32) :
    Safe (F := F) c (B c arg7 arg8 arg9 arg10 arg12 arg13 arg16) (k0_part10 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1490 v1500 v1502) := by
  unfold k0_part10
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part11  (k0_t1 : Fin k0_t1_loop.trips) (arg17 : BitVec 32) (v1520 : FVec F S32x128 .f32) (v1530 : FVec F S32x128 .f32) (v1532 : FVec F S32x128 .f32) :
    Safe (F := F) c (B c arg7 arg8 arg9 arg10 arg12 arg13 arg16) (k0_part11 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1520 v1530 v1532) := by
  unfold k0_part11
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part12  (k0_t1 : Fin k0_t1_loop.trips) (arg17 : BitVec 32) (v1550 : FVec F S32x128 .f32) (v1560 : FVec F S32x128 .f32) (v1569 : FVec F S32x128 .f32) :
    Safe (F := F) c (B c arg7 arg8 arg9 arg10 arg12 arg13 arg16) (k0_part12 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1550 v1560 v1569) := by
  unfold k0_part12
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part13  (k0_t1 : Fin k0_t1_loop.trips) (arg17 : BitVec 32) (v1590 : FVec F S32x128 .f32) (v1600 : FVec F S32x128 .f32) (v1602 : FVec F S32x128 .f32) :
    Safe (F := F) c (B c arg7 arg8 arg9 arg10 arg12 arg13 arg16) (k0_part13 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1590 v1600 v1602) := by
  unfold k0_part13
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part14  (k0_t1 : Fin k0_t1_loop.trips) (arg17 : BitVec 32) (v1620 : FVec F S32x128 .f32) (v1630 : FVec F S32x128 .f32) (v1632 : FVec F S32x128 .f32) :
    Safe (F := F) c (B c arg7 arg8 arg9 arg10 arg12 arg13 arg16) (k0_part14 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1620 v1630 v1632) := by
  unfold k0_part14
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part15  (k0_t1 : Fin k0_t1_loop.trips) (arg17 : BitVec 32) (v1650 : FVec F S32x128 .f32) (v1660 : FVec F S32x128 .f32) (v1669 : FVec F S32x128 .f32) :
    Safe (F := F) c (B c arg7 arg8 arg9 arg10 arg12 arg13 arg16) (k0_part15 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1650 v1660 v1669) := by
  unfold k0_part15
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part16  (k0_t1 : Fin k0_t1_loop.trips) (arg17 : BitVec 32) (v1690 : FVec F S32x128 .f32) (v1700 : FVec F S32x128 .f32) (v1702 : FVec F S32x128 .f32) :
    Safe (F := F) c (B c arg7 arg8 arg9 arg10 arg12 arg13 arg16) (k0_part16 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1690 v1700 v1702) := by
  unfold k0_part16
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part17  (k0_t1 : Fin k0_t1_loop.trips) (arg17 : BitVec 32) (v1720 : FVec F S32x128 .f32) (v1730 : FVec F S32x128 .f32) (v1732 : FVec F S32x128 .f32) :
    Safe (F := F) c (B c arg7 arg8 arg9 arg10 arg12 arg13 arg16) (k0_part17 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1720 v1730 v1732) := by
  unfold k0_part17
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part18  (k0_t1 : Fin k0_t1_loop.trips) (arg17 : BitVec 32) (v1750 : FVec F S32x128 .f32) (v1760 : FVec F S32x128 .f32) (v1769 : FVec F S32x128 .f32) :
    Safe (F := F) c (B c arg7 arg8 arg9 arg10 arg12 arg13 arg16) (k0_part18 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1750 v1760 v1769) := by
  unfold k0_part18
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part19  (k0_t1 : Fin k0_t1_loop.trips) (arg17 : BitVec 32) (v1790 : FVec F S32x128 .f32) (v1800 : FVec F S32x128 .f32) (v1802 : FVec F S32x128 .f32) :
    Safe (F := F) c (B c arg7 arg8 arg9 arg10 arg12 arg13 arg16) (k0_part19 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1790 v1800 v1802) := by
  unfold k0_part19
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part20  (k0_t1 : Fin k0_t1_loop.trips) (arg17 : BitVec 32) (v1208 : FVec F S32x128 .f32) (v1820 : FVec F S32x128 .f32) (v1830 : FVec F S32x128 .f32) (v1832 : FVec F S32x128 .f32) :
    Safe (F := F) c (B c arg7 arg8 arg9 arg10 arg12 arg13 arg16) (k0_part20 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1820 v1830 v1832) := by
  unfold k0_part20
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part21  (k0_t1 : Fin k0_t1_loop.trips) (arg17 : BitVec 32) (v1208 : FVec F S32x128 .f32) (v1851 : FVec F S32x128 .f32) (v1852 : FVec F S32x128 .f32) (v1863 : FVec F S32x128 .f32) (v1870 : FVec F S32x128 .f32) :
    Safe (F := F) c (B c arg7 arg8 arg9 arg10 arg12 arg13 arg16) (k0_part21 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1852 v1863 v1870) := by
  unfold k0_part21
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part22  (k0_t1 : Fin k0_t1_loop.trips) (arg17 : BitVec 32) (v1208 : FVec F S32x128 .f32) (v1851 : FVec F S32x128 .f32) (v1853 : FVec F S32x128 .f32) (v1900 : FVec F S32x128 .f32) :
    Safe (F := F) c (B c arg7 arg8 arg9 arg10 arg12 arg13 arg16) (k0_part22 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1853 v1900) := by
  unfold k0_part22
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part23  (k0_t1 : Fin k0_t1_loop.trips) (arg17 : BitVec 32) (v1208 : FVec F S32x128 .f32) (v1851 : FVec F S32x128 .f32) (v1882 : FVec F S32x128 .f32) (v1911 : FVec F S32x128 .f32) (v1929 : FVec F S32x128 .f32) (v1937 : FVec F S1x128 .f32) :
    Safe (F := F) c (B c arg7 arg8 arg9 arg10 arg12 arg13 arg16) (k0_part23 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1882 v1911 v1929 v1937) := by
  unfold k0_part23
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part24  (k0_t1 : Fin k0_t1_loop.trips) (arg17 : BitVec 32) (v1208 : FVec F S32x128 .f32) (v1851 : FVec F S32x128 .f32) (v1940 : FVec F S32x128 .f32) (v1971 : FVec F S32x128 .f32) :
    Safe (F := F) c (B c arg7 arg8 arg9 arg10 arg12 arg13 arg16) (k0_part24 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1940 v1971) := by
  unfold k0_part24
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part25  (k0_t1 : Fin k0_t1_loop.trips) (arg17 : BitVec 32) (v1208 : FVec F S32x128 .f32) (v1851 : FVec F S32x128 .f32) (v1969 : FVec F S32x128 .f32) (v2000 : FVec F S32x128 .f32) (v2005 : FVec F S1x128 .f32) :
    Safe (F := F) c (B c arg7 arg8 arg9 arg10 arg12 arg13 arg16) (k0_part25 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1969 v2000 v2005) := by
  unfold k0_part25
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part26  (k0_t1 : Fin k0_t1_loop.trips) (arg17 : BitVec 32) (v1208 : FVec F S32x128 .f32) (v1851 : FVec F S32x128 .f32) (v1998 : FVec F S32x128 .f32) (v2037 : FVec F S32x128 .f32) :
    Safe (F := F) c (B c arg7 arg8 arg9 arg10 arg12 arg13 arg16) (k0_part26 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1998 v2037) := by
  unfold k0_part26
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part27  (k0_t1 : Fin k0_t1_loop.trips) (arg17 : BitVec 32) (v1208 : FVec F S32x128 .f32) (v1851 : FVec F S32x128 .f32) (v2027 : FVec F S32x128 .f32) (v2074 : FVec F S32x128 .f32) :
    Safe (F := F) c (B c arg7 arg8 arg9 arg10 arg12 arg13 arg16) (k0_part27 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2027 v2074) := by
  unfold k0_part27
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part28  (k0_t1 : Fin k0_t1_loop.trips) (arg17 : BitVec 32) (v1208 : FVec F S32x128 .f32) (v1851 : FVec F S32x128 .f32) (v2056 : FVec F S32x128 .f32) (v2085 : FVec F S32x128 .f32) (v2103 : FVec F S32x128 .f32) :
    Safe (F := F) c (B c arg7 arg8 arg9 arg10 arg12 arg13 arg16) (k0_part28 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2056 v2085 v2103) := by
  unfold k0_part28
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part29  (k0_t1 : Fin k0_t1_loop.trips) (arg17 : BitVec 32) (v1208 : FVec F S32x128 .f32) (v1851 : FVec F S32x128 .f32) (v2114 : FVec F S32x128 .f32) :
    Safe (F := F) c (B c arg7 arg8 arg9 arg10 arg12 arg13 arg16) (k0_part29 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2114) := by
  unfold k0_part29
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part30  (k0_t1 : Fin k0_t1_loop.trips) (arg17 : BitVec 32) (v1208 : FVec F S32x128 .f32) (v1851 : FVec F S32x128 .f32) (v2143 : FVec F S32x128 .f32) (v2174 : FVec F S32x128 .f32) :
    Safe (F := F) c (B c arg7 arg8 arg9 arg10 arg12 arg13 arg16) (k0_part30 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2143 v2174) := by
  unfold k0_part30
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part31  (k0_t1 : Fin k0_t1_loop.trips) (arg17 : BitVec 32) (v1208 : FVec F S32x128 .f32) (v1851 : FVec F S32x128 .f32) (v2172 : FVec F S32x128 .f32) (v2211 : FVec F S32x128 .f32) :
    Safe (F := F) c (B c arg7 arg8 arg9 arg10 arg12 arg13 arg16) (k0_part31 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2172 v2211) := by
  unfold k0_part31
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part32  (k0_t1 : Fin k0_t1_loop.trips) (arg17 : BitVec 32) (v1208 : FVec F S32x128 .f32) (v1851 : FVec F S32x128 .f32) (v2201 : FVec F S32x128 .f32) (v2240 : FVec F S32x128 .f32) (v2244 : Vec F S1x1x128 .f32) :
    Safe (F := F) c (B c arg7 arg8 arg9 arg10 arg12 arg13 arg16) (k0_part32 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2201 v2240 v2244) := by
  unfold k0_part32
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  exact safe_pure _

theorem s_part33  (k0_t1 : Fin k0_t1_loop.trips) (arg17 : BitVec 32) (v1208 : FVec F S32x128 .f32) (v1851 : FVec F S32x128 .f32) (v2230 : FVec F S32x128 .f32) (v2277 : FVec F S32x128 .f32) :
    Safe (F := F) c (B c arg7 arg8 arg9 arg10 arg12 arg13 arg16) (k0_part33 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2230 v2277) := by
  unfold k0_part33
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part34  (k0_t1 : Fin k0_t1_loop.trips) (arg17 : BitVec 32) (v1208 : FVec F S32x128 .f32) (v1851 : FVec F S32x128 .f32) (v2259 : FVec F S32x128 .f32) (v2288 : FVec F S32x128 .f32) (v2306 : FVec F S32x128 .f32) :
    Safe (F := F) c (B c arg7 arg8 arg9 arg10 arg12 arg13 arg16) (k0_part34 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2259 v2288 v2306) := by
  unfold k0_part34
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part35  (k0_t1 : Fin k0_t1_loop.trips) (arg17 : BitVec 32) (v1208 : FVec F S32x128 .f32) (v1851 : FVec F S32x128 .f32) (v2317 : FVec F S32x128 .f32) :
    Safe (F := F) c (B c arg7 arg8 arg9 arg10 arg12 arg13 arg16) (k0_part35 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2317) := by
  unfold k0_part35
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part36  (k0_t1 : Fin k0_t1_loop.trips) (arg17 : BitVec 32) (v1208 : FVec F S32x128 .f32) (v1851 : FVec F S32x128 .f32) (v2346 : FVec F S32x128 .f32) (v2377 : FVec F S32x128 .f32) :
    Safe (F := F) c (B c arg7 arg8 arg9 arg10 arg12 arg13 arg16) (k0_part36 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2346 v2377) := by
  unfold k0_part36
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part37  (k0_t1 : Fin k0_t1_loop.trips) (arg17 : BitVec 32) (v1208 : FVec F S32x128 .f32) (v1851 : FVec F S32x128 .f32) (v2375 : FVec F S32x128 .f32) (v2414 : FVec F S32x128 .f32) :
    Safe (F := F) c (B c arg7 arg8 arg9 arg10 arg12 arg13 arg16) (k0_part37 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2375 v2414) := by
  unfold k0_part37
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part38  (k0_t1 : Fin k0_t1_loop.trips) (arg17 : BitVec 32) (v1208 : FVec F S32x128 .f32) (v1851 : FVec F S32x128 .f32) (v2404 : FVec F S32x128 .f32) (v2443 : FVec F S32x128 .f32) (v2450 : FVec F S32x128 .f32) :
    Safe (F := F) c (B c arg7 arg8 arg9 arg10 arg12 arg13 arg16) (k0_part38 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2404 v2443 v2450) := by
  unfold k0_part38
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part39  (k0_t1 : Fin k0_t1_loop.trips) (arg17 : BitVec 32) (v1208 : FVec F S32x128 .f32) (v1851 : FVec F S32x128 .f32) (v2433 : FVec F S32x128 .f32) (v2480 : FVec F S32x128 .f32) :
    Safe (F := F) c (B c arg7 arg8 arg9 arg10 arg12 arg13 arg16) (k0_part39 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2433 v2480) := by
  unfold k0_part39
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part40  (k0_t1 : Fin k0_t1_loop.trips) (arg17 : BitVec 32) (v1208 : FVec F S32x128 .f32) (v1851 : FVec F S32x128 .f32) (v2462 : FVec F S32x128 .f32) (v2491 : FVec F S32x128 .f32) (v2509 : FVec F S32x128 .f32) (v2517 : FVec F S1x128 .f32) :
    Safe (F := F) c (B c arg7 arg8 arg9 arg10 arg12 arg13 arg16) (k0_part40 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2462 v2491 v2509 v2517) := by
  unfold k0_part40
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

end Cert.KernelIdeal.AttnSafe

end
-- ==== Proof.AttnS2.lean ====
/- The straight runs of loads and stores of the scan half of the kernel, part by part: each is safe from the buffers it holds. -/
module

public import proofs.«01_k».proof.Proof.AttnSafe

@[expose] public section

set_option maxRecDepth 16384

noncomputable section

namespace Cert.KernelIdeal.AttnSafe

open Cert.KernelIdeal Cert.KernelIdeal.Gen
open Idealize.ShloMosaic Idealize.ShloMosaic.TcCoe

variable {F : FTy → Type} [FloatOps F]

variable (c : Dev nD) (i : grid0.Coords)
  (arg3 : Memref sig .tc .smem S1 .i32) (harg3 : arg3.IsWhole)
  (arg4 : Memref sig .tc .vmem S1x512x256 .bf16) (harg4 : arg4.IsWhole)
  (arg5 : Memref sig .tc .vmem S1x4352x256 .bf16) (harg5 : arg5.IsWhole)
  (arg6 : Memref sig .tc .vmem S1x4352x128 .bf16) (harg6 : arg6.IsWhole)
  (arg7 : Memref sig .tc .vmem S17x64x128 .bf16) (harg7 : arg7.IsWhole)
  (arg8 : Memref sig .tc .vmem S17x64x128 .bf16) (harg8 : arg8.IsWhole)
  (arg9 : Memref sig .tc .vmem S17x32x128 .bf16) (harg9 : arg9.IsWhole)
  (arg10 : Memref sig .tc .vmem S17x32x128 .bf16) (harg10 : arg10.IsWhole)
  (arg11 : Memref sig .tc .vmem S1x512x128 .bf16) (harg11 : arg11.IsWhole)
  (arg12 : Memref sig .tc .vmem S17x32x128 .f32) (harg12 : arg12.IsWhole)
  (arg13 : Memref sig .tc .vmem S64x32x128 .f32) (harg13 : arg13.IsWhole)
  (arg14 : Memref sig .tc .vmem S2x512x128 .f32) (harg14 : arg14.IsWhole)
  (arg15 : Memref sig .tc .vmem S2x512x128 .f32) (harg15 : arg15.IsWhole)
  (arg16 : Memref sig .tc .vmem S5x17x64x128 .f32) (harg16 : arg16.IsWhole)

theorem s_part41  (k0_t1 : Fin k0_t1_loop.trips) (arg17 : BitVec 32) (v1208 : FVec F S32x128 .f32) (v1851 : FVec F S32x128 .f32) (v2520 : FVec F S32x128 .f32) (v2551 : FVec F S32x128 .f32) :
    Safe (F := F) c (B c arg7 arg8 arg9 arg10 arg12 arg13 arg16) (k0_part41 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2520 v2551) := by
  unfold k0_part41
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part42  (k0_t1 : Fin k0_t1_loop.trips) (arg17 : BitVec 32) (v1208 : FVec F S32x128 .f32) (v1851 : FVec F S32x128 .f32) (v2549 : FVec F S32x128 .f32) (v2580 : FVec F S32x128 .f32) (v2585 : FVec F S1x128 .f32) :
    Safe (F := F) c (B c arg7 arg8 arg9 arg10 arg12 arg13 arg16) (k0_part42 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2549 v2580 v2585) := by
  unfold k0_part42
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part43  (k0_t1 : Fin k0_t1_loop.trips) (arg17 : BitVec 32) (v1208 : FVec F S32x128 .f32) (v1851 : FVec F S32x128 .f32) (v2578 : FVec F S32x128 .f32) (v2617 : FVec F S32x128 .f32) :
    Safe (F := F) c (B c arg7 arg8 arg9 arg10 arg12 arg13 arg16) (k0_part43 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2578 v2617) := by
  unfold k0_part43
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part44  (k0_t1 : Fin k0_t1_loop.trips) (arg17 : BitVec 32) (v1208 : FVec F S32x128 .f32) (v1851 : FVec F S32x128 .f32) (v2607 : FVec F S32x128 .f32) (v2654 : FVec F S32x128 .f32) :
    Safe (F := F) c (B c arg7 arg8 arg9 arg10 arg12 arg13 arg16) (k0_part44 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2607 v2654) := by
  unfold k0_part44
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part45  (k0_t1 : Fin k0_t1_loop.trips) (arg17 : BitVec 32) (v1208 : FVec F S32x128 .f32) (v1851 : FVec F S32x128 .f32) (v2636 : FVec F S32x128 .f32) (v2665 : FVec F S32x128 .f32) (v2683 : FVec F S32x128 .f32) :
    Safe (F := F) c (B c arg7 arg8 arg9 arg10 arg12 arg13 arg16) (k0_part45 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2636 v2665 v2683) := by
  unfold k0_part45
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part46  (k0_t1 : Fin k0_t1_loop.trips) (arg17 : BitVec 32) (v1208 : FVec F S32x128 .f32) (v1851 : FVec F S32x128 .f32) (v2694 : FVec F S32x128 .f32) :
    Safe (F := F) c (B c arg7 arg8 arg9 arg10 arg12 arg13 arg16) (k0_part46 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2694) := by
  unfold k0_part46
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part47  (k0_t1 : Fin k0_t1_loop.trips) (arg17 : BitVec 32) (v1208 : FVec F S32x128 .f32) (v1851 : FVec F S32x128 .f32) (v2723 : FVec F S32x128 .f32) (v2754 : FVec F S32x128 .f32) :
    Safe (F := F) c (B c arg7 arg8 arg9 arg10 arg12 arg13 arg16) (k0_part47 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2723 v2754) := by
  unfold k0_part47
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part48  (k0_t1 : Fin k0_t1_loop.trips) (arg17 : BitVec 32) (v1208 : FVec F S32x128 .f32) (v1851 : FVec F S32x128 .f32) (v2752 : FVec F S32x128 .f32) (v2791 : FVec F S32x128 .f32) :
    Safe (F := F) c (B c arg7 arg8 arg9 arg10 arg12 arg13 arg16) (k0_part48 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2752 v2791) := by
  unfold k0_part48
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part49  (k0_t1 : Fin k0_t1_loop.trips) (arg17 : BitVec 32) (v1208 : FVec F S32x128 .f32) (v1851 : FVec F S32x128 .f32) (v2781 : FVec F S32x128 .f32) (v2820 : FVec F S32x128 .f32) (v2824 : Vec F S1x1x128 .f32) :
    Safe (F := F) c (B c arg7 arg8 arg9 arg10 arg12 arg13 arg16) (k0_part49 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2781 v2820 v2824) := by
  unfold k0_part49
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  exact safe_pure _

theorem s_part50  (k0_t1 : Fin k0_t1_loop.trips) (arg17 : BitVec 32) (v1208 : FVec F S32x128 .f32) (v1851 : FVec F S32x128 .f32) (v2810 : FVec F S32x128 .f32) (v2857 : FVec F S32x128 .f32) :
    Safe (F := F) c (B c arg7 arg8 arg9 arg10 arg12 arg13 arg16) (k0_part50 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2810 v2857) := by
  unfold k0_part50
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part51  (k0_t1 : Fin k0_t1_loop.trips) (arg17 : BitVec 32) (v1208 : FVec F S32x128 .f32) (v1851 : FVec F S32x128 .f32) (v2839 : FVec F S32x128 .f32) (v2868 : FVec F S32x128 .f32) (v2886 : FVec F S32x128 .f32) :
    Safe (F := F) c (B c arg7 arg8 arg9 arg10 arg12 arg13 arg16) (k0_part51 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2839 v2868 v2886) := by
  unfold k0_part51
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part52  (k0_t1 : Fin k0_t1_loop.trips) (arg17 : BitVec 32) (v1208 : FVec F S32x128 .f32) (v1851 : FVec F S32x128 .f32) (v2897 : FVec F S32x128 .f32) :
    Safe (F := F) c (B c arg7 arg8 arg9 arg10 arg12 arg13 arg16) (k0_part52 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2897) := by
  unfold k0_part52
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part53  (k0_t1 : Fin k0_t1_loop.trips) (arg17 : BitVec 32) (v1208 : FVec F S32x128 .f32) (v1851 : FVec F S32x128 .f32) (v2926 : FVec F S32x128 .f32) (v2957 : FVec F S32x128 .f32) :
    Safe (F := F) c (B c arg7 arg8 arg9 arg10 arg12 arg13 arg16) (k0_part53 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2926 v2957) := by
  unfold k0_part53
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part54  (k0_t1 : Fin k0_t1_loop.trips) (arg17 : BitVec 32) (v1208 : FVec F S32x128 .f32) (v1851 : FVec F S32x128 .f32) (v2955 : FVec F S32x128 .f32) (v2994 : FVec F S32x128 .f32) :
    Safe (F := F) c (B c arg7 arg8 arg9 arg10 arg12 arg13 arg16) (k0_part54 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2955 v2994) := by
  unfold k0_part54
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part55  (k0_t1 : Fin k0_t1_loop.trips) (arg17 : BitVec 32) (v1208 : FVec F S32x128 .f32) (v1851 : FVec F S32x128 .f32) (v2984 : FVec F S32x128 .f32) (v3023 : FVec F S32x128 .f32) (v3030 : FVec F S32x128 .f32) :
    Safe (F := F) c (B c arg7 arg8 arg9 arg10 arg12 arg13 arg16) (k0_part55 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2984 v3023 v3030) := by
  unfold k0_part55
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part56  (k0_t1 : Fin k0_t1_loop.trips) (arg17 : BitVec 32) (v1208 : FVec F S32x128 .f32) (v1851 : FVec F S32x128 .f32) (v3013 : FVec F S32x128 .f32) (v3060 : FVec F S32x128 .f32) :
    Safe (F := F) c (B c arg7 arg8 arg9 arg10 arg12 arg13 arg16) (k0_part56 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3013 v3060) := by
  unfold k0_part56
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part57  (k0_t1 : Fin k0_t1_loop.trips) (arg17 : BitVec 32) (v1208 : FVec F S32x128 .f32) (v1851 : FVec F S32x128 .f32) (v3042 : FVec F S32x128 .f32) (v3071 : FVec F S32x128 .f32) (v3089 : FVec F S32x128 .f32) (v3097 : FVec F S1x128 .f32) :
    Safe (F := F) c (B c arg7 arg8 arg9 arg10 arg12 arg13 arg16) (k0_part57 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3042 v3071 v3089 v3097) := by
  unfold k0_part57
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part58  (k0_t1 : Fin k0_t1_loop.trips) (arg17 : BitVec 32) (v1208 : FVec F S32x128 .f32) (v1851 : FVec F S32x128 .f32) (v3100 : FVec F S32x128 .f32) (v3131 : FVec F S32x128 .f32) :
    Safe (F := F) c (B c arg7 arg8 arg9 arg10 arg12 arg13 arg16) (k0_part58 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3100 v3131) := by
  unfold k0_part58
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part59  (k0_t1 : Fin k0_t1_loop.trips) (arg17 : BitVec 32) (v1208 : FVec F S32x128 .f32) (v1851 : FVec F S32x128 .f32) (v3129 : FVec F S32x128 .f32) (v3160 : FVec F S32x128 .f32) (v3165 : FVec F S1x128 .f32) :
    Safe (F := F) c (B c arg7 arg8 arg9 arg10 arg12 arg13 arg16) (k0_part59 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3129 v3160 v3165) := by
  unfold k0_part59
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part60  (k0_t1 : Fin k0_t1_loop.trips) (arg17 : BitVec 32) (v1208 : FVec F S32x128 .f32) (v1851 : FVec F S32x128 .f32) (v3158 : FVec F S32x128 .f32) (v3197 : FVec F S32x128 .f32) :
    Safe (F := F) c (B c arg7 arg8 arg9 arg10 arg12 arg13 arg16) (k0_part60 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3158 v3197) := by
  unfold k0_part60
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part61  (k0_t1 : Fin k0_t1_loop.trips) (arg17 : BitVec 32) (v1208 : FVec F S32x128 .f32) (v1851 : FVec F S32x128 .f32) (v3187 : FVec F S32x128 .f32) (v3234 : FVec F S32x128 .f32) :
    Safe (F := F) c (B c arg7 arg8 arg9 arg10 arg12 arg13 arg16) (k0_part61 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3187 v3234) := by
  unfold k0_part61
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part62  (k0_t1 : Fin k0_t1_loop.trips) (arg17 : BitVec 32) (v1208 : FVec F S32x128 .f32) (v1851 : FVec F S32x128 .f32) (v3216 : FVec F S32x128 .f32) (v3245 : FVec F S32x128 .f32) (v3263 : FVec F S32x128 .f32) :
    Safe (F := F) c (B c arg7 arg8 arg9 arg10 arg12 arg13 arg16) (k0_part62 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3216 v3245 v3263) := by
  unfold k0_part62
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part63  (k0_t1 : Fin k0_t1_loop.trips) (arg17 : BitVec 32) (v1208 : FVec F S32x128 .f32) (v1851 : FVec F S32x128 .f32) (v3274 : FVec F S32x128 .f32) :
    Safe (F := F) c (B c arg7 arg8 arg9 arg10 arg12 arg13 arg16) (k0_part63 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3274) := by
  unfold k0_part63
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part64  (k0_t1 : Fin k0_t1_loop.trips) (arg17 : BitVec 32) (v1208 : FVec F S32x128 .f32) (v1851 : FVec F S32x128 .f32) (v3303 : FVec F S32x128 .f32) (v3334 : FVec F S32x128 .f32) :
    Safe (F := F) c (B c arg7 arg8 arg9 arg10 arg12 arg13 arg16) (k0_part64 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3303 v3334) := by
  unfold k0_part64
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part65  (k0_t1 : Fin k0_t1_loop.trips) (arg17 : BitVec 32) (v1208 : FVec F S32x128 .f32) (v1851 : FVec F S32x128 .f32) (v3332 : FVec F S32x128 .f32) (v3371 : FVec F S32x128 .f32) :
    Safe (F := F) c (B c arg7 arg8 arg9 arg10 arg12 arg13 arg16) (k0_part65 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3332 v3371) := by
  unfold k0_part65
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part66  (k0_t1 : Fin k0_t1_loop.trips) (arg17 : BitVec 32) (v1208 : FVec F S32x128 .f32) (v1851 : FVec F S32x128 .f32) (v3361 : FVec F S32x128 .f32) (v3400 : FVec F S32x128 .f32) (v3404 : Vec F S1x1x128 .f32) :
    Safe (F := F) c (B c arg7 arg8 arg9 arg10 arg12 arg13 arg16) (k0_part66 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3361 v3400 v3404) := by
  unfold k0_part66
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  exact safe_pure _

theorem s_part67  (k0_t1 : Fin k0_t1_loop.trips) (arg17 : BitVec 32) (v1208 : FVec F S32x128 .f32) (v1851 : FVec F S32x128 .f32) (v3390 : FVec F S32x128 .f32) (v3437 : FVec F S32x128 .f32) :
    Safe (F := F) c (B c arg7 arg8 arg9 arg10 arg12 arg13 arg16) (k0_part67 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3390 v3437) := by
  unfold k0_part67
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part68  (k0_t1 : Fin k0_t1_loop.trips) (arg17 : BitVec 32) (v1208 : FVec F S32x128 .f32) (v1851 : FVec F S32x128 .f32) (v3419 : FVec F S32x128 .f32) (v3448 : FVec F S32x128 .f32) (v3466 : FVec F S32x128 .f32) :
    Safe (F := F) c (B c arg7 arg8 arg9 arg10 arg12 arg13 arg16) (k0_part68 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3419 v3448 v3466) := by
  unfold k0_part68
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part69  (k0_t1 : Fin k0_t1_loop.trips) (arg17 : BitVec 32) (v1208 : FVec F S32x128 .f32) (v1851 : FVec F S32x128 .f32) (v3477 : FVec F S32x128 .f32) :
    Safe (F := F) c (B c arg7 arg8 arg9 arg10 arg12 arg13 arg16) (k0_part69 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3477) := by
  unfold k0_part69
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part70  (k0_t1 : Fin k0_t1_loop.trips) (arg17 : BitVec 32) (v1208 : FVec F S32x128 .f32) (v1851 : FVec F S32x128 .f32) (v3506 : FVec F S32x128 .f32) (v3537 : FVec F S32x128 .f32) :
    Safe (F := F) c (B c arg7 arg8 arg9 arg10 arg12 arg13 arg16) (k0_part70 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3506 v3537) := by
  unfold k0_part70
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part71  (k0_t1 : Fin k0_t1_loop.trips) (arg17 : BitVec 32) (v1208 : FVec F S32x128 .f32) (v1851 : FVec F S32x128 .f32) (v3535 : FVec F S32x128 .f32) (v3574 : FVec F S32x128 .f32) :
    Safe (F := F) c (B c arg7 arg8 arg9 arg10 arg12 arg13 arg16) (k0_part71 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3535 v3574) := by
  unfold k0_part71
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part72  (k0_t1 : Fin k0_t1_loop.trips) (arg17 : BitVec 32) (v1208 : FVec F S32x128 .f32) (v1851 : FVec F S32x128 .f32) (v3564 : FVec F S32x128 .f32) (v3603 : FVec F S32x128 .f32) (v3610 : FVec F S32x128 .f32) :
    Safe (F := F) c (B c arg7 arg8 arg9 arg10 arg12 arg13 arg16) (k0_part72 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3564 v3603 v3610) := by
  unfold k0_part72
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part73  (k0_t1 : Fin k0_t1_loop.trips) (arg17 : BitVec 32) (v1208 : FVec F S32x128 .f32) (v1851 : FVec F S32x128 .f32) (v3593 : FVec F S32x128 .f32) (v3640 : FVec F S32x128 .f32) :
    Safe (F := F) c (B c arg7 arg8 arg9 arg10 arg12 arg13 arg16) (k0_part73 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3593 v3640) := by
  unfold k0_part73
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part74  (k0_t1 : Fin k0_t1_loop.trips) (arg17 : BitVec 32) (v1208 : FVec F S32x128 .f32) (v1851 : FVec F S32x128 .f32) (v3622 : FVec F S32x128 .f32) (v3651 : FVec F S32x128 .f32) (v3669 : FVec F S32x128 .f32) (v3677 : FVec F S1x128 .f32) :
    Safe (F := F) c (B c arg7 arg8 arg9 arg10 arg12 arg13 arg16) (k0_part74 i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3622 v3651 v3669 v3677) := by
  unfold k0_part74
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h12 ?_; intro _
  exact safe_pure _

end Cert.KernelIdeal.AttnSafe

end
-- ==== Proof.AttnS3.lean ====
/- The straight runs of loads and stores of the scan half of the kernel, part by part: each is safe from the buffers it holds. -/
module

public import proofs.«01_k».proof.Proof.AttnSafe

@[expose] public section

set_option maxRecDepth 16384

noncomputable section

namespace Cert.KernelIdeal.AttnSafe

open Cert.KernelIdeal Cert.KernelIdeal.Gen
open Idealize.ShloMosaic Idealize.ShloMosaic.TcCoe

variable {F : FTy → Type} [FloatOps F]

variable (c : Dev nD) (i : grid0.Coords)
  (arg3 : Memref sig .tc .smem S1 .i32) (harg3 : arg3.IsWhole)
  (arg4 : Memref sig .tc .vmem S1x512x256 .bf16) (harg4 : arg4.IsWhole)
  (arg5 : Memref sig .tc .vmem S1x4352x256 .bf16) (harg5 : arg5.IsWhole)
  (arg6 : Memref sig .tc .vmem S1x4352x128 .bf16) (harg6 : arg6.IsWhole)
  (arg7 : Memref sig .tc .vmem S17x64x128 .bf16) (harg7 : arg7.IsWhole)
  (arg8 : Memref sig .tc .vmem S17x64x128 .bf16) (harg8 : arg8.IsWhole)
  (arg9 : Memref sig .tc .vmem S17x32x128 .bf16) (harg9 : arg9.IsWhole)
  (arg10 : Memref sig .tc .vmem S17x32x128 .bf16) (harg10 : arg10.IsWhole)
  (arg11 : Memref sig .tc .vmem S1x512x128 .bf16) (harg11 : arg11.IsWhole)
  (arg12 : Memref sig .tc .vmem S17x32x128 .f32) (harg12 : arg12.IsWhole)
  (arg13 : Memref sig .tc .vmem S64x32x128 .f32) (harg13 : arg13.IsWhole)
  (arg14 : Memref sig .tc .vmem S2x512x128 .f32) (harg14 : arg14.IsWhole)
  (arg15 : Memref sig .tc .vmem S2x512x128 .f32) (harg15 : arg15.IsWhole)
  (arg16 : Memref sig .tc .vmem S5x17x64x128 .f32) (harg16 : arg16.IsWhole)

theorem s_part77  (c0_i32_917 : BitVec 32) (c1_i32_918 : BitVec 32) (k0_t2 : Fin k0_t2_loop.trips) (arg18 : FVec F S8x128 .f32) :
    Safe (F := F) c (B c arg7 arg8 arg9 arg10 arg12 arg13 arg16) (k0_part77 i arg3 harg3 arg4 harg4 arg5 harg5 arg6 harg6 arg7 harg7 arg8 harg8 arg9 harg9 arg10 harg10 arg11 harg11 arg12 harg12 arg13 harg13 arg14 harg14 arg15 harg15 arg16 harg16 c0_i32_917 c1_i32_918 k0_t2 arg18) := by
  unfold k0_part77
  refine safe_load h10 ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part78  (k0_t2 : Fin k0_t2_loop.trips) (arg17 : BitVec 32) (v1220 : FVec F S32x128 .f32) (v1230 : FVec F S32x128 .f32) (v1232 : FVec F S32x128 .f32) :
    Safe (F := F) c (B c arg7 arg8 arg9 arg10 arg12 arg13 arg16) (k0_part78 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1220 v1230 v1232) := by
  unfold k0_part78
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part79  (k0_t2 : Fin k0_t2_loop.trips) (arg17 : BitVec 32) (v1250 : FVec F S32x128 .f32) (v1260 : FVec F S32x128 .f32) (v1269 : FVec F S32x128 .f32) :
    Safe (F := F) c (B c arg7 arg8 arg9 arg10 arg12 arg13 arg16) (k0_part79 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1250 v1260 v1269) := by
  unfold k0_part79
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part80  (k0_t2 : Fin k0_t2_loop.trips) (arg17 : BitVec 32) (v1290 : FVec F S32x128 .f32) (v1300 : FVec F S32x128 .f32) (v1302 : FVec F S32x128 .f32) :
    Safe (F := F) c (B c arg7 arg8 arg9 arg10 arg12 arg13 arg16) (k0_part80 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1290 v1300 v1302) := by
  unfold k0_part80
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part81  (k0_t2 : Fin k0_t2_loop.trips) (arg17 : BitVec 32) (v1320 : FVec F S32x128 .f32) (v1330 : FVec F S32x128 .f32) (v1332 : FVec F S32x128 .f32) :
    Safe (F := F) c (B c arg7 arg8 arg9 arg10 arg12 arg13 arg16) (k0_part81 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1320 v1330 v1332) := by
  unfold k0_part81
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part82  (k0_t2 : Fin k0_t2_loop.trips) (arg17 : BitVec 32) (v1350 : FVec F S32x128 .f32) (v1360 : FVec F S32x128 .f32) (v1369 : FVec F S32x128 .f32) :
    Safe (F := F) c (B c arg7 arg8 arg9 arg10 arg12 arg13 arg16) (k0_part82 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1350 v1360 v1369) := by
  unfold k0_part82
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part83  (k0_t2 : Fin k0_t2_loop.trips) (arg17 : BitVec 32) (v1390 : FVec F S32x128 .f32) (v1400 : FVec F S32x128 .f32) (v1402 : FVec F S32x128 .f32) :
    Safe (F := F) c (B c arg7 arg8 arg9 arg10 arg12 arg13 arg16) (k0_part83 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1390 v1400 v1402) := by
  unfold k0_part83
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part84  (k0_t2 : Fin k0_t2_loop.trips) (arg17 : BitVec 32) (v1420 : FVec F S32x128 .f32) (v1430 : FVec F S32x128 .f32) (v1432 : FVec F S32x128 .f32) :
    Safe (F := F) c (B c arg7 arg8 arg9 arg10 arg12 arg13 arg16) (k0_part84 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1420 v1430 v1432) := by
  unfold k0_part84
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part85  (k0_t2 : Fin k0_t2_loop.trips) (arg17 : BitVec 32) (v1450 : FVec F S32x128 .f32) (v1460 : FVec F S32x128 .f32) (v1469 : FVec F S32x128 .f32) :
    Safe (F := F) c (B c arg7 arg8 arg9 arg10 arg12 arg13 arg16) (k0_part85 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1450 v1460 v1469) := by
  unfold k0_part85
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part86  (k0_t2 : Fin k0_t2_loop.trips) (arg17 : BitVec 32) (v1490 : FVec F S32x128 .f32) (v1500 : FVec F S32x128 .f32) (v1502 : FVec F S32x128 .f32) :
    Safe (F := F) c (B c arg7 arg8 arg9 arg10 arg12 arg13 arg16) (k0_part86 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1490 v1500 v1502) := by
  unfold k0_part86
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part87  (k0_t2 : Fin k0_t2_loop.trips) (arg17 : BitVec 32) (v1520 : FVec F S32x128 .f32) (v1530 : FVec F S32x128 .f32) (v1532 : FVec F S32x128 .f32) :
    Safe (F := F) c (B c arg7 arg8 arg9 arg10 arg12 arg13 arg16) (k0_part87 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1520 v1530 v1532) := by
  unfold k0_part87
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part88  (k0_t2 : Fin k0_t2_loop.trips) (arg17 : BitVec 32) (v1550 : FVec F S32x128 .f32) (v1560 : FVec F S32x128 .f32) (v1569 : FVec F S32x128 .f32) :
    Safe (F := F) c (B c arg7 arg8 arg9 arg10 arg12 arg13 arg16) (k0_part88 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1550 v1560 v1569) := by
  unfold k0_part88
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part89  (k0_t2 : Fin k0_t2_loop.trips) (arg17 : BitVec 32) (v1590 : FVec F S32x128 .f32) (v1600 : FVec F S32x128 .f32) (v1602 : FVec F S32x128 .f32) :
    Safe (F := F) c (B c arg7 arg8 arg9 arg10 arg12 arg13 arg16) (k0_part89 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1590 v1600 v1602) := by
  unfold k0_part89
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part90  (k0_t2 : Fin k0_t2_loop.trips) (arg17 : BitVec 32) (v1620 : FVec F S32x128 .f32) (v1630 : FVec F S32x128 .f32) (v1632 : FVec F S32x128 .f32) :
    Safe (F := F) c (B c arg7 arg8 arg9 arg10 arg12 arg13 arg16) (k0_part90 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1620 v1630 v1632) := by
  unfold k0_part90
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part91  (k0_t2 : Fin k0_t2_loop.trips) (arg17 : BitVec 32) (v1650 : FVec F S32x128 .f32) (v1660 : FVec F S32x128 .f32) (v1669 : FVec F S32x128 .f32) :
    Safe (F := F) c (B c arg7 arg8 arg9 arg10 arg12 arg13 arg16) (k0_part91 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1650 v1660 v1669) := by
  unfold k0_part91
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part92  (k0_t2 : Fin k0_t2_loop.trips) (arg17 : BitVec 32) (v1690 : FVec F S32x128 .f32) (v1700 : FVec F S32x128 .f32) (v1702 : FVec F S32x128 .f32) :
    Safe (F := F) c (B c arg7 arg8 arg9 arg10 arg12 arg13 arg16) (k0_part92 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1690 v1700 v1702) := by
  unfold k0_part92
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part93  (k0_t2 : Fin k0_t2_loop.trips) (arg17 : BitVec 32) (v1720 : FVec F S32x128 .f32) (v1730 : FVec F S32x128 .f32) (v1732 : FVec F S32x128 .f32) :
    Safe (F := F) c (B c arg7 arg8 arg9 arg10 arg12 arg13 arg16) (k0_part93 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1720 v1730 v1732) := by
  unfold k0_part93
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  exact safe_pure _

theorem s_part94  (k0_t2 : Fin k0_t2_loop.trips) (arg17 : BitVec 32) (v1750 : FVec F S32x128 .f32) (v1760 : FVec F S32x128 .f32) (v1769 : FVec F S32x128 .f32) :
    Safe (F := F) c (B c arg7 arg8 arg9 arg10 arg12 arg13 arg16) (k0_part94 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1750 v1760 v1769) := by
  unfold k0_part94
  refine safe_load h13 ?_; intro _
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part95  (k0_t2 : Fin k0_t2_loop.trips) (arg17 : BitVec 32) (v1790 : FVec F S32x128 .f32) (v1800 : FVec F S32x128 .f32) (v1802 : FVec F S32x128 .f32) :
    Safe (F := F) c (B c arg7 arg8 arg9 arg10 arg12 arg13 arg16) (k0_part95 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1790 v1800 v1802) := by
  unfold k0_part95
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load h13 ?_; intro _
  exact safe_pure _

theorem s_part96  (k0_t2 : Fin k0_t2_loop.trips) (arg17 : BitVec 32) (v1208 : FVec F S32x128 .f32) (v1820 : FVec F S32x128 .f32) (v1830 : FVec F S32x128 .f32) (v1832 : FVec F S32x128 .f32) :
    Safe (F := F) c (B c arg7 arg8 arg9 arg10 arg12 arg13 arg16) (k0_part96 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1820 v1830 v1832) := by
  unfold k0_part96
  refine safe_load (held_slice h16 _ _ _ _) ?_; intro _
  refine safe_load h13 ?_; intro _
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part97  (k0_t2 : Fin k0_t2_loop.trips) (arg17 : BitVec 32) (v1208 : FVec F S32x128 .f32) (v1851 : FVec F S32x128 .f32) (v1852 : FVec F S32x128 .f32) (v1863 : FVec F S32x128 .f32) (v1870 : FVec F S32x128 .f32) :
    Safe (F := F) c (B c arg7 arg8 arg9 arg10 arg12 arg13 arg16) (k0_part97 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1852 v1863 v1870) := by
  unfold k0_part97
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part98  (k0_t2 : Fin k0_t2_loop.trips) (arg17 : BitVec 32) (v1208 : FVec F S32x128 .f32) (v1851 : FVec F S32x128 .f32) (v1853 : FVec F S32x128 .f32) (v1900 : FVec F S32x128 .f32) :
    Safe (F := F) c (B c arg7 arg8 arg9 arg10 arg12 arg13 arg16) (k0_part98 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1853 v1900) := by
  unfold k0_part98
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part99  (k0_t2 : Fin k0_t2_loop.trips) (arg17 : BitVec 32) (v1208 : FVec F S32x128 .f32) (v1851 : FVec F S32x128 .f32) (v1882 : FVec F S32x128 .f32) (v1911 : FVec F S32x128 .f32) (v1929 : FVec F S32x128 .f32) (v1937 : FVec F S1x128 .f32) :
    Safe (F := F) c (B c arg7 arg8 arg9 arg10 arg12 arg13 arg16) (k0_part99 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1882 v1911 v1929 v1937) := by
  unfold k0_part99
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part100  (k0_t2 : Fin k0_t2_loop.trips) (arg17 : BitVec 32) (v1208 : FVec F S32x128 .f32) (v1851 : FVec F S32x128 .f32) (v1940 : FVec F S32x128 .f32) (v1971 : FVec F S32x128 .f32) :
    Safe (F := F) c (B c arg7 arg8 arg9 arg10 arg12 arg13 arg16) (k0_part100 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1940 v1971) := by
  unfold k0_part100
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part101  (k0_t2 : Fin k0_t2_loop.trips) (arg17 : BitVec 32) (v1208 : FVec F S32x128 .f32) (v1851 : FVec F S32x128 .f32) (v1969 : FVec F S32x128 .f32) (v2000 : FVec F S32x128 .f32) (v2005 : FVec F S1x128 .f32) :
    Safe (F := F) c (B c arg7 arg8 arg9 arg10 arg12 arg13 arg16) (k0_part101 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1969 v2000 v2005) := by
  unfold k0_part101
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part102  (k0_t2 : Fin k0_t2_loop.trips) (arg17 : BitVec 32) (v1208 : FVec F S32x128 .f32) (v1851 : FVec F S32x128 .f32) (v1998 : FVec F S32x128 .f32) (v2037 : FVec F S32x128 .f32) :
    Safe (F := F) c (B c arg7 arg8 arg9 arg10 arg12 arg13 arg16) (k0_part102 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1998 v2037) := by
  unfold k0_part102
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part103  (k0_t2 : Fin k0_t2_loop.trips) (arg17 : BitVec 32) (v1208 : FVec F S32x128 .f32) (v1851 : FVec F S32x128 .f32) (v2027 : FVec F S32x128 .f32) (v2074 : FVec F S32x128 .f32) :
    Safe (F := F) c (B c arg7 arg8 arg9 arg10 arg12 arg13 arg16) (k0_part103 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2027 v2074) := by
  unfold k0_part103
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part104  (k0_t2 : Fin k0_t2_loop.trips) (arg17 : BitVec 32) (v1208 : FVec F S32x128 .f32) (v1851 : FVec F S32x128 .f32) (v2056 : FVec F S32x128 .f32) (v2085 : FVec F S32x128 .f32) (v2103 : FVec F S32x128 .f32) :
    Safe (F := F) c (B c arg7 arg8 arg9 arg10 arg12 arg13 arg16) (k0_part104 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2056 v2085 v2103) := by
  unfold k0_part104
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part105  (k0_t2 : Fin k0_t2_loop.trips) (arg17 : BitVec 32) (v1208 : FVec F S32x128 .f32) (v1851 : FVec F S32x128 .f32) (v2114 : FVec F S32x128 .f32) :
    Safe (F := F) c (B c arg7 arg8 arg9 arg10 arg12 arg13 arg16) (k0_part105 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2114) := by
  unfold k0_part105
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part106  (k0_t2 : Fin k0_t2_loop.trips) (arg17 : BitVec 32) (v1208 : FVec F S32x128 .f32) (v1851 : FVec F S32x128 .f32) (v2143 : FVec F S32x128 .f32) (v2174 : FVec F S32x128 .f32) :
    Safe (F := F) c (B c arg7 arg8 arg9 arg10 arg12 arg13 arg16) (k0_part106 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2143 v2174) := by
  unfold k0_part106
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part107  (k0_t2 : Fin k0_t2_loop.trips) (arg17 : BitVec 32) (v1208 : FVec F S32x128 .f32) (v1851 : FVec F S32x128 .f32) (v2172 : FVec F S32x128 .f32) (v2211 : FVec F S32x128 .f32) :
    Safe (F := F) c (B c arg7 arg8 arg9 arg10 arg12 arg13 arg16) (k0_part107 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2172 v2211) := by
  unfold k0_part107
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part108  (k0_t2 : Fin k0_t2_loop.trips) (arg17 : BitVec 32) (v1208 : FVec F S32x128 .f32) (v1851 : FVec F S32x128 .f32) (v2201 : FVec F S32x128 .f32) (v2240 : FVec F S32x128 .f32) (v2244 : Vec F S1x1x128 .f32) :
    Safe (F := F) c (B c arg7 arg8 arg9 arg10 arg12 arg13 arg16) (k0_part108 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2201 v2240 v2244) := by
  unfold k0_part108
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  exact safe_pure _

theorem s_part109  (k0_t2 : Fin k0_t2_loop.trips) (arg17 : BitVec 32) (v1208 : FVec F S32x128 .f32) (v1851 : FVec F S32x128 .f32) (v2230 : FVec F S32x128 .f32) (v2277 : FVec F S32x128 .f32) :
    Safe (F := F) c (B c arg7 arg8 arg9 arg10 arg12 arg13 arg16) (k0_part109 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2230 v2277) := by
  unfold k0_part109
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part110  (k0_t2 : Fin k0_t2_loop.trips) (arg17 : BitVec 32) (v1208 : FVec F S32x128 .f32) (v1851 : FVec F S32x128 .f32) (v2259 : FVec F S32x128 .f32) (v2288 : FVec F S32x128 .f32) (v2306 : FVec F S32x128 .f32) :
    Safe (F := F) c (B c arg7 arg8 arg9 arg10 arg12 arg13 arg16) (k0_part110 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2259 v2288 v2306) := by
  unfold k0_part110
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part111  (k0_t2 : Fin k0_t2_loop.trips) (arg17 : BitVec 32) (v1208 : FVec F S32x128 .f32) (v1851 : FVec F S32x128 .f32) (v2317 : FVec F S32x128 .f32) :
    Safe (F := F) c (B c arg7 arg8 arg9 arg10 arg12 arg13 arg16) (k0_part111 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2317) := by
  unfold k0_part111
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part112  (k0_t2 : Fin k0_t2_loop.trips) (arg17 : BitVec 32) (v1208 : FVec F S32x128 .f32) (v1851 : FVec F S32x128 .f32) (v2346 : FVec F S32x128 .f32) (v2377 : FVec F S32x128 .f32) :
    Safe (F := F) c (B c arg7 arg8 arg9 arg10 arg12 arg13 arg16) (k0_part112 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2346 v2377) := by
  unfold k0_part112
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part113  (k0_t2 : Fin k0_t2_loop.trips) (arg17 : BitVec 32) (v1208 : FVec F S32x128 .f32) (v1851 : FVec F S32x128 .f32) (v2375 : FVec F S32x128 .f32) (v2414 : FVec F S32x128 .f32) :
    Safe (F := F) c (B c arg7 arg8 arg9 arg10 arg12 arg13 arg16) (k0_part113 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2375 v2414) := by
  unfold k0_part113
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part114  (k0_t2 : Fin k0_t2_loop.trips) (arg17 : BitVec 32) (v1208 : FVec F S32x128 .f32) (v1851 : FVec F S32x128 .f32) (v2404 : FVec F S32x128 .f32) (v2443 : FVec F S32x128 .f32) (v2450 : FVec F S32x128 .f32) :
    Safe (F := F) c (B c arg7 arg8 arg9 arg10 arg12 arg13 arg16) (k0_part114 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2404 v2443 v2450) := by
  unfold k0_part114
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part115  (k0_t2 : Fin k0_t2_loop.trips) (arg17 : BitVec 32) (v1208 : FVec F S32x128 .f32) (v1851 : FVec F S32x128 .f32) (v2433 : FVec F S32x128 .f32) (v2480 : FVec F S32x128 .f32) :
    Safe (F := F) c (B c arg7 arg8 arg9 arg10 arg12 arg13 arg16) (k0_part115 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2433 v2480) := by
  unfold k0_part115
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part116  (k0_t2 : Fin k0_t2_loop.trips) (arg17 : BitVec 32) (v1208 : FVec F S32x128 .f32) (v1851 : FVec F S32x128 .f32) (v2462 : FVec F S32x128 .f32) (v2491 : FVec F S32x128 .f32) (v2509 : FVec F S32x128 .f32) (v2517 : FVec F S1x128 .f32) :
    Safe (F := F) c (B c arg7 arg8 arg9 arg10 arg12 arg13 arg16) (k0_part116 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2462 v2491 v2509 v2517) := by
  unfold k0_part116
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

end Cert.KernelIdeal.AttnSafe

end
-- ==== Proof.AttnS4.lean ====
/- The straight runs of loads and stores of the scan half of the kernel, part by part: each is safe from the buffers it holds. -/
module

public import proofs.«01_k».proof.Proof.AttnSafe

@[expose] public section

set_option maxRecDepth 16384

noncomputable section

namespace Cert.KernelIdeal.AttnSafe

open Cert.KernelIdeal Cert.KernelIdeal.Gen
open Idealize.ShloMosaic Idealize.ShloMosaic.TcCoe

variable {F : FTy → Type} [FloatOps F]

variable (c : Dev nD) (i : grid0.Coords)
  (arg3 : Memref sig .tc .smem S1 .i32) (harg3 : arg3.IsWhole)
  (arg4 : Memref sig .tc .vmem S1x512x256 .bf16) (harg4 : arg4.IsWhole)
  (arg5 : Memref sig .tc .vmem S1x4352x256 .bf16) (harg5 : arg5.IsWhole)
  (arg6 : Memref sig .tc .vmem S1x4352x128 .bf16) (harg6 : arg6.IsWhole)
  (arg7 : Memref sig .tc .vmem S17x64x128 .bf16) (harg7 : arg7.IsWhole)
  (arg8 : Memref sig .tc .vmem S17x64x128 .bf16) (harg8 : arg8.IsWhole)
  (arg9 : Memref sig .tc .vmem S17x32x128 .bf16) (harg9 : arg9.IsWhole)
  (arg10 : Memref sig .tc .vmem S17x32x128 .bf16) (harg10 : arg10.IsWhole)
  (arg11 : Memref sig .tc .vmem S1x512x128 .bf16) (harg11 : arg11.IsWhole)
  (arg12 : Memref sig .tc .vmem S17x32x128 .f32) (harg12 : arg12.IsWhole)
  (arg13 : Memref sig .tc .vmem S64x32x128 .f32) (harg13 : arg13.IsWhole)
  (arg14 : Memref sig .tc .vmem S2x512x128 .f32) (harg14 : arg14.IsWhole)
  (arg15 : Memref sig .tc .vmem S2x512x128 .f32) (harg15 : arg15.IsWhole)
  (arg16 : Memref sig .tc .vmem S5x17x64x128 .f32) (harg16 : arg16.IsWhole)

theorem s_part117  (k0_t2 : Fin k0_t2_loop.trips) (arg17 : BitVec 32) (v1208 : FVec F S32x128 .f32) (v1851 : FVec F S32x128 .f32) (v2520 : FVec F S32x128 .f32) (v2551 : FVec F S32x128 .f32) :
    Safe (F := F) c (B c arg7 arg8 arg9 arg10 arg12 arg13 arg16) (k0_part117 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2520 v2551) := by
  unfold k0_part117
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part118  (k0_t2 : Fin k0_t2_loop.trips) (arg17 : BitVec 32) (v1208 : FVec F S32x128 .f32) (v1851 : FVec F S32x128 .f32) (v2549 : FVec F S32x128 .f32) (v2580 : FVec F S32x128 .f32) (v2585 : FVec F S1x128 .f32) :
    Safe (F := F) c (B c arg7 arg8 arg9 arg10 arg12 arg13 arg16) (k0_part118 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2549 v2580 v2585) := by
  unfold k0_part118
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part119  (k0_t2 : Fin k0_t2_loop.trips) (arg17 : BitVec 32) (v1208 : FVec F S32x128 .f32) (v1851 : FVec F S32x128 .f32) (v2578 : FVec F S32x128 .f32) (v2617 : FVec F S32x128 .f32) :
    Safe (F := F) c (B c arg7 arg8 arg9 arg10 arg12 arg13 arg16) (k0_part119 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2578 v2617) := by
  unfold k0_part119
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part120  (k0_t2 : Fin k0_t2_loop.trips) (arg17 : BitVec 32) (v1208 : FVec F S32x128 .f32) (v1851 : FVec F S32x128 .f32) (v2607 : FVec F S32x128 .f32) (v2654 : FVec F S32x128 .f32) :
    Safe (F := F) c (B c arg7 arg8 arg9 arg10 arg12 arg13 arg16) (k0_part120 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2607 v2654) := by
  unfold k0_part120
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part121  (k0_t2 : Fin k0_t2_loop.trips) (arg17 : BitVec 32) (v1208 : FVec F S32x128 .f32) (v1851 : FVec F S32x128 .f32) (v2636 : FVec F S32x128 .f32) (v2665 : FVec F S32x128 .f32) (v2683 : FVec F S32x128 .f32) :
    Safe (F := F) c (B c arg7 arg8 arg9 arg10 arg12 arg13 arg16) (k0_part121 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2636 v2665 v2683) := by
  unfold k0_part121
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part122  (k0_t2 : Fin k0_t2_loop.trips) (arg17 : BitVec 32) (v1208 : FVec F S32x128 .f32) (v1851 : FVec F S32x128 .f32) (v2694 : FVec F S32x128 .f32) :
    Safe (F := F) c (B c arg7 arg8 arg9 arg10 arg12 arg13 arg16) (k0_part122 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2694) := by
  unfold k0_part122
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part123  (k0_t2 : Fin k0_t2_loop.trips) (arg17 : BitVec 32) (v1208 : FVec F S32x128 .f32) (v1851 : FVec F S32x128 .f32) (v2723 : FVec F S32x128 .f32) (v2754 : FVec F S32x128 .f32) :
    Safe (F := F) c (B c arg7 arg8 arg9 arg10 arg12 arg13 arg16) (k0_part123 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2723 v2754) := by
  unfold k0_part123
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part124  (k0_t2 : Fin k0_t2_loop.trips) (arg17 : BitVec 32) (v1208 : FVec F S32x128 .f32) (v1851 : FVec F S32x128 .f32) (v2752 : FVec F S32x128 .f32) (v2791 : FVec F S32x128 .f32) :
    Safe (F := F) c (B c arg7 arg8 arg9 arg10 arg12 arg13 arg16) (k0_part124 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2752 v2791) := by
  unfold k0_part124
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part125  (k0_t2 : Fin k0_t2_loop.trips) (arg17 : BitVec 32) (v1208 : FVec F S32x128 .f32) (v1851 : FVec F S32x128 .f32) (v2781 : FVec F S32x128 .f32) (v2820 : FVec F S32x128 .f32) (v2824 : Vec F S1x1x128 .f32) :
    Safe (F := F) c (B c arg7 arg8 arg9 arg10 arg12 arg13 arg16) (k0_part125 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2781 v2820 v2824) := by
  unfold k0_part125
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  exact safe_pure _

theorem s_part126  (k0_t2 : Fin k0_t2_loop.trips) (arg17 : BitVec 32) (v1208 : FVec F S32x128 .f32) (v1851 : FVec F S32x128 .f32) (v2810 : FVec F S32x128 .f32) (v2857 : FVec F S32x128 .f32) :
    Safe (F := F) c (B c arg7 arg8 arg9 arg10 arg12 arg13 arg16) (k0_part126 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2810 v2857) := by
  unfold k0_part126
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part127  (k0_t2 : Fin k0_t2_loop.trips) (arg17 : BitVec 32) (v1208 : FVec F S32x128 .f32) (v1851 : FVec F S32x128 .f32) (v2839 : FVec F S32x128 .f32) (v2868 : FVec F S32x128 .f32) (v2886 : FVec F S32x128 .f32) :
    Safe (F := F) c (B c arg7 arg8 arg9 arg10 arg12 arg13 arg16) (k0_part127 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2839 v2868 v2886) := by
  unfold k0_part127
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part128  (k0_t2 : Fin k0_t2_loop.trips) (arg17 : BitVec 32) (v1208 : FVec F S32x128 .f32) (v1851 : FVec F S32x128 .f32) (v2897 : FVec F S32x128 .f32) :
    Safe (F := F) c (B c arg7 arg8 arg9 arg10 arg12 arg13 arg16) (k0_part128 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2897) := by
  unfold k0_part128
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part129  (k0_t2 : Fin k0_t2_loop.trips) (arg17 : BitVec 32) (v1208 : FVec F S32x128 .f32) (v1851 : FVec F S32x128 .f32) (v2926 : FVec F S32x128 .f32) (v2957 : FVec F S32x128 .f32) :
    Safe (F := F) c (B c arg7 arg8 arg9 arg10 arg12 arg13 arg16) (k0_part129 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2926 v2957) := by
  unfold k0_part129
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part130  (k0_t2 : Fin k0_t2_loop.trips) (arg17 : BitVec 32) (v1208 : FVec F S32x128 .f32) (v1851 : FVec F S32x128 .f32) (v2955 : FVec F S32x128 .f32) (v2994 : FVec F S32x128 .f32) :
    Safe (F := F) c (B c arg7 arg8 arg9 arg10 arg12 arg13 arg16) (k0_part130 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2955 v2994) := by
  unfold k0_part130
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part131  (k0_t2 : Fin k0_t2_loop.trips) (arg17 : BitVec 32) (v1208 : FVec F S32x128 .f32) (v1851 : FVec F S32x128 .f32) (v2984 : FVec F S32x128 .f32) (v3023 : FVec F S32x128 .f32) (v3030 : FVec F S32x128 .f32) :
    Safe (F := F) c (B c arg7 arg8 arg9 arg10 arg12 arg13 arg16) (k0_part131 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2984 v3023 v3030) := by
  unfold k0_part131
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part132  (k0_t2 : Fin k0_t2_loop.trips) (arg17 : BitVec 32) (v1208 : FVec F S32x128 .f32) (v1851 : FVec F S32x128 .f32) (v3013 : FVec F S32x128 .f32) (v3060 : FVec F S32x128 .f32) :
    Safe (F := F) c (B c arg7 arg8 arg9 arg10 arg12 arg13 arg16) (k0_part132 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3013 v3060) := by
  unfold k0_part132
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part133  (k0_t2 : Fin k0_t2_loop.trips) (arg17 : BitVec 32) (v1208 : FVec F S32x128 .f32) (v1851 : FVec F S32x128 .f32) (v3042 : FVec F S32x128 .f32) (v3071 : FVec F S32x128 .f32) (v3089 : FVec F S32x128 .f32) (v3097 : FVec F S1x128 .f32) :
    Safe (F := F) c (B c arg7 arg8 arg9 arg10 arg12 arg13 arg16) (k0_part133 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3042 v3071 v3089 v3097) := by
  unfold k0_part133
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part134  (k0_t2 : Fin k0_t2_loop.trips) (arg17 : BitVec 32) (v1208 : FVec F S32x128 .f32) (v1851 : FVec F S32x128 .f32) (v3100 : FVec F S32x128 .f32) (v3131 : FVec F S32x128 .f32) :
    Safe (F := F) c (B c arg7 arg8 arg9 arg10 arg12 arg13 arg16) (k0_part134 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3100 v3131) := by
  unfold k0_part134
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part135  (k0_t2 : Fin k0_t2_loop.trips) (arg17 : BitVec 32) (v1208 : FVec F S32x128 .f32) (v1851 : FVec F S32x128 .f32) (v3129 : FVec F S32x128 .f32) (v3160 : FVec F S32x128 .f32) (v3165 : FVec F S1x128 .f32) :
    Safe (F := F) c (B c arg7 arg8 arg9 arg10 arg12 arg13 arg16) (k0_part135 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3129 v3160 v3165) := by
  unfold k0_part135
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part136  (k0_t2 : Fin k0_t2_loop.trips) (arg17 : BitVec 32) (v1208 : FVec F S32x128 .f32) (v1851 : FVec F S32x128 .f32) (v3158 : FVec F S32x128 .f32) (v3197 : FVec F S32x128 .f32) :
    Safe (F := F) c (B c arg7 arg8 arg9 arg10 arg12 arg13 arg16) (k0_part136 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3158 v3197) := by
  unfold k0_part136
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part137  (k0_t2 : Fin k0_t2_loop.trips) (arg17 : BitVec 32) (v1208 : FVec F S32x128 .f32) (v1851 : FVec F S32x128 .f32) (v3187 : FVec F S32x128 .f32) (v3234 : FVec F S32x128 .f32) :
    Safe (F := F) c (B c arg7 arg8 arg9 arg10 arg12 arg13 arg16) (k0_part137 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3187 v3234) := by
  unfold k0_part137
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part138  (k0_t2 : Fin k0_t2_loop.trips) (arg17 : BitVec 32) (v1208 : FVec F S32x128 .f32) (v1851 : FVec F S32x128 .f32) (v3216 : FVec F S32x128 .f32) (v3245 : FVec F S32x128 .f32) (v3263 : FVec F S32x128 .f32) :
    Safe (F := F) c (B c arg7 arg8 arg9 arg10 arg12 arg13 arg16) (k0_part138 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3216 v3245 v3263) := by
  unfold k0_part138
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part139  (k0_t2 : Fin k0_t2_loop.trips) (arg17 : BitVec 32) (v1208 : FVec F S32x128 .f32) (v1851 : FVec F S32x128 .f32) (v3274 : FVec F S32x128 .f32) :
    Safe (F := F) c (B c arg7 arg8 arg9 arg10 arg12 arg13 arg16) (k0_part139 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3274) := by
  unfold k0_part139
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part140  (k0_t2 : Fin k0_t2_loop.trips) (arg17 : BitVec 32) (v1208 : FVec F S32x128 .f32) (v1851 : FVec F S32x128 .f32) (v3303 : FVec F S32x128 .f32) (v3334 : FVec F S32x128 .f32) :
    Safe (F := F) c (B c arg7 arg8 arg9 arg10 arg12 arg13 arg16) (k0_part140 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3303 v3334) := by
  unfold k0_part140
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part141  (k0_t2 : Fin k0_t2_loop.trips) (arg17 : BitVec 32) (v1208 : FVec F S32x128 .f32) (v1851 : FVec F S32x128 .f32) (v3332 : FVec F S32x128 .f32) (v3371 : FVec F S32x128 .f32) :
    Safe (F := F) c (B c arg7 arg8 arg9 arg10 arg12 arg13 arg16) (k0_part141 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3332 v3371) := by
  unfold k0_part141
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part142  (k0_t2 : Fin k0_t2_loop.trips) (arg17 : BitVec 32) (v1208 : FVec F S32x128 .f32) (v1851 : FVec F S32x128 .f32) (v3361 : FVec F S32x128 .f32) (v3400 : FVec F S32x128 .f32) (v3404 : Vec F S1x1x128 .f32) :
    Safe (F := F) c (B c arg7 arg8 arg9 arg10 arg12 arg13 arg16) (k0_part142 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3361 v3400 v3404) := by
  unfold k0_part142
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  exact safe_pure _

theorem s_part143  (k0_t2 : Fin k0_t2_loop.trips) (arg17 : BitVec 32) (v1208 : FVec F S32x128 .f32) (v1851 : FVec F S32x128 .f32) (v3390 : FVec F S32x128 .f32) (v3437 : FVec F S32x128 .f32) :
    Safe (F := F) c (B c arg7 arg8 arg9 arg10 arg12 arg13 arg16) (k0_part143 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3390 v3437) := by
  unfold k0_part143
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part144  (k0_t2 : Fin k0_t2_loop.trips) (arg17 : BitVec 32) (v1208 : FVec F S32x128 .f32) (v1851 : FVec F S32x128 .f32) (v3419 : FVec F S32x128 .f32) (v3448 : FVec F S32x128 .f32) (v3466 : FVec F S32x128 .f32) :
    Safe (F := F) c (B c arg7 arg8 arg9 arg10 arg12 arg13 arg16) (k0_part144 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3419 v3448 v3466) := by
  unfold k0_part144
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part145  (k0_t2 : Fin k0_t2_loop.trips) (arg17 : BitVec 32) (v1208 : FVec F S32x128 .f32) (v1851 : FVec F S32x128 .f32) (v3477 : FVec F S32x128 .f32) :
    Safe (F := F) c (B c arg7 arg8 arg9 arg10 arg12 arg13 arg16) (k0_part145 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3477) := by
  unfold k0_part145
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  exact safe_pure _

theorem s_part146  (k0_t2 : Fin k0_t2_loop.trips) (arg17 : BitVec 32) (v1208 : FVec F S32x128 .f32) (v1851 : FVec F S32x128 .f32) (v3506 : FVec F S32x128 .f32) (v3537 : FVec F S32x128 .f32) :
    Safe (F := F) c (B c arg7 arg8 arg9 arg10 arg12 arg13 arg16) (k0_part146 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3506 v3537) := by
  unfold k0_part146
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  exact safe_pure _

theorem s_part147  (k0_t2 : Fin k0_t2_loop.trips) (arg17 : BitVec 32) (v1208 : FVec F S32x128 .f32) (v1851 : FVec F S32x128 .f32) (v3535 : FVec F S32x128 .f32) (v3574 : FVec F S32x128 .f32) :
    Safe (F := F) c (B c arg7 arg8 arg9 arg10 arg12 arg13 arg16) (k0_part147 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3535 v3574) := by
  unfold k0_part147
  refine safe_load (held_slice h16 _ _ _ _) ?_; intro _
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  exact safe_pure _

theorem s_part148  (k0_t2 : Fin k0_t2_loop.trips) (arg17 : BitVec 32) (v1208 : FVec F S32x128 .f32) (v1851 : FVec F S32x128 .f32) (v3564 : FVec F S32x128 .f32) (v3603 : FVec F S32x128 .f32) (v3610 : FVec F S32x128 .f32) :
    Safe (F := F) c (B c arg7 arg8 arg9 arg10 arg12 arg13 arg16) (k0_part148 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3564 v3603 v3610) := by
  unfold k0_part148
  refine safe_load h13 ?_; intro _
  refine safe_store h13 ?_
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  exact safe_pure _

theorem s_part149  (k0_t2 : Fin k0_t2_loop.trips) (arg17 : BitVec 32) (v1208 : FVec F S32x128 .f32) (v1851 : FVec F S32x128 .f32) (v3593 : FVec F S32x128 .f32) (v3640 : FVec F S32x128 .f32) :
    Safe (F := F) c (B c arg7 arg8 arg9 arg10 arg12 arg13 arg16) (k0_part149 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3593 v3640) := by
  unfold k0_part149
  refine safe_load (held_slice h16 _ _ _ _) ?_; intro _
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  exact safe_pure _

theorem s_part150  (k0_t2 : Fin k0_t2_loop.trips) (arg17 : BitVec 32) (v1208 : FVec F S32x128 .f32) (v1851 : FVec F S32x128 .f32) (v3622 : FVec F S32x128 .f32) (v3651 : FVec F S32x128 .f32) (v3669 : FVec F S32x128 .f32) (v3677 : FVec F S1x128 .f32) :
    Safe (F := F) c (B c arg7 arg8 arg9 arg10 arg12 arg13 arg16) (k0_part150 i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3622 v3651 v3669 v3677) := by
  unfold k0_part150
  refine safe_load h13 ?_; intro _
  refine safe_load (held_slice h16 _ _ _ _) ?_; intro _
  refine safe_load (held_slice h16 _ _ _ _) ?_; intro _
  refine safe_load h13 ?_; intro _
  refine safe_store h13 ?_
  refine safe_load (held_slice h16 _ _ _ _) ?_; intro _
  refine safe_load h12 ?_; intro _
  exact safe_pure _

end Cert.KernelIdeal.AttnSafe

end
-- ==== Proof.AttnS5.lean ====
/- The straight runs of loads and stores of the scan half of the kernel, part by part: each is safe from the buffers it holds. -/
module

public import proofs.«01_k».proof.Proof.AttnSafe

@[expose] public section

set_option maxRecDepth 16384

noncomputable section

namespace Cert.KernelIdeal.AttnSafe

open Cert.KernelIdeal Cert.KernelIdeal.Gen
open Idealize.ShloMosaic Idealize.ShloMosaic.TcCoe

variable {F : FTy → Type} [FloatOps F]

variable (c : Dev nD) (i : grid0.Coords)
  (arg3 : Memref sig .tc .smem S1 .i32) (harg3 : arg3.IsWhole)
  (arg4 : Memref sig .tc .vmem S1x512x256 .bf16) (harg4 : arg4.IsWhole)
  (arg5 : Memref sig .tc .vmem S1x4352x256 .bf16) (harg5 : arg5.IsWhole)
  (arg6 : Memref sig .tc .vmem S1x4352x128 .bf16) (harg6 : arg6.IsWhole)
  (arg7 : Memref sig .tc .vmem S17x64x128 .bf16) (harg7 : arg7.IsWhole)
  (arg8 : Memref sig .tc .vmem S17x64x128 .bf16) (harg8 : arg8.IsWhole)
  (arg9 : Memref sig .tc .vmem S17x32x128 .bf16) (harg9 : arg9.IsWhole)
  (arg10 : Memref sig .tc .vmem S17x32x128 .bf16) (harg10 : arg10.IsWhole)
  (arg11 : Memref sig .tc .vmem S1x512x128 .bf16) (harg11 : arg11.IsWhole)
  (arg12 : Memref sig .tc .vmem S17x32x128 .f32) (harg12 : arg12.IsWhole)
  (arg13 : Memref sig .tc .vmem S64x32x128 .f32) (harg13 : arg13.IsWhole)
  (arg14 : Memref sig .tc .vmem S2x512x128 .f32) (harg14 : arg14.IsWhole)
  (arg15 : Memref sig .tc .vmem S2x512x128 .f32) (harg15 : arg15.IsWhole)
  (arg16 : Memref sig .tc .vmem S5x17x64x128 .f32) (harg16 : arg16.IsWhole)

theorem s_part155  (v16 : FVec F S17x64x128 .f32) (v17 : FVec F S17x64x128 .f32) (v27 : FVec F S17x64x128 .f32) (v28 : FVec F S17x64x128 .f32) (v31 : FVec F S17x32x128 .f32) (v34 : FVec F S17x32x128 .f32) (v35 : IVec S17x32x128 32) (v36 : IVec S17x32x128 32) :
    Safe (F := F) c (B c arg7 arg8 arg9 arg10 arg12 arg13 arg16) (k0_part155 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v31 v34 v35 v36) := by
  unfold k0_part155
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part156  (v16 : FVec F S17x64x128 .f32) (v17 : FVec F S17x64x128 .f32) (v27 : FVec F S17x64x128 .f32) (v28 : FVec F S17x64x128 .f32) (v40 : FVec F S17x64x128 .f32) (v51 : FVec F S64x128 .f32) (v74 : FVec F S1x64x128 .f32) :
    Safe (F := F) c (B c arg7 arg8 arg9 arg10 arg12 arg13 arg16) (k0_part156 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v51 v74) := by
  unfold k0_part156
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part157  (v16 : FVec F S17x64x128 .f32) (v17 : FVec F S17x64x128 .f32) (v27 : FVec F S17x64x128 .f32) (v28 : FVec F S17x64x128 .f32) (v40 : FVec F S17x64x128 .f32) (v83 : FVec F S64x128 .f32) (v109 : FVec F S64x128 .f32) :
    Safe (F := F) c (B c arg7 arg8 arg9 arg10 arg12 arg13 arg16) (k0_part157 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v83 v109) := by
  unfold k0_part157
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part158  (v16 : FVec F S17x64x128 .f32) (v17 : FVec F S17x64x128 .f32) (v27 : FVec F S17x64x128 .f32) (v28 : FVec F S17x64x128 .f32) (v40 : FVec F S17x64x128 .f32) (v147 : FVec F S64x128 .f32) :
    Safe (F := F) c (B c arg7 arg8 arg9 arg10 arg12 arg13 arg16) (k0_part158 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v147) := by
  unfold k0_part158
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part159  (v16 : FVec F S17x64x128 .f32) (v17 : FVec F S17x64x128 .f32) (v27 : FVec F S17x64x128 .f32) (v28 : FVec F S17x64x128 .f32) (v40 : FVec F S17x64x128 .f32) (v179 : FVec F S64x128 .f32) (v182 : FVec F S64x128 .f32) (v185 : FVec F S64x128 .f32) :
    Safe (F := F) c (B c arg7 arg8 arg9 arg10 arg12 arg13 arg16) (k0_part159 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v179 v182 v185) := by
  unfold k0_part159
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  exact safe_pure _

theorem s_part160  (v16 : FVec F S17x64x128 .f32) (v17 : FVec F S17x64x128 .f32) (v27 : FVec F S17x64x128 .f32) (v28 : FVec F S17x64x128 .f32) (v40 : FVec F S17x64x128 .f32) (v211 : FVec F S64x128 .f32) (v214 : FVec F S64x128 .f32) (v220 : FVec F S1x1x64x128 .f32) :
    Safe (F := F) c (B c arg7 arg8 arg9 arg10 arg12 arg13 arg16) (k0_part160 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v211 v214 v220) := by
  unfold k0_part160
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part161  (v16 : FVec F S17x64x128 .f32) (v17 : FVec F S17x64x128 .f32) (v27 : FVec F S17x64x128 .f32) (v28 : FVec F S17x64x128 .f32) (v40 : FVec F S17x64x128 .f32) (v243 : FVec F S64x128 .f32) (v255 : FVec F S64x128 .f32) :
    Safe (F := F) c (B c arg7 arg8 arg9 arg10 arg12 arg13 arg16) (k0_part161 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v243 v255) := by
  unfold k0_part161
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part162  (v16 : FVec F S17x64x128 .f32) (v17 : FVec F S17x64x128 .f32) (v27 : FVec F S17x64x128 .f32) (v28 : FVec F S17x64x128 .f32) (v40 : FVec F S17x64x128 .f32) (v275 : FVec F S64x128 .f32) (v292 : FVec F S64x128 .f32) :
    Safe (F := F) c (B c arg7 arg8 arg9 arg10 arg12 arg13 arg16) (k0_part162 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v275 v292) := by
  unfold k0_part162
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  exact safe_pure _

theorem s_part163  (v16 : FVec F S17x64x128 .f32) (v17 : FVec F S17x64x128 .f32) (v27 : FVec F S17x64x128 .f32) (v28 : FVec F S17x64x128 .f32) (v40 : FVec F S17x64x128 .f32) (v307 : FVec F S64x128 .f32) (v326 : FVec F S64x128 .f32) (v327 : Vec F S1x1x64x128 .f32) :
    Safe (F := F) c (B c arg7 arg8 arg9 arg10 arg12 arg13 arg16) (k0_part163 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v307 v326 v327) := by
  unfold k0_part163
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part164  (v16 : FVec F S17x64x128 .f32) (v17 : FVec F S17x64x128 .f32) (v27 : FVec F S17x64x128 .f32) (v28 : FVec F S17x64x128 .f32) (v40 : FVec F S17x64x128 .f32) (v339 : FVec F S64x128 .f32) (v365 : FVec F S64x128 .f32) :
    Safe (F := F) c (B c arg7 arg8 arg9 arg10 arg12 arg13 arg16) (k0_part164 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v339 v365) := by
  unfold k0_part164
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  exact safe_pure _

theorem s_part165  (v16 : FVec F S17x64x128 .f32) (v17 : FVec F S17x64x128 .f32) (v27 : FVec F S17x64x128 .f32) (v28 : FVec F S17x64x128 .f32) (v40 : FVec F S17x64x128 .f32) (v371 : FVec F S64x128 .f32) (v400 : FVec F S1x1x64x128 .f32) :
    Safe (F := F) c (B c arg7 arg8 arg9 arg10 arg12 arg13 arg16) (k0_part165 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v371 v400) := by
  unfold k0_part165
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part166  (v16 : FVec F S17x64x128 .f32) (v17 : FVec F S17x64x128 .f32) (v27 : FVec F S17x64x128 .f32) (v28 : FVec F S17x64x128 .f32) (v40 : FVec F S17x64x128 .f32) (v435 : FVec F S64x128 .f32) (v437 : FVec F S64x128 .f32) :
    Safe (F := F) c (B c arg7 arg8 arg9 arg10 arg12 arg13 arg16) (k0_part166 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v435 v437) := by
  unfold k0_part166
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part167  (v16 : FVec F S17x64x128 .f32) (v17 : FVec F S17x64x128 .f32) (v27 : FVec F S17x64x128 .f32) (v28 : FVec F S17x64x128 .f32) (v40 : FVec F S17x64x128 .f32) (v467 : FVec F S64x128 .f32) (v470 : FVec F S64x128 .f32) (v473 : FVec F S64x128 .f32) :
    Safe (F := F) c (B c arg7 arg8 arg9 arg10 arg12 arg13 arg16) (k0_part167 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v467 v470 v473) := by
  unfold k0_part167
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part168  (v16 : FVec F S17x64x128 .f32) (v17 : FVec F S17x64x128 .f32) (v27 : FVec F S17x64x128 .f32) (v28 : FVec F S17x64x128 .f32) (v40 : FVec F S17x64x128 .f32) (v499 : FVec F S64x128 .f32) (v502 : FVec F S64x128 .f32) (v510 : FVec F S64x128 .f32) :
    Safe (F := F) c (B c arg7 arg8 arg9 arg10 arg12 arg13 arg16) (k0_part168 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v499 v502 v510) := by
  unfold k0_part168
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  exact safe_pure _

theorem s_part169  (v16 : FVec F S17x64x128 .f32) (v17 : FVec F S17x64x128 .f32) (v27 : FVec F S17x64x128 .f32) (v28 : FVec F S17x64x128 .f32) (v40 : FVec F S17x64x128 .f32) (v531 : FVec F S64x128 .f32) (v543 : FVec F S64x128 .f32) :
    Safe (F := F) c (B c arg7 arg8 arg9 arg10 arg12 arg13 arg16) (k0_part169 i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v531 v543) := by
  unfold k0_part169
  refine safe_store h16 ?_
  refine safe_load h16 ?_; intro _
  refine safe_store h16 ?_
  refine safe_load h16 ?_; intro _
  refine safe_store h16 ?_
  refine safe_load h16 ?_; intro _
  refine safe_store h16 ?_
  refine safe_load h16 ?_; intro _
  refine safe_store h16 ?_
  exact safe_pure _

theorem s_part171  :
    Safe (F := F) c (B c arg7 arg8 arg9 arg10 arg12 arg13 arg16) (k0_part171 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part171
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part172  :
    Safe (F := F) c (B c arg7 arg8 arg9 arg10 arg12 arg13 arg16) (k0_part172 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part172
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part173  :
    Safe (F := F) c (B c arg7 arg8 arg9 arg10 arg12 arg13 arg16) (k0_part173 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part173
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part174  :
    Safe (F := F) c (B c arg7 arg8 arg9 arg10 arg12 arg13 arg16) (k0_part174 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part174
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part175  :
    Safe (F := F) c (B c arg7 arg8 arg9 arg10 arg12 arg13 arg16) (k0_part175 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part175
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part176  :
    Safe (F := F) c (B c arg7 arg8 arg9 arg10 arg12 arg13 arg16) (k0_part176 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part176
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part177  :
    Safe (F := F) c (B c arg7 arg8 arg9 arg10 arg12 arg13 arg16) (k0_part177 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part177
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part178  :
    Safe (F := F) c (B c arg7 arg8 arg9 arg10 arg12 arg13 arg16) (k0_part178 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part178
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part179  :
    Safe (F := F) c (B c arg7 arg8 arg9 arg10 arg12 arg13 arg16) (k0_part179 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part179
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part180  :
    Safe (F := F) c (B c arg7 arg8 arg9 arg10 arg12 arg13 arg16) (k0_part180 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part180
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part181  :
    Safe (F := F) c (B c arg7 arg8 arg9 arg10 arg12 arg13 arg16) (k0_part181 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part181
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part182  :
    Safe (F := F) c (B c arg7 arg8 arg9 arg10 arg12 arg13 arg16) (k0_part182 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part182
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part183  :
    Safe (F := F) c (B c arg7 arg8 arg9 arg10 arg12 arg13 arg16) (k0_part183 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part183
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part184  :
    Safe (F := F) c (B c arg7 arg8 arg9 arg10 arg12 arg13 arg16) (k0_part184 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part184
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part185  :
    Safe (F := F) c (B c arg7 arg8 arg9 arg10 arg12 arg13 arg16) (k0_part185 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part185
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part186  :
    Safe (F := F) c (B c arg7 arg8 arg9 arg10 arg12 arg13 arg16) (k0_part186 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part186
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part187  :
    Safe (F := F) c (B c arg7 arg8 arg9 arg10 arg12 arg13 arg16) (k0_part187 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part187
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part188  :
    Safe (F := F) c (B c arg7 arg8 arg9 arg10 arg12 arg13 arg16) (k0_part188 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part188
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part189  :
    Safe (F := F) c (B c arg7 arg8 arg9 arg10 arg12 arg13 arg16) (k0_part189 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part189
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part190  :
    Safe (F := F) c (B c arg7 arg8 arg9 arg10 arg12 arg13 arg16) (k0_part190 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part190
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

theorem s_part191  :
    Safe (F := F) c (B c arg7 arg8 arg9 arg10 arg12 arg13 arg16) (k0_part191 i arg3 harg3 arg4 harg4 arg5 harg5 arg6 harg6 arg7 harg7 arg8 harg8 arg9 harg9 arg10 harg10 arg11 harg11 arg12 harg12 arg13 harg13 arg14 harg14 arg15 harg15 arg16 harg16) := by
  unfold k0_part191
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  refine safe_load h13 ?_; intro _
  refine safe_load h16 ?_; intro _
  refine safe_load h13 ?_; intro _
  refine safe_store h13 ?_
  exact safe_pure _

end Cert.KernelIdeal.AttnSafe

end
-- ==== Proof.AttnS6.lean ====
/- The straight runs of loads and stores of the scan half of the kernel, part by part: each is safe from the buffers it holds. -/
module

public import proofs.«01_k».proof.Proof.AttnS1
public import proofs.«01_k».proof.Proof.AttnS2
public import proofs.«01_k».proof.Proof.AttnS3
public import proofs.«01_k».proof.Proof.AttnS4
public import proofs.«01_k».proof.Proof.AttnS5

@[expose] public section

set_option maxRecDepth 16384

noncomputable section

namespace Cert.KernelIdeal.AttnSafe

open Cert.KernelIdeal Cert.KernelIdeal.Gen
open Idealize.ShloMosaic Idealize.ShloMosaic.TcCoe

variable {F : FTy → Type} [FloatOps F]

variable (c : Dev nD) (i : grid0.Coords)
  (arg3 : Memref sig .tc .smem S1 .i32) (harg3 : arg3.IsWhole)
  (arg4 : Memref sig .tc .vmem S1x512x256 .bf16) (harg4 : arg4.IsWhole)
  (arg5 : Memref sig .tc .vmem S1x4352x256 .bf16) (harg5 : arg5.IsWhole)
  (arg6 : Memref sig .tc .vmem S1x4352x128 .bf16) (harg6 : arg6.IsWhole)
  (arg7 : Memref sig .tc .vmem S17x64x128 .bf16) (harg7 : arg7.IsWhole)
  (arg8 : Memref sig .tc .vmem S17x64x128 .bf16) (harg8 : arg8.IsWhole)
  (arg9 : Memref sig .tc .vmem S17x32x128 .bf16) (harg9 : arg9.IsWhole)
  (arg10 : Memref sig .tc .vmem S17x32x128 .bf16) (harg10 : arg10.IsWhole)
  (arg11 : Memref sig .tc .vmem S1x512x128 .bf16) (harg11 : arg11.IsWhole)
  (arg12 : Memref sig .tc .vmem S17x32x128 .f32) (harg12 : arg12.IsWhole)
  (arg13 : Memref sig .tc .vmem S64x32x128 .f32) (harg13 : arg13.IsWhole)
  (arg14 : Memref sig .tc .vmem S2x512x128 .f32) (harg14 : arg14.IsWhole)
  (arg15 : Memref sig .tc .vmem S2x512x128 .f32) (harg15 : arg15.IsWhole)
  (arg16 : Memref sig .tc .vmem S5x17x64x128 .f32) (harg16 : arg16.IsWhole)

theorem s_part76  (c0_i32_917 : BitVec 32) (c1_i32_918 : BitVec 32) (k0_t1 : Fin k0_t1_loop.trips) (arg18 : FVec F S8x128 .f32) :
    Safe (F := F) c (B c arg7 arg8 arg9 arg10 arg12 arg13 arg16) (k0_part76 i arg3 harg3 arg4 harg4 arg5 harg5 arg6 harg6 arg7 harg7 arg8 harg8 arg9 harg9 arg10 harg10 arg11 harg11 arg12 harg12 arg13 harg13 arg14 harg14 arg15 harg15 arg16 harg16 c0_i32_917 c1_i32_918 k0_t1 arg18) := by
  unfold k0_part76
  refine safe_bind (s_part1 (F := F) c i arg3 harg3 arg4 harg4 arg5 harg5 arg6 harg6 arg7 harg7 arg8 harg8 arg9 harg9 arg10 harg10 arg11 harg11 arg12 harg12 arg13 harg13 arg14 harg14 arg15 harg15 arg16 harg16 c0_i32_917 c1_i32_918 k0_t1 arg18) ?_
  rintro ⟨arg17, v1208, v1220, v1230, v1232⟩
  refine safe_bind (s_part2 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1220 v1230 v1232) ?_
  rintro ⟨v1250, v1260, v1269⟩
  refine safe_bind (s_part3 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1250 v1260 v1269) ?_
  rintro ⟨v1290, v1300, v1302⟩
  refine safe_bind (s_part4 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1290 v1300 v1302) ?_
  rintro ⟨v1320, v1330, v1332⟩
  refine safe_bind (s_part5 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1320 v1330 v1332) ?_
  rintro ⟨v1350, v1360, v1369⟩
  refine safe_bind (s_part6 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1350 v1360 v1369) ?_
  rintro ⟨v1390, v1400, v1402⟩
  refine safe_bind (s_part7 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1390 v1400 v1402) ?_
  rintro ⟨v1420, v1430, v1432⟩
  refine safe_bind (s_part8 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1420 v1430 v1432) ?_
  rintro ⟨v1450, v1460, v1469⟩
  refine safe_bind (s_part9 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1450 v1460 v1469) ?_
  rintro ⟨v1490, v1500, v1502⟩
  refine safe_bind (s_part10 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1490 v1500 v1502) ?_
  rintro ⟨v1520, v1530, v1532⟩
  refine safe_bind (s_part11 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1520 v1530 v1532) ?_
  rintro ⟨v1550, v1560, v1569⟩
  refine safe_bind (s_part12 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1550 v1560 v1569) ?_
  rintro ⟨v1590, v1600, v1602⟩
  refine safe_bind (s_part13 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1590 v1600 v1602) ?_
  rintro ⟨v1620, v1630, v1632⟩
  refine safe_bind (s_part14 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1620 v1630 v1632) ?_
  rintro ⟨v1650, v1660, v1669⟩
  refine safe_bind (s_part15 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1650 v1660 v1669) ?_
  rintro ⟨v1690, v1700, v1702⟩
  refine safe_bind (s_part16 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1690 v1700 v1702) ?_
  rintro ⟨v1720, v1730, v1732⟩
  refine safe_bind (s_part17 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1720 v1730 v1732) ?_
  rintro ⟨v1750, v1760, v1769⟩
  refine safe_bind (s_part18 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1750 v1760 v1769) ?_
  rintro ⟨v1790, v1800, v1802⟩
  refine safe_bind (s_part19 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1790 v1800 v1802) ?_
  rintro ⟨v1820, v1830, v1832⟩
  refine safe_bind (s_part20 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1820 v1830 v1832) ?_
  rintro ⟨v1851, v1852, v1853, v1863, v1870⟩
  refine safe_bind (s_part21 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1852 v1863 v1870) ?_
  rintro ⟨v1882, v1900⟩
  refine safe_bind (s_part22 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1853 v1900) ?_
  rintro ⟨v1911, v1929, v1937⟩
  refine safe_bind (s_part23 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1882 v1911 v1929 v1937) ?_
  rintro ⟨v1940, v1969, v1971⟩
  refine safe_bind (s_part24 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1940 v1971) ?_
  rintro ⟨v1998, v2000, v2005⟩
  refine safe_bind (s_part25 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1969 v2000 v2005) ?_
  rintro ⟨v2027, v2037⟩
  refine safe_bind (s_part26 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v1998 v2037) ?_
  rintro ⟨v2056, v2074⟩
  refine safe_bind (s_part27 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2027 v2074) ?_
  rintro ⟨v2085, v2103⟩
  refine safe_bind (s_part28 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2056 v2085 v2103) ?_
  rintro ⟨v2114, v2143⟩
  refine safe_bind (s_part29 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2114) ?_
  rintro ⟨v2172, v2174⟩
  refine safe_bind (s_part30 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2143 v2174) ?_
  rintro ⟨v2201, v2211⟩
  refine safe_bind (s_part31 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2172 v2211) ?_
  rintro ⟨v2230, v2240, v2244⟩
  refine safe_bind (s_part32 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2201 v2240 v2244) ?_
  rintro ⟨v2259, v2277⟩
  refine safe_bind (s_part33 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2230 v2277) ?_
  rintro ⟨v2288, v2306⟩
  refine safe_bind (s_part34 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2259 v2288 v2306) ?_
  rintro ⟨v2317, v2346⟩
  refine safe_bind (s_part35 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2317) ?_
  rintro ⟨v2375, v2377⟩
  refine safe_bind (s_part36 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2346 v2377) ?_
  rintro ⟨v2404, v2414⟩
  refine safe_bind (s_part37 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2375 v2414) ?_
  rintro ⟨v2433, v2443, v2450⟩
  refine safe_bind (s_part38 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2404 v2443 v2450) ?_
  rintro ⟨v2462, v2480⟩
  refine safe_bind (s_part39 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2433 v2480) ?_
  rintro ⟨v2491, v2509, v2517⟩
  refine safe_bind (s_part40 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2462 v2491 v2509 v2517) ?_
  rintro ⟨v2520, v2549, v2551⟩
  refine safe_bind (s_part41 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2520 v2551) ?_
  rintro ⟨v2578, v2580, v2585⟩
  refine safe_bind (s_part42 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2549 v2580 v2585) ?_
  rintro ⟨v2607, v2617⟩
  refine safe_bind (s_part43 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2578 v2617) ?_
  rintro ⟨v2636, v2654⟩
  refine safe_bind (s_part44 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2607 v2654) ?_
  rintro ⟨v2665, v2683⟩
  refine safe_bind (s_part45 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2636 v2665 v2683) ?_
  rintro ⟨v2694, v2723⟩
  refine safe_bind (s_part46 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2694) ?_
  rintro ⟨v2752, v2754⟩
  refine safe_bind (s_part47 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2723 v2754) ?_
  rintro ⟨v2781, v2791⟩
  refine safe_bind (s_part48 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2752 v2791) ?_
  rintro ⟨v2810, v2820, v2824⟩
  refine safe_bind (s_part49 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2781 v2820 v2824) ?_
  rintro ⟨v2839, v2857⟩
  refine safe_bind (s_part50 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2810 v2857) ?_
  rintro ⟨v2868, v2886⟩
  refine safe_bind (s_part51 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2839 v2868 v2886) ?_
  rintro ⟨v2897, v2926⟩
  refine safe_bind (s_part52 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2897) ?_
  rintro ⟨v2955, v2957⟩
  refine safe_bind (s_part53 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2926 v2957) ?_
  rintro ⟨v2984, v2994⟩
  refine safe_bind (s_part54 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2955 v2994) ?_
  rintro ⟨v3013, v3023, v3030⟩
  refine safe_bind (s_part55 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v2984 v3023 v3030) ?_
  rintro ⟨v3042, v3060⟩
  refine safe_bind (s_part56 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3013 v3060) ?_
  rintro ⟨v3071, v3089, v3097⟩
  refine safe_bind (s_part57 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3042 v3071 v3089 v3097) ?_
  rintro ⟨v3100, v3129, v3131⟩
  refine safe_bind (s_part58 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3100 v3131) ?_
  rintro ⟨v3158, v3160, v3165⟩
  refine safe_bind (s_part59 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3129 v3160 v3165) ?_
  rintro ⟨v3187, v3197⟩
  refine safe_bind (s_part60 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3158 v3197) ?_
  rintro ⟨v3216, v3234⟩
  exact safe_pure _

theorem s_part153  (c0_i32_917 : BitVec 32) (c1_i32_918 : BitVec 32) (k0_t2 : Fin k0_t2_loop.trips) (arg18 : FVec F S8x128 .f32) :
    Safe (F := F) c (B c arg7 arg8 arg9 arg10 arg12 arg13 arg16) (k0_part153 i arg3 harg3 arg4 harg4 arg5 harg5 arg6 harg6 arg7 harg7 arg8 harg8 arg9 harg9 arg10 harg10 arg11 harg11 arg12 harg12 arg13 harg13 arg14 harg14 arg15 harg15 arg16 harg16 c0_i32_917 c1_i32_918 k0_t2 arg18) := by
  unfold k0_part153
  refine safe_bind (s_part77 (F := F) c i arg3 harg3 arg4 harg4 arg5 harg5 arg6 harg6 arg7 harg7 arg8 harg8 arg9 harg9 arg10 harg10 arg11 harg11 arg12 harg12 arg13 harg13 arg14 harg14 arg15 harg15 arg16 harg16 c0_i32_917 c1_i32_918 k0_t2 arg18) ?_
  rintro ⟨arg17, v1208, v1220, v1230, v1232⟩
  refine safe_bind (s_part78 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1220 v1230 v1232) ?_
  rintro ⟨v1250, v1260, v1269⟩
  refine safe_bind (s_part79 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1250 v1260 v1269) ?_
  rintro ⟨v1290, v1300, v1302⟩
  refine safe_bind (s_part80 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1290 v1300 v1302) ?_
  rintro ⟨v1320, v1330, v1332⟩
  refine safe_bind (s_part81 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1320 v1330 v1332) ?_
  rintro ⟨v1350, v1360, v1369⟩
  refine safe_bind (s_part82 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1350 v1360 v1369) ?_
  rintro ⟨v1390, v1400, v1402⟩
  refine safe_bind (s_part83 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1390 v1400 v1402) ?_
  rintro ⟨v1420, v1430, v1432⟩
  refine safe_bind (s_part84 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1420 v1430 v1432) ?_
  rintro ⟨v1450, v1460, v1469⟩
  refine safe_bind (s_part85 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1450 v1460 v1469) ?_
  rintro ⟨v1490, v1500, v1502⟩
  refine safe_bind (s_part86 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1490 v1500 v1502) ?_
  rintro ⟨v1520, v1530, v1532⟩
  refine safe_bind (s_part87 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1520 v1530 v1532) ?_
  rintro ⟨v1550, v1560, v1569⟩
  refine safe_bind (s_part88 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1550 v1560 v1569) ?_
  rintro ⟨v1590, v1600, v1602⟩
  refine safe_bind (s_part89 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1590 v1600 v1602) ?_
  rintro ⟨v1620, v1630, v1632⟩
  refine safe_bind (s_part90 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1620 v1630 v1632) ?_
  rintro ⟨v1650, v1660, v1669⟩
  refine safe_bind (s_part91 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1650 v1660 v1669) ?_
  rintro ⟨v1690, v1700, v1702⟩
  refine safe_bind (s_part92 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1690 v1700 v1702) ?_
  rintro ⟨v1720, v1730, v1732⟩
  refine safe_bind (s_part93 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1720 v1730 v1732) ?_
  rintro ⟨v1750, v1760, v1769⟩
  refine safe_bind (s_part94 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1750 v1760 v1769) ?_
  rintro ⟨v1790, v1800, v1802⟩
  refine safe_bind (s_part95 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1790 v1800 v1802) ?_
  rintro ⟨v1820, v1830, v1832⟩
  refine safe_bind (s_part96 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1820 v1830 v1832) ?_
  rintro ⟨v1851, v1852, v1853, v1863, v1870⟩
  refine safe_bind (s_part97 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1852 v1863 v1870) ?_
  rintro ⟨v1882, v1900⟩
  refine safe_bind (s_part98 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1853 v1900) ?_
  rintro ⟨v1911, v1929, v1937⟩
  refine safe_bind (s_part99 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1882 v1911 v1929 v1937) ?_
  rintro ⟨v1940, v1969, v1971⟩
  refine safe_bind (s_part100 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1940 v1971) ?_
  rintro ⟨v1998, v2000, v2005⟩
  refine safe_bind (s_part101 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1969 v2000 v2005) ?_
  rintro ⟨v2027, v2037⟩
  refine safe_bind (s_part102 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v1998 v2037) ?_
  rintro ⟨v2056, v2074⟩
  refine safe_bind (s_part103 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2027 v2074) ?_
  rintro ⟨v2085, v2103⟩
  refine safe_bind (s_part104 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2056 v2085 v2103) ?_
  rintro ⟨v2114, v2143⟩
  refine safe_bind (s_part105 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2114) ?_
  rintro ⟨v2172, v2174⟩
  refine safe_bind (s_part106 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2143 v2174) ?_
  rintro ⟨v2201, v2211⟩
  refine safe_bind (s_part107 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2172 v2211) ?_
  rintro ⟨v2230, v2240, v2244⟩
  refine safe_bind (s_part108 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2201 v2240 v2244) ?_
  rintro ⟨v2259, v2277⟩
  refine safe_bind (s_part109 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2230 v2277) ?_
  rintro ⟨v2288, v2306⟩
  refine safe_bind (s_part110 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2259 v2288 v2306) ?_
  rintro ⟨v2317, v2346⟩
  refine safe_bind (s_part111 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2317) ?_
  rintro ⟨v2375, v2377⟩
  refine safe_bind (s_part112 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2346 v2377) ?_
  rintro ⟨v2404, v2414⟩
  refine safe_bind (s_part113 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2375 v2414) ?_
  rintro ⟨v2433, v2443, v2450⟩
  refine safe_bind (s_part114 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2404 v2443 v2450) ?_
  rintro ⟨v2462, v2480⟩
  refine safe_bind (s_part115 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2433 v2480) ?_
  rintro ⟨v2491, v2509, v2517⟩
  refine safe_bind (s_part116 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2462 v2491 v2509 v2517) ?_
  rintro ⟨v2520, v2549, v2551⟩
  refine safe_bind (s_part117 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2520 v2551) ?_
  rintro ⟨v2578, v2580, v2585⟩
  refine safe_bind (s_part118 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2549 v2580 v2585) ?_
  rintro ⟨v2607, v2617⟩
  refine safe_bind (s_part119 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2578 v2617) ?_
  rintro ⟨v2636, v2654⟩
  refine safe_bind (s_part120 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2607 v2654) ?_
  rintro ⟨v2665, v2683⟩
  refine safe_bind (s_part121 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2636 v2665 v2683) ?_
  rintro ⟨v2694, v2723⟩
  refine safe_bind (s_part122 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2694) ?_
  rintro ⟨v2752, v2754⟩
  refine safe_bind (s_part123 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2723 v2754) ?_
  rintro ⟨v2781, v2791⟩
  refine safe_bind (s_part124 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2752 v2791) ?_
  rintro ⟨v2810, v2820, v2824⟩
  refine safe_bind (s_part125 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2781 v2820 v2824) ?_
  rintro ⟨v2839, v2857⟩
  refine safe_bind (s_part126 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2810 v2857) ?_
  rintro ⟨v2868, v2886⟩
  refine safe_bind (s_part127 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2839 v2868 v2886) ?_
  rintro ⟨v2897, v2926⟩
  refine safe_bind (s_part128 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2897) ?_
  rintro ⟨v2955, v2957⟩
  refine safe_bind (s_part129 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2926 v2957) ?_
  rintro ⟨v2984, v2994⟩
  refine safe_bind (s_part130 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2955 v2994) ?_
  rintro ⟨v3013, v3023, v3030⟩
  refine safe_bind (s_part131 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v2984 v3023 v3030) ?_
  rintro ⟨v3042, v3060⟩
  refine safe_bind (s_part132 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3013 v3060) ?_
  rintro ⟨v3071, v3089, v3097⟩
  refine safe_bind (s_part133 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3042 v3071 v3089 v3097) ?_
  rintro ⟨v3100, v3129, v3131⟩
  refine safe_bind (s_part134 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3100 v3131) ?_
  rintro ⟨v3158, v3160, v3165⟩
  refine safe_bind (s_part135 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3129 v3160 v3165) ?_
  rintro ⟨v3187, v3197⟩
  refine safe_bind (s_part136 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3158 v3197) ?_
  rintro ⟨v3216, v3234⟩
  exact safe_pure _

end Cert.KernelIdeal.AttnSafe

end
-- ==== Proof.AttnRules.lean ====
/- Rules for the attention half of the kernel, whose buffers are held at contents that are named: what a load reads (`Reads`)
   and what a store leaves (`Stores`), and the step functions of the two softmax loops as the program writes them. -/
module

public import proofs.«01_k».proof.Proof.AttnS6
public import Idealize.ShloMosaic.Lib.Pipeline.FrameBody

@[expose] public section

set_option maxRecDepth 16384

noncomputable section

namespace Cert.KernelIdeal.AttnSafe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (UR sig nD τ) ℕ

variable {c : Dev nD} {P : sProp (MT nD τ sig Unit (Elt F) ℕ (UR sig nD τ) ℕ)}

/-- `P` holds the buffer of `m`, and a load through `r` reads `v`. -/
def Reads (c : Dev nD) (P : sProp (MT nD τ sig Unit (Elt F) ℕ (UR sig nD τ) ℕ)) {cs : CoreSpace} {sh : Shape} {e : EltTy} (m : Memref sig .tc cs sh e) (r : Rect sh)
    (v : r.shape.Idx → Elt F e) : Prop :=
  P ⊢ iprop(∃ f : Buf (Elt F) (m.view.loc (c : Thread nD τ)), ⌜ld (m.view.read (Elt F) f) r = v⌝ ∗ (m.view.loc (c : Thread nD τ) ↦[m.view.set]{fullShare} f)
      ∗ ((m.view.loc (c : Thread nD τ) ↦[m.view.set]{fullShare} f) -∗ P))

/-- `P` holds the buffer of `m`, and a store of `w` through `r` leaves `P'`. -/
def Stores (c : Dev nD) (P : sProp (MT nD τ sig Unit (Elt F) ℕ (UR sig nD τ) ℕ)) {sh : Shape} {e : EltTy} (m : Memref sig .tc .vmem sh e) (r : Rect sh)
    (w : r.shape.Idx → Elt F e) (P' : sProp (MT nD τ sig Unit (Elt F) ℕ (UR sig nD τ) ℕ)) : Prop :=
  P ⊢ iprop(∃ f : Buf (Elt F) (m.view.loc (c : Thread nD τ)), (m.view.loc (c : Thread nD τ) ↦[m.view.set]{fullShare} f)
      ∗ ((m.view.loc (c : Thread nD τ) ↦[m.view.set]{fullShare} ((m.access r).write (Elt F) f w Finset.univ)) -∗ P'))

theorem run_load {α : Type} {Q : α → sProp (MT nD τ sig Unit (Elt F) ℕ (UR sig nD τ) ℕ)} {cs : CoreSpace} {sh : Shape} {e : EltTy} {m : Memref sig .tc cs sh e} {r : Rect sh} {hl : m.view.LoadsAt r.toLoadRect}
    {k : (r.shape.Idx → Elt F e) → Pg F α} {v : r.shape.Idx → Elt F e} (h : Reads c P m r v) (hk : P ⊢ W c (k v) Q) :
    P ⊢ W c (Prog.lift (.load m r.toLoadRect hl) >>= k) Q := by
  refine (show P ⊢ _ from h).trans ?_
  iintro ⟨%f, %hv, H, HK⟩
  have hk' : P ⊢ W c (k (m.view.readAt (Elt F) r.toLoadRect f)) Q := by
    rw [show m.view.readAt (Elt F) r.toLoadRect f = v from hv]; exact hk
  iapply (wp_load (defs := defs₀ (F := F)) Variants.none (c : Thread nD τ) none Set.univ
    (Q := Q) (m := m) (r := r.toLoadRect) (hl := hl) (k := k) (q := fullShare) (f := f) (View.setOn_subset_set _ _)) $$ [H]
  · iexact H
  iintro H
  iapply hk'
  iapply HK
  iexact H

theorem run_smem {α : Type} {Q : α → sProp (MT nD τ sig Unit (Elt F) ℕ (UR sig nD τ) ℕ)} {sh : Shape} {e : EltTy} {m : Memref sig .tc .smem sh e} {r : Rect sh} {h1 : r.shape.numel = 1} {hp : e.packing = 1}
    {k : Elt F e → Pg F α} {v : r.shape.Idx → Elt F e} (h : Reads c P m r v) (hk : P ⊢ W c (k (v (Shape.Idx.first (h1.symm ▸ Nat.one_pos)))) Q) :
    P ⊢ W c (smemLoad m r h1 hp >>= k) Q :=
  run_load (k := fun f => k (f (Shape.Idx.first (h1.symm ▸ Nat.one_pos)))) h hk

theorem run_store {α : Type} {Q : α → sProp (MT nD τ sig Unit (Elt F) ℕ (UR sig nD τ) ℕ)} {P' : sProp (MT nD τ sig Unit (Elt F) ℕ (UR sig nD τ) ℕ)} {sh : Shape} {e : EltTy} {m : Memref sig .tc .vmem sh e} {r : Rect sh} {w : r.shape.Idx → Elt F e}
    {hx : (m.access r).Stores Finset.univ} {hm : Finset.univ = Finset.univ ∨ ∀ a, r.stride a = 1}
    {k : PUnit → Pg F α} (h : Stores c P m r w P') (hk : P' ⊢ W c (k ⟨⟩) Q) :
    P ⊢ W c (Prog.lift (.store m r w Finset.univ hx hm) >>= k) Q := by
  have hS' : (m.access r).setOn Finset.univ ⊆ m.view.set := (View.setOn_subset_set (m.access r) _).trans (View.set_slice_subset m.view r)
  refine (show P ⊢ _ from h).trans ?_
  iintro ⟨%f, H, HK⟩
  iapply (wp_store (defs := defs₀ (F := F)) Variants.none (c : Thread nD τ) none Set.univ
    (Q := Q) (m := m) (r := r) (w := w) (hx := hx) (hm := hm) (k := k) (f := f) hS') $$ [H]
  · iexact H
  iintro H
  iapply hk
  iapply HK
  iexact H

/-- A load of what nobody names. -/
theorem run_any {α : Type} {Q : α → sProp (MT nD τ sig Unit (Elt F) ℕ (UR sig nD τ) ℕ)} {sh : Shape} {e : EltTy} {m : Memref sig .tc .vmem sh e} {r : LoadRect sh} {hl : m.view.LoadsAt r}
    {k : (r.shape.Idx → Elt F e) → Pg F α} (h : Held c P m) (hk : ∀ v, P ⊢ W c (k v) Q) :
    P ⊢ W c (Prog.lift (.load m r hl) >>= k) Q := by
  obtain ⟨S, hS, hP⟩ := h
  refine hP.trans ?_
  iintro ⟨%f, H, HK⟩
  iapply (wp_load (defs := defs₀ (F := F)) Variants.none (c : Thread nD τ) none Set.univ
    (Q := Q) (m := m) (r := r) (hl := hl) (k := k) (q := fullShare) (f := f) ((View.setOn_subset_set _ _).trans hS)) $$ [H]
  · iexact H
  iintro H
  iapply (hk _)
  iapply HK $$ %f
  iexact H

/-- A store over what nobody names. -/
theorem run_over {α : Type} {Q : α → sProp (MT nD τ sig Unit (Elt F) ℕ (UR sig nD τ) ℕ)} {sh : Shape} {e : EltTy} {m : Memref sig .tc .vmem sh e} {r : Rect sh} {w : r.shape.Idx → Elt F e}
    {hx : (m.access r).Stores Finset.univ} {hm : Finset.univ = Finset.univ ∨ ∀ a, r.stride a = 1}
    {k : PUnit → Pg F α} (h : Held c P m) (hk : P ⊢ W c (k ⟨⟩) Q) :
    P ⊢ W c (Prog.lift (.store m r w Finset.univ hx hm) >>= k) Q := by
  obtain ⟨S, hS, hP⟩ := h
  have hS' : (m.access r).setOn Finset.univ ⊆ S := ((View.setOn_subset_set (m.access r) _).trans (View.set_slice_subset m.view r)).trans hS
  refine hP.trans ?_
  iintro ⟨%f, H, HK⟩
  iapply (wp_store (defs := defs₀ (F := F)) Variants.none (c : Thread nD τ) none Set.univ
    (Q := Q) (m := m) (r := r) (w := w) (hx := hx) (hm := hm) (k := k) (f := f) hS') $$ [H]
  · iexact H
  iintro H
  iapply hk
  iapply HK
  iexact H

theorem run_pure {α : Type} {Q : α → sProp (MT nD τ sig Unit (Elt F) ℕ (UR sig nD τ) ℕ)} {a : α} (h : P ⊢ Q a) : P ⊢ W (F := F) c (Pure.pure a) Q :=
  h.trans (le_wp_ret frame (wpE (defs₀ (F := F)) Variants.none (c : Thread nD τ) none) Set.univ a Q)

theorem run_bind {α β : Type} {Q : β → sProp (MT nD τ sig Unit (Elt F) ℕ (UR sig nD τ) ℕ)} {p : Pg F α} {k : α → Pg F β} (h : P ⊢ W c p (fun a => W c (k a) Q)) :
    P ⊢ W c (p >>= k) Q := by
  unfold W; rw [wp_bind]; exact h

/-- A safe part before the rest. -/
theorem run_safe {α β : Type} {R : sProp (MT nD τ sig Unit (Elt F) ℕ (UR sig nD τ) ℕ)} {Q : β → sProp (MT nD τ sig Unit (Elt F) ℕ (UR sig nD τ) ℕ)} {p : Pg F α} {k : α → Pg F β} (hp : Safe c P p)
    (hk : ∀ a, iprop(P ∗ R) ⊢ W c (k a) Q) : iprop(P ∗ R) ⊢ W c (p >>= k) Q := by
  unfold W; rw [wp_bind]
  exact (sep_mono hp .rfl).trans ((wp_frame_r frame (wpE (defs₀ (F := F)) Variants.none (c : Thread nD τ) none) Set.univ).trans (wp_mono _ _ _ hk))

theorem Reads.left {R : sProp (MT nD τ sig Unit (Elt F) ℕ (UR sig nD τ) ℕ)} {cs : CoreSpace} {sh : Shape} {e : EltTy} {m : Memref sig .tc cs sh e} {r : Rect sh}
    {v : r.shape.Idx → Elt F e} (h : Reads c P m r v) : Reads c iprop(P ∗ R) m r v := by
  refine (sep_mono (show P ⊢ _ from h) .rfl).trans ?_
  iintro ⟨⟨%f, %hv, H, HK⟩, HR⟩
  iexists f; isplitr; · ipureintro; exact hv
  isplitl [H]; · iexact H
  iintro H; isplitl [H HK]; · iapply HK; iexact H
  iexact HR

theorem Reads.right {R : sProp (MT nD τ sig Unit (Elt F) ℕ (UR sig nD τ) ℕ)} {cs : CoreSpace} {sh : Shape} {e : EltTy} {m : Memref sig .tc cs sh e} {r : Rect sh}
    {v : r.shape.Idx → Elt F e} (h : Reads c P m r v) : Reads c iprop(R ∗ P) m r v := by
  refine (sep_mono .rfl (show P ⊢ _ from h)).trans ?_
  iintro ⟨HR, ⟨%f, %hv, H, HK⟩⟩
  iexists f; isplitr; · ipureintro; exact hv
  isplitl [H]; · iexact H
  iintro H; isplitl [HR]; · iexact HR
  iapply HK; iexact H

theorem Stores.left {P' R : sProp (MT nD τ sig Unit (Elt F) ℕ (UR sig nD τ) ℕ)} {sh : Shape} {e : EltTy} {m : Memref sig .tc .vmem sh e} {r : Rect sh}
    {w : r.shape.Idx → Elt F e} (h : Stores c P m r w P') : Stores c iprop(P ∗ R) m r w iprop(P' ∗ R) := by
  refine (sep_mono (show P ⊢ _ from h) .rfl).trans ?_
  iintro ⟨⟨%f, H, HK⟩, HR⟩
  iexists f
  isplitl [H]; · iexact H
  iintro H; isplitl [H HK]; · iapply HK; iexact H
  iexact HR

theorem Stores.right {P' R : sProp (MT nD τ sig Unit (Elt F) ℕ (UR sig nD τ) ℕ)} {sh : Shape} {e : EltTy} {m : Memref sig .tc .vmem sh e} {r : Rect sh}
    {w : r.shape.Idx → Elt F e} (h : Stores c P m r w P') : Stores c iprop(R ∗ P) m r w iprop(R ∗ P') := by
  refine (sep_mono .rfl (show P ⊢ _ from h)).trans ?_
  iintro ⟨HR, ⟨%f, H, HK⟩⟩
  iexists f
  isplitl [H]; · iexact H
  iintro H; isplitl [HR]; · iexact HR
  iapply HK; iexact H

theorem reads_owns {cs : CoreSpace} {sh : Shape} {e : EltTy} (m : Memref sig .tc cs sh e) (X : sh.Idx → Elt F e) (r : Rect sh) :
    Reads c (owns (c : Thread nD τ) m fullShare X) m r (ld X r) := by
  unfold Reads owns
  iintro ⟨%f, %hf, H⟩
  iexists f; isplitr; · ipureintro; rw [hf]
  isplitl [H]; · iexact H
  iintro H; iexists f; isplitr; · ipureintro; exact hf
  iexact H

/-- The two halves of a carried buffer. -/
abbrev r0 : Rect S2x512x128 := Rect.unit (s := S2x512x128) ![0, 0, 0] S1x512x128.size inb_S2x512x128_S1x512x128_0_0_0
abbrev r1 : Rect S2x512x128 := Rect.unit (s := S2x512x128) ![1, 0, 0] S1x512x128.size inb_S2x512x128_S1x512x128_1_0_0
abbrev rW : Rect S2x512x128 := Rect.unit (s := S2x512x128) ![0, 0, 0] S2x512x128.size inb_S2x512x128_S2x512x128_0_0_0

/-- A carried buffer, held with its two halves named. -/
def halves (c : Dev nD) (m : Memref sig .tc .vmem S2x512x128 .f32) (A0 A1 : Vec F S1x512x128 .f32) : sProp (MT nD τ sig Unit (Elt F) ℕ (UR sig nD τ) ℕ) :=
  iprop(∃ f : Buf (Elt F) (m.view.loc (c : Thread nD τ)), ⌜ld (m.view.read (Elt F) f) r0 = A0 ∧ ld (m.view.read (Elt F) f) r1 = A1⌝
    ∗ (m.view.loc (c : Thread nD τ) ↦[m.view.set]{fullShare} f))

variable {m : Memref sig .tc .vmem S2x512x128 .f32} {A0 A1 : Vec F S1x512x128 .f32}

theorem halves_held : halves c m A0 A1 ⊢ held c m := by
  unfold halves held
  iintro ⟨%f, -, H⟩; iexists f; iexact H

theorem reads0 : Reads c (halves c m A0 A1) m r0 A0 := by
  unfold Reads halves
  iintro ⟨%f, %hf, H⟩
  iexists f; isplitr; · ipureintro; exact hf.1
  isplitl [H]; · iexact H
  iintro H; iexists f; isplitr; · ipureintro; exact hf
  iexact H

theorem reads1 : Reads c (halves c m A0 A1) m r1 A1 := by
  unfold Reads halves
  iintro ⟨%f, %hf, H⟩
  iexists f; isplitr; · ipureintro; exact hf.2
  isplitl [H]; · iexact H
  iintro H; iexists f; isplitr; · ipureintro; exact hf
  iexact H

theorem half_disjoint : Disjoint r0.set r1.set :=
  Rect.unit_disjoint 0 (by decide)

theorem hd {r r' : Rect S2x512x128} (h : Disjoint r.set r'.set) : Disjoint (m.view.slice r).set ((m.view.slice r').setOn Finset.univ) := by
  rw [View.setOn_univ, View.set_slice, View.set_slice]
  exact (Finset.disjoint_map _).mpr h

theorem stores0 (w : Vec F S1x512x128 .f32) : Stores c (halves c m A0 A1) m r0 w (halves c m w A1) := by
  unfold Stores halves
  iintro ⟨%f, %hf, H⟩
  iexists f; isplitl [H]; · iexact H
  iintro H; iexists _; isplitr
  swap; · iexact H
  ipureintro
  refine ⟨View.read_write_univ (Val := Elt F) (v := m.access r0) f w, ?_⟩
  rw [← hf.2]
  exact View.read_slice_write_slice_of_disjoint (Val := Elt F) (v := m.view) r1 r0 f w _ (hd half_disjoint.symm)

theorem stores1 (w : Vec F S1x512x128 .f32) : Stores c (halves c m A0 A1) m r1 w (halves c m A0 w) := by
  unfold Stores halves
  iintro ⟨%f, %hf, H⟩
  iexists f; isplitl [H]; · iexact H
  iintro H; iexists _; isplitr
  swap; · iexact H
  ipureintro
  refine ⟨?_, View.read_write_univ (Val := Elt F) (v := m.access r1) f w⟩
  rw [← hf.1]
  exact View.read_slice_write_slice_of_disjoint (Val := Elt F) (v := m.view) r0 r1 f w _ (hd half_disjoint)

theorem storesW (w : Vec F S2x512x128 .f32) : Stores c (held c m) m rW w (halves c m (ld w r0) (ld w r1)) := by
  unfold Stores halves held
  iintro ⟨%f, H⟩
  iexists f; isplitl [H]; · iexact H
  iintro H; iexists _; isplitr
  swap; · iexact H
  ipureintro
  have hW : ∀ i : S2x512x128.Idx, rW.emb i = i := by
    intro i; funext a; apply Fin.ext; show rW.off a + rW.stride a * (i a : Nat) = (i a : Nat)
    fin_cases a <;> simp
  have h : m.view.read (Elt F) ((m.access rW).write (Elt F) f w Finset.univ) = w := by
    have h1 := View.read_write_univ (Val := Elt F) (v := m.access rW) f w
    funext i
    have h2 := congrFun h1 i
    rw [← h2]
    exact congrArg (m.view.read (Elt F) _) (hW i).symm
  exact ⟨by rw [h], by rw [h]⟩

end Cert.KernelIdeal.AttnSafe

end
-- ==== Proof.AttnTrack.lean ====
/- The two softmax loops of the attention half: what one trip does to the carried buffers, and the run of the part of the
   kernel that holds the loops. -/
module

public import proofs.«01_k».proof.Proof.AttnRules

@[expose] public section

set_option maxRecDepth 65536
set_option maxHeartbeats 1000000

noncomputable section

namespace Cert.KernelIdeal.AttnSafe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

/-! ## One trip, as the program writes it -/

abbrev qr0 : Rect S1x512x256 := Rect.unit (s := S1x512x256) ![0, 0, 0] S1x512x128.size inb_S1x512x256_S1x512x128_0_0_0
abbrev qr1 : Rect S1x512x256 := Rect.unit (s := S1x512x256) ![0, 0, 128] S1x512x128.size inb_S1x512x256_S1x512x128_0_0_128

/-- The scores of one block of keys. -/
def sc (Q : Vec F S1x512x128 .bf16) (K : Vec F S1x256x128 .bf16) : FVec F S512x256 .f32 :=
  matmul dot_S512x128_S256x128_S512x256_1_1_0_0_n_n none (shapeCast S512x128 Q shapeCasts_S1x512x128_S512x128)
    (shapeCast S256x128 K shapeCasts_S1x256x128_S256x128) (constant S512x256 .f32 0x00000000#32)

/-- The lanes below 64. -/
def lanes : IVec S256x128 1 := cmpi .slt (iota .tc S256x128 32 [1] iota_S256x128_d1_w32) (broadcast S256x128 64#32)
def one16 : FVec F S256x128 .bf16 := broadcast S256x128 (Scalar.truncf .bf16 bitsLt_bf16_f32 (Scalar.ofBits .f32 0x3F800000#32))
/-- The values with ones in the other head's lanes. -/
def vlo (V : Vec F S1x256x128 .bf16) : FVec F S256x128 .bf16 := select lanes (shapeCast S256x128 V shapeCasts_S1x256x128_S256x128) one16
def vhi (V : Vec F S1x256x128 .bf16) : FVec F S256x128 .bf16 := select lanes one16 (shapeCast S256x128 V shapeCasts_S1x256x128_S256x128)

/-- One trip of the loop that carries no maximum. -/
def accS (s : FVec F S512x256 .f32) (v : FVec F S256x128 .bf16) (A : Vec F S1x512x128 .f32) : Vec F S1x512x128 .f32 :=
  shapeCast S1x512x128 (addf (shapeCast S512x128 A shapeCasts_S1x512x128_S512x128)
    (matmul dot_S512x256_S256x128_S512x128_1_0_0_1_n_n none (truncf .bf16 (exp2 s) bitsLt_bf16_f32) v (constant S512x128 .f32 0x00000000#32)))
    shapeCasts_S512x128_S1x512x128

/-- The maximum of the loop that carries one. -/
def maxD (s : FVec F S512x256 .f32) (M : Vec F S1x512x128 .f32) : FVec F S512x128 .f32 :=
  maximumf (shapeCast S512x128 M shapeCasts_S1x512x128_S512x128)
    (broadcastTo S512x128 (shapeCast S512x1 (multiReduction .maximumf [1] S512 s 0xFF800000#32 reduces_S512x256_S512 (.inl rfl) rfl) shapeCasts_S512_S512x1)
      broadcasts_S512x1_S512x128)

def upM (s : FVec F S512x256 .f32) (M : Vec F S1x512x128 .f32) : Vec F S1x512x128 .f32 := shapeCast S1x512x128 (maxD s M) shapeCasts_S512x128_S1x512x128

/-- One trip of the loop that carries the maximum. -/
def accD (s : FVec F S512x256 .f32) (v : FVec F S256x128 .bf16) (M A : Vec F S1x512x128 .f32) : Vec F S1x512x128 .f32 :=
  shapeCast S1x512x128 (addf (mulf (exp2 (subf (shapeCast S512x128 M shapeCasts_S1x512x128_S512x128) (maxD s M))) (shapeCast S512x128 A shapeCasts_S1x512x128_S512x128))
    (matmul dot_S512x256_S256x128_S512x128_1_0_0_1_n_n none
      (truncf .bf16 (exp2 (subf s (concatenate S512x256 1 [⟨S512x128, maxD s M⟩, ⟨S512x128, maxD s M⟩] concatenates_S512x128_S512x128_S512x256_d1))) bitsLt_bf16_f32)
      v (constant S512x128 .f32 0x00000000#32)))
    shapeCasts_S512x128_S1x512x128

section Steps
variable (X4 : Vec F S1x512x256 .bf16) (X5 : Vec F S1x4352x256 .bf16) (X6 : Vec F S1x4352x128 .bf16)

def scS0 (k : Fin k0_t1_loop.trips) : FVec F S512x256 .f32 := sc (ld X4 qr0) (ld X5 (Rect.unit (s := S1x4352x256) (k0_off67 k) S1x256x128.size (k0_off67_inb k)))
def scS1 (k : Fin k0_t1_loop.trips) : FVec F S512x256 .f32 := sc (ld X4 qr1) (ld X5 (Rect.unit (s := S1x4352x256) (k0_off68 k) S1x256x128.size (k0_off68_inb k)))
def vS (k : Fin k0_t1_loop.trips) : Vec F S1x256x128 .bf16 := ld X6 (Rect.unit (s := S1x4352x128) (k0_off66 k) S1x256x128.size (k0_off66_inb k))
def scD0 (k : Fin k0_t2_loop.trips) : FVec F S512x256 .f32 := sc (ld X4 qr0) (ld X5 (Rect.unit (s := S1x4352x256) (k0_off135 k) S1x256x128.size (k0_off135_inb k)))
def scD1 (k : Fin k0_t2_loop.trips) : FVec F S512x256 .f32 := sc (ld X4 qr1) (ld X5 (Rect.unit (s := S1x4352x256) (k0_off136 k) S1x256x128.size (k0_off136_inb k)))
def vD (k : Fin k0_t2_loop.trips) : Vec F S1x256x128 .bf16 := ld X6 (Rect.unit (s := S1x4352x128) (k0_off134 k) S1x256x128.size (k0_off134_inb k))

/-- What the carried buffers hold at first. -/
def initW (b : BitVec 32) : Vec F S2x512x128 .f32 := shapeCast S2x512x128 (broadcast S2x512x128 (Scalar.ofBits .f32 b)) shapeCasts_S2x512x128_S2x512x128
def zero0 : Vec F S1x512x128 .f32 := ld (initW (F := F) 0x00000000#32) r0
def zero1 : Vec F S1x512x128 .f32 := ld (initW (F := F) 0x00000000#32) r1
def low0 : Vec F S1x512x128 .f32 := ld (initW (F := F) 0xF149F2CA#32) r0
def low1 : Vec F S1x512x128 .f32 := ld (initW (F := F) 0xF149F2CA#32) r1

/-- The two sums after `n` trips of the loop that carries no maximum. -/
def sumS : ℕ → Vec F S1x512x128 .f32 × Vec F S1x512x128 .f32
  | 0 => (zero0, zero1)
  | n + 1 => if h : n < k0_t1_loop.trips then (accS (scS0 X4 X5 ⟨n, h⟩) (vlo (vS X6 ⟨n, h⟩)) (sumS n).1, accS (scS1 X4 X5 ⟨n, h⟩) (vhi (vS X6 ⟨n, h⟩)) (sumS n).2)
    else sumS n

/-- The two maxima after `n` trips of the loop that carries them. -/
def maxs : ℕ → Vec F S1x512x128 .f32 × Vec F S1x512x128 .f32
  | 0 => (low0, low1)
  | n + 1 => if h : n < k0_t2_loop.trips then (upM (scD0 X4 X5 ⟨n, h⟩) (maxs n).1, upM (scD1 X4 X5 ⟨n, h⟩) (maxs n).2) else maxs n

/-- The two sums after `n` trips of the loop that carries the maxima. -/
def sumD : ℕ → Vec F S1x512x128 .f32 × Vec F S1x512x128 .f32
  | 0 => (zero0, zero1)
  | n + 1 => if h : n < k0_t2_loop.trips then (accD (scD0 X4 X5 ⟨n, h⟩) (vlo (vD X6 ⟨n, h⟩)) (maxs X4 X5 n).1 (sumD n).1,
      accD (scD1 X4 X5 ⟨n, h⟩) (vhi (vD X6 ⟨n, h⟩)) (maxs X4 X5 n).2 (sumD n).2)
    else sumD n

theorem sumS_succ (k : Fin k0_t1_loop.trips) : sumS X4 X5 X6 (k.val + 1) = (accS (scS0 X4 X5 k) (vlo (vS X6 k)) (sumS X4 X5 X6 k.val).1, accS (scS1 X4 X5 k) (vhi (vS X6 k)) (sumS X4 X5 X6 k.val).2) := by
  conv_lhs => unfold sumS
  exact dif_pos k.isLt
theorem maxs_succ (k : Fin k0_t2_loop.trips) : maxs X4 X5 (k.val + 1) = (upM (scD0 X4 X5 k) (maxs X4 X5 k.val).1, upM (scD1 X4 X5 k) (maxs X4 X5 k.val).2) := by
  conv_lhs => unfold maxs
  exact dif_pos k.isLt
theorem sumD_succ (k : Fin k0_t2_loop.trips) : sumD X4 X5 X6 (k.val + 1) = (accD (scD0 X4 X5 k) (vlo (vD X6 k)) (maxs X4 X5 k.val).1 (sumD X4 X5 X6 k.val).1,
      accD (scD1 X4 X5 k) (vhi (vD X6 k)) (maxs X4 X5 k.val).2 (sumD X4 X5 X6 k.val).2) := by
  conv_lhs => unfold sumD
  exact dif_pos k.isLt
end Steps

/-- Which loop runs: the word the first operand holds. -/
def flag (X3 : Vec F S1 .i32) : BitVec 1 := Scalar.cmpi .ne (ld X3 (Rect.unit (s := S1) ![0] S1.size inb_S1_S1_0) (Shape.Idx.first (numel1_S1.symm ▸ Nat.one_pos))) 0#32

section
variable {c : Dev nD} {arg3 : Memref sig .tc .smem S1 .i32} {arg4 : Memref sig .tc .vmem S1x512x256 .bf16} {arg5 : Memref sig .tc .vmem S1x4352x256 .bf16} {arg6 : Memref sig .tc .vmem S1x4352x128 .bf16}
  {arg7 arg8 : Memref sig .tc .vmem S17x64x128 .bf16} {arg9 arg10 : Memref sig .tc .vmem S17x32x128 .bf16} {arg12 : Memref sig .tc .vmem S17x32x128 .f32} {arg13 : Memref sig .tc .vmem S64x32x128 .f32}
  {arg14 arg15 : Memref sig .tc .vmem S2x512x128 .f32} {arg16 : Memref sig .tc .vmem S5x17x64x128 .f32}
  {X3 : Vec F S1 .i32} {X4 : Vec F S1x512x256 .bf16} {X5 : Vec F S1x4352x256 .bf16} {X6 : Vec F S1x4352x128 .bf16} {M0 M1 A0 A1 : Vec F S1x512x128 .f32}

/-- The inputs of the attention half. -/
def Ins (c : Dev nD) (arg3 : Memref sig .tc .smem S1 .i32) (arg4 : Memref sig .tc .vmem S1x512x256 .bf16) (arg5 : Memref sig .tc .vmem S1x4352x256 .bf16) (arg6 : Memref sig .tc .vmem S1x4352x128 .bf16)
    (X3 : Vec F S1 .i32) (X4 : Vec F S1x512x256 .bf16) (X5 : Vec F S1x4352x256 .bf16) (X6 : Vec F S1x4352x128 .bf16) : sProp (MT nD τ sig Unit (Elt F) ℕ (UR sig nD τ) ℕ) :=
  iprop(owns (c : Thread nD τ) arg3 fullShare X3 ∗ owns (c : Thread nD τ) arg4 fullShare X4 ∗ owns (c : Thread nD τ) arg5 fullShare X5 ∗ owns (c : Thread nD τ) arg6 fullShare X6)

/-- What the kernel holds while the loops run. -/
abbrev T (c : Dev nD) (arg3 : Memref sig .tc .smem S1 .i32) (arg4 : Memref sig .tc .vmem S1x512x256 .bf16) (arg5 : Memref sig .tc .vmem S1x4352x256 .bf16) (arg6 : Memref sig .tc .vmem S1x4352x128 .bf16)
    (arg7 arg8 : Memref sig .tc .vmem S17x64x128 .bf16) (arg9 arg10 : Memref sig .tc .vmem S17x32x128 .bf16) (arg12 : Memref sig .tc .vmem S17x32x128 .f32) (arg13 : Memref sig .tc .vmem S64x32x128 .f32)
    (arg14 arg15 : Memref sig .tc .vmem S2x512x128 .f32) (arg16 : Memref sig .tc .vmem S5x17x64x128 .f32)
    (X3 : Vec F S1 .i32) (X4 : Vec F S1x512x256 .bf16) (X5 : Vec F S1x4352x256 .bf16) (X6 : Vec F S1x4352x128 .bf16) (M0 M1 A0 A1 : Vec F S1x512x128 .f32) : sProp (MT nD τ sig Unit (Elt F) ℕ (UR sig nD τ) ℕ) :=
  iprop(B c arg7 arg8 arg9 arg10 arg12 arg13 arg16 ∗ Ins c arg3 arg4 arg5 arg6 X3 X4 X5 X6 ∗ halves c arg14 M0 M1 ∗ halves c arg15 A0 A1)

/-- The same before the carried buffers are set. -/
abbrev T' (c : Dev nD) (arg3 : Memref sig .tc .smem S1 .i32) (arg4 : Memref sig .tc .vmem S1x512x256 .bf16) (arg5 : Memref sig .tc .vmem S1x4352x256 .bf16) (arg6 : Memref sig .tc .vmem S1x4352x128 .bf16)
    (arg7 arg8 : Memref sig .tc .vmem S17x64x128 .bf16) (arg9 arg10 : Memref sig .tc .vmem S17x32x128 .bf16) (arg12 : Memref sig .tc .vmem S17x32x128 .f32) (arg13 : Memref sig .tc .vmem S64x32x128 .f32)
    (arg14 arg15 : Memref sig .tc .vmem S2x512x128 .f32) (arg16 : Memref sig .tc .vmem S5x17x64x128 .f32)
    (X3 : Vec F S1 .i32) (X4 : Vec F S1x512x256 .bf16) (X5 : Vec F S1x4352x256 .bf16) (X6 : Vec F S1x4352x128 .bf16) : sProp (MT nD τ sig Unit (Elt F) ℕ (UR sig nD τ) ℕ) :=
  iprop(B c arg7 arg8 arg9 arg10 arg12 arg13 arg16 ∗ Ins c arg3 arg4 arg5 arg6 X3 X4 X5 X6 ∗ held c arg14 ∗ held c arg15)

local notation "TT" => T c arg3 arg4 arg5 arg6 arg7 arg8 arg9 arg10 arg12 arg13 arg14 arg15 arg16 X3 X4 X5 X6

theorem rd3 {R R' : sProp (MT nD τ sig Unit (Elt F) ℕ (UR sig nD τ) ℕ)} (r : Rect S1) : Reads c iprop(R' ∗ Ins c arg3 arg4 arg5 arg6 X3 X4 X5 X6 ∗ R) arg3 r (ld X3 r) := (reads_owns arg3 X3 r).left.left.right
theorem rd4 {R R' : sProp (MT nD τ sig Unit (Elt F) ℕ (UR sig nD τ) ℕ)} (r : Rect S1x512x256) : Reads c iprop(R' ∗ Ins c arg3 arg4 arg5 arg6 X3 X4 X5 X6 ∗ R) arg4 r (ld X4 r) := (reads_owns arg4 X4 r).left.right.left.right
theorem rd5 {R R' : sProp (MT nD τ sig Unit (Elt F) ℕ (UR sig nD τ) ℕ)} (r : Rect S1x4352x256) : Reads c iprop(R' ∗ Ins c arg3 arg4 arg5 arg6 X3 X4 X5 X6 ∗ R) arg5 r (ld X5 r) := (reads_owns arg5 X5 r).left.right.right.left.right
theorem rd6 {R R' : sProp (MT nD τ sig Unit (Elt F) ℕ (UR sig nD τ) ℕ)} (r : Rect S1x4352x128) : Reads c iprop(R' ∗ Ins c arg3 arg4 arg5 arg6 X3 X4 X5 X6 ∗ R) arg6 r (ld X6 r) := (reads_owns arg6 X6 r).right.right.right.left.right
theorem rm0 : Reads c (TT M0 M1 A0 A1) arg14 r0 M0 := reads0.left.right.right
theorem rm1 : Reads c (TT M0 M1 A0 A1) arg14 r1 M1 := reads1.left.right.right
theorem ra0 : Reads c (TT M0 M1 A0 A1) arg15 r0 A0 := reads0.right.right.right
theorem ra1 : Reads c (TT M0 M1 A0 A1) arg15 r1 A1 := reads1.right.right.right
theorem sm0 (w : Vec F S1x512x128 .f32) : Stores c (TT M0 M1 A0 A1) arg14 r0 w (TT w M1 A0 A1) := (stores0 w).left.right.right
theorem sm1 (w : Vec F S1x512x128 .f32) : Stores c (TT M0 M1 A0 A1) arg14 r1 w (TT M0 w A0 A1) := (stores1 w).left.right.right
theorem sa0 (w : Vec F S1x512x128 .f32) : Stores c (TT M0 M1 A0 A1) arg15 r0 w (TT M0 M1 w A1) := (stores0 w).right.right.right
theorem sa1 (w : Vec F S1x512x128 .f32) : Stores c (TT M0 M1 A0 A1) arg15 r1 w (TT M0 M1 A0 w) := (stores1 w).right.right.right
end

theorem run_for {σ β : Type} {c : Dev nD} {P : sProp (MT nD τ sig Unit (Elt F) ℕ (UR sig nD τ) ℕ)} {Q : β → sProp (MT nD τ sig Unit (Elt F) ℕ (UR sig nD τ) ℕ)}
    {l : Scf.Loop 32} {hok : l.OK} {init : σ} {body : Fin l.trips → σ → Pg F σ} {kk : σ → Pg F β} (I : ℕ → sProp (MT nD τ sig Unit (Elt F) ℕ (UR sig nD τ) ℕ))
    (h0 : P ⊢ I 0) (hb : ∀ (k : Fin l.trips) acc, I k ⊢ W c (body k acc) (fun _ => I (k.val + 1))) (hk : ∀ acc, I l.trips ⊢ W c (kk acc) Q) :
    P ⊢ W c (Scf.Loop.for l hok init body >>= kk) Q := by
  refine h0.trans ?_
  iintro HI
  iapply (Scf.wp_for_bind frame (wpE (defs₀ (F := F)) Variants.none (c : Thread nD τ) none) Set.univ l.lb l.ub l.st hok init body (fun k _ => I k) hb) $$ [HI]
  · iexact HI
  iintro %acc HI
  iapply (hk acc)
  iexact HI

/-- The carried buffers after both branches. -/
def fin (b : BitVec 1) (X4 : Vec F S1x512x256 .bf16) (X5 : Vec F S1x4352x256 .bf16) (X6 : Vec F S1x4352x128 .bf16) : Vec F S1x512x128 .f32 × Vec F S1x512x128 .f32 :=
  if b = 1#1 then sumS X4 X5 X6 k0_t1_loop.trips else sumD X4 X5 X6 k0_t2_loop.trips
def finM (b : BitVec 1) (X4 : Vec F S1x512x256 .bf16) (X5 : Vec F S1x4352x256 .bf16) : Vec F S1x512x128 .f32 × Vec F S1x512x128 .f32 :=
  if b = 1#1 then (low0, low1) else maxs X4 X5 k0_t2_loop.trips

theorem flag1 : ∀ b : BitVec 1, Iff (Scalar.cmpi .ne (Scalar.extui b) 0#32 = 1#1) (b = 1#1) := by decide
theorem flag2 : ∀ b : BitVec 1, Iff (Scalar.cmpi .ne (Scalar.extui (Scalar.xori b 1#1)) 0#32 = 1#1) (¬ b = 1#1) := by decide

theorem run_pos {α : Type} {c : Dev nD} {P : sProp (MT nD τ sig Unit (Elt F) ℕ (UR sig nD τ) ℕ)} {Q : α → sProp (MT nD τ sig Unit (Elt F) ℕ (UR sig nD τ) ℕ)}
    {b : Prop} [Decidable b] {p q : Pg F α} (hb : b) (h : P ⊢ W c p Q) : P ⊢ W c (if b then p else q) Q := by rw [if_pos hb]; exact h
theorem run_neg {α : Type} {c : Dev nD} {P : sProp (MT nD τ sig Unit (Elt F) ℕ (UR sig nD τ) ℕ)} {Q : α → sProp (MT nD τ sig Unit (Elt F) ℕ (UR sig nD τ) ℕ)}
    {b : Prop} [Decidable b] {p q : Pg F α} (hb : ¬ b) (h : P ⊢ W c q Q) : P ⊢ W c (if b then p else q) Q := by rw [if_neg hb]; exact h

theorem r_part170 (c : Dev nD) (i : grid0.Coords) (arg3 : Memref sig .tc .smem S1 .i32) (harg3 : arg3.IsWhole) (arg4 : Memref sig .tc .vmem S1x512x256 .bf16) (harg4 : arg4.IsWhole) (arg5 : Memref sig .tc .vmem S1x4352x256 .bf16) (harg5 : arg5.IsWhole) (arg6 : Memref sig .tc .vmem S1x4352x128 .bf16) (harg6 : arg6.IsWhole) (arg7 : Memref sig .tc .vmem S17x64x128 .bf16) (harg7 : arg7.IsWhole) (arg8 : Memref sig .tc .vmem S17x64x128 .bf16) (harg8 : arg8.IsWhole) (arg9 : Memref sig .tc .vmem S17x32x128 .bf16) (harg9 : arg9.IsWhole) (arg10 : Memref sig .tc .vmem S17x32x128 .bf16) (harg10 : arg10.IsWhole) (arg11 : Memref sig .tc .vmem S1x512x128 .bf16) (harg11 : arg11.IsWhole) (arg12 : Memref sig .tc .vmem S17x32x128 .f32) (harg12 : arg12.IsWhole) (arg13 : Memref sig .tc .vmem S64x32x128 .f32) (harg13 : arg13.IsWhole) (arg14 : Memref sig .tc .vmem S2x512x128 .f32) (harg14 : arg14.IsWhole) (arg15 : Memref sig .tc .vmem S2x512x128 .f32) (harg15 : arg15.IsWhole) (arg16 : Memref sig .tc .vmem S5x17x64x128 .f32) (harg16 : arg16.IsWhole) (v563 : FVec F S64x128 .f32) (v582 : FVec F S64x128 .f32)
    (X3 : Vec F S1 .i32) (X4 : Vec F S1x512x256 .bf16) (X5 : Vec F S1x4352x256 .bf16) (X6 : Vec F S1x4352x128 .bf16) :
    T' c arg3 arg4 arg5 arg6 arg7 arg8 arg9 arg10 arg12 arg13 arg14 arg15 arg16 X3 X4 X5 X6 ⊢ W c (k0_part170 i arg3 harg3 arg4 harg4 arg5 harg5 arg6 harg6 arg7 harg7 arg8 harg8 arg9 harg9 arg10 harg10 arg11 harg11 arg12 harg12 arg13 harg13 arg14 harg14 arg15 harg15 arg16 harg16 v563 v582)
      (fun _ => (T c arg3 arg4 arg5 arg6 arg7 arg8 arg9 arg10 arg12 arg13 arg14 arg15 arg16 X3 X4 X5 X6 (finM (flag X3) X4 X5).1 (finM (flag X3) X4 X5).2 (fin (flag X3) X4 X5 X6).1 (fin (flag X3) X4 X5 X6).2)) := by
  unfold k0_part170
  refine run_any (Held.left h16) ?_; intro _
  refine run_over (Held.left h16) ?_
  refine run_any (Held.left h16) ?_; intro _
  refine run_over (Held.left h16) ?_
  refine run_any (Held.right (Held.right (Held.left (Held.self _)))) ?_; intro _
  refine run_store (Stores.right (Stores.right (Stores.left (storesW _)))) ?_
  refine run_any (Held.right (Held.right (Held.right (Held.self _)))) ?_; intro _
  refine run_store (Stores.right (Stores.right (Stores.right (storesW _)))) ?_
  refine run_smem (rd3 _) ?_

  by_cases hb : flag X3 = 1#1
  · refine run_pos ((flag1 _).mpr hb) ?_
    refine run_for (fun n => (T c arg3 arg4 arg5 arg6 arg7 arg8 arg9 arg10 arg12 arg13 arg14 arg15 arg16 X3 X4 X5 X6 low0 low1 (sumS X4 X5 X6 n).1 (sumS X4 X5 X6 n).2)) .rfl ?_ ?_
    · intro k0_t1 arg18
      refine run_safe (s_part76 (F := F) c i arg3 harg3 arg4 harg4 arg5 harg5 arg6 harg6 arg7 harg7 arg8 harg8 arg9 harg9 arg10 harg10 arg11 harg11 arg12 harg12 arg13 harg13 arg14 harg14 arg15 harg15 arg16 harg16 0#32 1#32 k0_t1 arg18) ?_
      rintro ⟨arg17, v1208, v1851, v3187, v3216, v3234⟩
      refine run_safe (s_part61 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3187 v3234) ?_
      rintro ⟨v3245, v3263⟩
      refine run_safe (s_part62 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3216 v3245 v3263) ?_
      rintro ⟨v3274, v3303⟩
      refine run_safe (s_part63 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3274) ?_
      rintro ⟨v3332, v3334⟩
      refine run_safe (s_part64 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3303 v3334) ?_
      rintro ⟨v3361, v3371⟩
      refine run_safe (s_part65 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3332 v3371) ?_
      rintro ⟨v3390, v3400, v3404⟩
      refine run_safe (s_part66 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3361 v3400 v3404) ?_
      rintro ⟨v3419, v3437⟩
      refine run_safe (s_part67 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3390 v3437) ?_
      rintro ⟨v3448, v3466⟩
      refine run_safe (s_part68 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3419 v3448 v3466) ?_
      rintro ⟨v3477, v3506⟩
      refine run_safe (s_part69 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3477) ?_
      rintro ⟨v3535, v3537⟩
      refine run_safe (s_part70 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3506 v3537) ?_
      rintro ⟨v3564, v3574⟩
      refine run_safe (s_part71 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3535 v3574) ?_
      rintro ⟨v3593, v3603, v3610⟩
      refine run_safe (s_part72 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3564 v3603 v3610) ?_
      rintro ⟨v3622, v3640⟩
      refine run_safe (s_part73 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3593 v3640) ?_
      rintro ⟨v3651, v3669, v3677⟩
      refine run_safe (s_part74 (F := F) c i arg3 harg3 arg4 harg4 arg5 harg5 arg6 harg6 arg7 harg7 arg8 harg8 arg9 harg9 arg10 harg10 arg11 harg11 arg12 harg12 arg13 harg13 arg14 harg14 arg15 harg15 arg16 harg16 k0_t1 arg17 v1208 v1851 v3622 v3651 v3669 v3677) ?_
      intro v3710
      refine run_bind ?_
      unfold k0_part75
      refine run_over (Held.left h12) ?_
      refine run_load (rd6 _) ?_
      refine run_load (rd4 _) ?_
      refine run_load (rd5 _) ?_
      refine run_load ra0 ?_
      refine run_load ra0 ?_
      refine run_store (sa0 _) ?_
      refine run_load (rd4 _) ?_
      refine run_load (rd5 _) ?_
      refine run_pure ?_
      try dsimp only
      refine run_load ra1 ?_
      refine run_load ra1 ?_
      refine run_store (sa1 _) ?_
      refine run_pure ?_
      rw [sumS_succ]
      exact .rfl
    · intro _
      refine run_neg (fun h => ((flag2 _).mp h) hb) ?_
      refine run_pure ?_
      rw [fin, finM, if_pos hb, if_pos hb]
  · refine run_neg (fun h => hb ((flag1 _).mp h)) ?_
    refine run_pos ((flag2 _).mpr hb) ?_
    refine run_for (fun n => (T c arg3 arg4 arg5 arg6 arg7 arg8 arg9 arg10 arg12 arg13 arg14 arg15 arg16 X3 X4 X5 X6 (maxs X4 X5 n).1 (maxs X4 X5 n).2 (sumD X4 X5 X6 n).1 (sumD X4 X5 X6 n).2)) .rfl ?_ ?_
    · intro k0_t2 arg18
      refine run_safe (s_part153 (F := F) c i arg3 harg3 arg4 harg4 arg5 harg5 arg6 harg6 arg7 harg7 arg8 harg8 arg9 harg9 arg10 harg10 arg11 harg11 arg12 harg12 arg13 harg13 arg14 harg14 arg15 harg15 arg16 harg16 0#32 1#32 k0_t2 arg18) ?_
      rintro ⟨arg17, v1208, v1851, v3187, v3216, v3234⟩
      refine run_safe (s_part137 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3187 v3234) ?_
      rintro ⟨v3245, v3263⟩
      refine run_safe (s_part138 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3216 v3245 v3263) ?_
      rintro ⟨v3274, v3303⟩
      refine run_safe (s_part139 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3274) ?_
      rintro ⟨v3332, v3334⟩
      refine run_safe (s_part140 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3303 v3334) ?_
      rintro ⟨v3361, v3371⟩
      refine run_safe (s_part141 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3332 v3371) ?_
      rintro ⟨v3390, v3400, v3404⟩
      refine run_safe (s_part142 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3361 v3400 v3404) ?_
      rintro ⟨v3419, v3437⟩
      refine run_safe (s_part143 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3390 v3437) ?_
      rintro ⟨v3448, v3466⟩
      refine run_safe (s_part144 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3419 v3448 v3466) ?_
      rintro ⟨v3477, v3506⟩
      refine run_safe (s_part145 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3477) ?_
      rintro ⟨v3535, v3537⟩
      refine run_safe (s_part146 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3506 v3537) ?_
      rintro ⟨v3564, v3574⟩
      refine run_safe (s_part147 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3535 v3574) ?_
      rintro ⟨v3593, v3603, v3610⟩
      refine run_safe (s_part148 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3564 v3603 v3610) ?_
      rintro ⟨v3622, v3640⟩
      refine run_safe (s_part149 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3593 v3640) ?_
      rintro ⟨v3651, v3669, v3677⟩
      refine run_safe (s_part150 (F := F) c i arg3 harg3 arg4 harg4 arg5 harg5 arg6 harg6 arg7 harg7 arg8 harg8 arg9 harg9 arg10 harg10 arg11 harg11 arg12 harg12 arg13 harg13 arg14 harg14 arg15 harg15 arg16 harg16 k0_t2 arg17 v1208 v1851 v3622 v3651 v3669 v3677) ?_
      intro v3710
      refine run_bind ?_
      unfold k0_part151
      refine run_over (Held.left h12) ?_
      refine run_load (rd6 _) ?_
      refine run_load (rd4 _) ?_
      refine run_load (rd5 _) ?_
      refine run_load rm0 ?_
      refine run_load ra0 ?_
      refine run_load rm0 ?_
      refine run_pure ?_
      try dsimp only
      refine run_bind ?_
      unfold k0_part152
      refine run_store (sm0 _) ?_
      refine run_load ra0 ?_
      refine run_store (sa0 _) ?_
      refine run_load (rd4 _) ?_
      refine run_load (rd5 _) ?_
      refine run_load rm1 ?_
      refine run_load ra1 ?_
      refine run_load rm1 ?_
      refine run_store (sm1 _) ?_
      refine run_load ra1 ?_
      refine run_store (sa1 _) ?_
      refine run_pure ?_
      try dsimp only
      refine run_pure ?_
      rw [sumD_succ, maxs_succ]
      exact .rfl
    · intro _
      refine run_pure ?_
      rw [fin, finM, if_neg hb, if_neg hb]

end Cert.KernelIdeal.AttnSafe

end
-- ==== Proof.AttnKernel.lean ====
/- The run of the whole kernel of the attention call: what it leaves in the block of the attention's result. -/
module

public import proofs.«01_k».proof.Proof.AttnTrack

@[expose] public section

set_option maxRecDepth 65536
set_option maxHeartbeats 1000000

noncomputable section

namespace Cert.KernelIdeal.AttnSafe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

theorem run_dite {α : Type} {c : Dev nD} {P : sProp (MT nD τ sig Unit (Elt F) ℕ (UR sig nD τ) ℕ)} {Q : α → sProp (MT nD τ sig Unit (Elt F) ℕ (UR sig nD τ) ℕ)}
    {b : Prop} [Decidable b] {p : b → Pg F α} {q : ¬ b → Pg F α} (h1 : ∀ h, P ⊢ W c (p h) Q) (h2 : ∀ h, P ⊢ W c (q h) Q) : P ⊢ W c (if h : b then p h else q h) Q := by
  by_cases h : b
  · rw [dif_pos h]; exact h1 h
  · rw [dif_neg h]; exact h2 h

theorem run_frame {α β : Type} {c : Dev nD} {P P' R : sProp (MT nD τ sig Unit (Elt F) ℕ (UR sig nD τ) ℕ)} {Q : β → sProp (MT nD τ sig Unit (Elt F) ℕ (UR sig nD τ) ℕ)} {p : Pg F α} {k : α → Pg F β}
    (hp : P ⊢ W c p (fun _ => P')) (hk : ∀ a, iprop(P' ∗ R) ⊢ W c (k a) Q) : iprop(P ∗ R) ⊢ W c (p >>= k) Q := by
  unfold W; rw [wp_bind]
  exact (sep_mono hp .rfl).trans ((wp_frame_r frame (wpE (defs₀ (F := F)) Variants.none (c : Thread nD τ) none) Set.univ).trans (wp_mono _ _ _ hk))

theorem s_part154 (c : Dev nD) (i : grid0.Coords) (arg3 : Memref sig .tc .smem S1 .i32) (harg3 : arg3.IsWhole) (arg4 : Memref sig .tc .vmem S1x512x256 .bf16) (harg4 : arg4.IsWhole) (arg5 : Memref sig .tc .vmem S1x4352x256 .bf16) (harg5 : arg5.IsWhole) (arg6 : Memref sig .tc .vmem S1x4352x128 .bf16) (harg6 : arg6.IsWhole) (arg7 : Memref sig .tc .vmem S17x64x128 .bf16) (harg7 : arg7.IsWhole) (arg8 : Memref sig .tc .vmem S17x64x128 .bf16) (harg8 : arg8.IsWhole) (arg9 : Memref sig .tc .vmem S17x32x128 .bf16) (harg9 : arg9.IsWhole) (arg10 : Memref sig .tc .vmem S17x32x128 .bf16) (harg10 : arg10.IsWhole) (arg11 : Memref sig .tc .vmem S1x512x128 .bf16) (harg11 : arg11.IsWhole) (arg12 : Memref sig .tc .vmem S17x32x128 .f32) (harg12 : arg12.IsWhole) (arg13 : Memref sig .tc .vmem S64x32x128 .f32) (harg13 : arg13.IsWhole) (arg14 : Memref sig .tc .vmem S2x512x128 .f32) (harg14 : arg14.IsWhole) (arg15 : Memref sig .tc .vmem S2x512x128 .f32) (harg15 : arg15.IsWhole) (arg16 : Memref sig .tc .vmem S5x17x64x128 .f32) (harg16 : arg16.IsWhole) : Safe (F := F) c (B c arg7 arg8 arg9 arg10 arg12 arg13 arg16) (k0_part154 i arg3 harg3 arg4 harg4 arg5 harg5 arg6 harg6 arg7 harg7 arg8 harg8 arg9 harg9 arg10 harg10 arg11 harg11 arg12 harg12 arg13 harg13 arg14 harg14 arg15 harg15 arg16 harg16) := by
  show (B c arg7 arg8 arg9 arg10 arg12 arg13 arg16) ⊢ W (F := F) c (k0_part154 i arg3 harg3 arg4 harg4 arg5 harg5 arg6 harg6 arg7 harg7 arg8 harg8 arg9 harg9 arg10 harg10 arg11 harg11 arg12 harg12 arg13 harg13 arg14 harg14 arg15 harg15 arg16 harg16) (fun _ => (B c arg7 arg8 arg9 arg10 arg12 arg13 arg16))
  unfold k0_part154
  refine run_dite ?_ ?_
  · intro _
    refine run_any h13 ?_; intro _
    refine run_over h13 ?_
    refine run_any h7 ?_; intro _
    refine run_any h8 ?_; intro _
    refine run_any h9 ?_; intro _
    exact run_pure .rfl
  · intro _
    refine run_any h7 ?_; intro _
    refine run_any h8 ?_; intro _
    refine run_any h9 ?_; intro _
    exact run_pure .rfl

theorem r_part192 (c : Dev nD) (i : grid0.Coords) (arg3 : Memref sig .tc .smem S1 .i32) (harg3 : arg3.IsWhole) (arg4 : Memref sig .tc .vmem S1x512x256 .bf16) (harg4 : arg4.IsWhole) (arg5 : Memref sig .tc .vmem S1x4352x256 .bf16) (harg5 : arg5.IsWhole) (arg6 : Memref sig .tc .vmem S1x4352x128 .bf16) (harg6 : arg6.IsWhole) (arg7 : Memref sig .tc .vmem S17x64x128 .bf16) (harg7 : arg7.IsWhole) (arg8 : Memref sig .tc .vmem S17x64x128 .bf16) (harg8 : arg8.IsWhole) (arg9 : Memref sig .tc .vmem S17x32x128 .bf16) (harg9 : arg9.IsWhole) (arg10 : Memref sig .tc .vmem S17x32x128 .bf16) (harg10 : arg10.IsWhole) (arg11 : Memref sig .tc .vmem S1x512x128 .bf16) (harg11 : arg11.IsWhole) (arg12 : Memref sig .tc .vmem S17x32x128 .f32) (harg12 : arg12.IsWhole) (arg13 : Memref sig .tc .vmem S64x32x128 .f32) (harg13 : arg13.IsWhole) (arg14 : Memref sig .tc .vmem S2x512x128 .f32) (harg14 : arg14.IsWhole) (arg15 : Memref sig .tc .vmem S2x512x128 .f32) (harg15 : arg15.IsWhole) (arg16 : Memref sig .tc .vmem S5x17x64x128 .f32) (harg16 : arg16.IsWhole)
    (X3 : Vec F S1 .i32) (X4 : Vec F S1x512x256 .bf16) (X5 : Vec F S1x4352x256 .bf16) (X6 : Vec F S1x4352x128 .bf16) :
    T' c arg3 arg4 arg5 arg6 arg7 arg8 arg9 arg10 arg12 arg13 arg14 arg15 arg16 X3 X4 X5 X6 ⊢ W c (k0_part192 i arg3 harg3 arg4 harg4 arg5 harg5 arg6 harg6 arg7 harg7 arg8 harg8 arg9 harg9 arg10 harg10 arg11 harg11 arg12 harg12 arg13 harg13 arg14 harg14 arg15 harg15 arg16 harg16)
      (fun _ => (T c arg3 arg4 arg5 arg6 arg7 arg8 arg9 arg10 arg12 arg13 arg14 arg15 arg16 X3 X4 X5 X6 (finM (flag X3) X4 X5).1 (finM (flag X3) X4 X5).2 (fin (flag X3) X4 X5 X6).1 (fin (flag X3) X4 X5 X6).2)) := by
  unfold k0_part192
  refine run_safe (s_part154 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  rintro ⟨v16, v17, v27, v28, v31, v34, v35, v36⟩
  refine run_safe (s_part155 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v31 v34 v35 v36) ?_
  rintro ⟨v40, v51, v74⟩
  refine run_safe (s_part156 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v51 v74) ?_
  rintro ⟨v83, v109⟩
  refine run_safe (s_part157 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v83 v109) ?_
  intro v147
  refine run_safe (s_part158 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v147) ?_
  rintro ⟨v179, v182, v185⟩
  refine run_safe (s_part159 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v179 v182 v185) ?_
  rintro ⟨v211, v214, v220⟩
  refine run_safe (s_part160 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v211 v214 v220) ?_
  rintro ⟨v243, v255⟩
  refine run_safe (s_part161 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v243 v255) ?_
  rintro ⟨v275, v292⟩
  refine run_safe (s_part162 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v275 v292) ?_
  rintro ⟨v307, v326, v327⟩
  refine run_safe (s_part163 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v307 v326 v327) ?_
  rintro ⟨v339, v365⟩
  refine run_safe (s_part164 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v339 v365) ?_
  rintro ⟨v371, v400⟩
  refine run_safe (s_part165 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v371 v400) ?_
  rintro ⟨v435, v437⟩
  refine run_safe (s_part166 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v435 v437) ?_
  rintro ⟨v467, v470, v473⟩
  refine run_safe (s_part167 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v467 v470 v473) ?_
  rintro ⟨v499, v502, v510⟩
  refine run_safe (s_part168 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v499 v502 v510) ?_
  rintro ⟨v531, v543⟩
  refine run_safe (s_part169 (F := F) c i arg3 harg3 arg4 harg4 arg5 harg5 arg6 harg6 arg7 harg7 arg8 harg8 arg9 harg9 arg10 harg10 arg11 harg11 arg12 harg12 arg13 harg13 arg14 harg14 arg15 harg15 arg16 harg16 v16 v17 v27 v28 v40 v531 v543) ?_
  rintro ⟨v563, v582⟩
  refine run_bind ((r_part170 (F := F) c i arg3 harg3 arg4 harg4 arg5 harg5 arg6 harg6 arg7 harg7 arg8 harg8 arg9 harg9 arg10 harg10 arg11 harg11 arg12 harg12 arg13 harg13 arg14 harg14 arg15 harg15 arg16 harg16 v563 v582 X3 X4 X5 X6).trans (wp_mono _ _ _ ?_))
  intro _
  try dsimp only
  refine run_safe (s_part171 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part172 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part173 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part174 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part175 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part176 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part177 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part178 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part179 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part180 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part181 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part182 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part183 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part184 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part185 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part186 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part187 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part188 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part189 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part190 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_safe (s_part191 (F := F) c i arg3 harg3 arg4 harg4 arg5 harg5 arg6 harg6 arg7 harg7 arg8 harg8 arg9 harg9 arg10 harg10 arg11 harg11 arg12 harg12 arg13 harg13 arg14 harg14 arg15 harg15 arg16 harg16) ?_
  intro _
  refine run_any (Held.left h13) ?_; intro _
  refine run_any (Held.left h16) ?_; intro _
  refine run_any (Held.left h13) ?_; intro _
  refine run_over (Held.left h13) ?_
  exact run_pure .rfl

/-- The lanes below 64 of the result block. -/
def lanesO : IVec S512x128 1 := cmpi .slt (iota .tc S512x128 32 [1] iota_S512x128_d1_w32) (broadcast S512x128 64#32)

/-- A sum over the count in its other half of the lanes. -/
def ratio (A : Vec F S1x512x128 .f32) : FVec F S512x128 .f32 :=
  divf (shapeCast S512x128 A shapeCasts_S1x512x128_S512x128) (dynamicRotate 1 64#32 none (shapeCast S512x128 A shapeCasts_S1x512x128_S512x128) rotates_S512x128_d1)

/-- The block of the result, of the two sums. -/
def outB (A : Vec F S1x512x128 .f32 × Vec F S1x512x128 .f32) : Vec F S1x512x128 .bf16 :=
  shapeCast S1x512x128 (truncf .bf16 (select lanesO (ratio A.1) (ratio A.2)) bitsLt_bf16_f32) shapeCasts_S512x128_S1x512x128

theorem storesO {c : Dev nD} (m : Memref sig .tc .vmem S1x512x128 .bf16) (w : Vec F S1x512x128 .bf16) :
    Stores c (held c m) m (Rect.unit (s := S1x512x128) ![0, 0, 0] S1x512x128.size inb_S1x512x128_S1x512x128_0_0_0) w (owns (c : Thread nD τ) m fullShare w) := by
  unfold Stores held owns
  iintro ⟨%f, H⟩
  iexists f; isplitl [H]; · iexact H
  iintro H; iexists _; isplitr
  swap; · iexact H
  ipureintro
  have hW : ∀ i : S1x512x128.Idx, (Rect.unit (s := S1x512x128) ![0, 0, 0] S1x512x128.size inb_S1x512x128_S1x512x128_0_0_0).emb i = i := by
    intro i; funext a; apply Fin.ext
    show (Rect.unit (s := S1x512x128) ![0, 0, 0] S1x512x128.size inb_S1x512x128_S1x512x128_0_0_0).off a + (Rect.unit (s := S1x512x128) ![0, 0, 0] S1x512x128.size inb_S1x512x128_S1x512x128_0_0_0).stride a * (i a : Nat) = (i a : Nat)
    fin_cases a <;> simp
  have h1 := View.read_write_univ (Val := Elt F) (v := m.access (Rect.unit (s := S1x512x128) ![0, 0, 0] S1x512x128.size inb_S1x512x128_S1x512x128_0_0_0)) f w
  funext i
  have h2 := congrFun h1 i
  rw [← h2]
  exact congrArg (m.view.read (Elt F) _) (hW i).symm

theorem r_kernel (c : Dev nD) (i : grid0.Coords) (arg3 : Memref sig .tc .smem S1 .i32) (harg3 : arg3.IsWhole) (arg4 : Memref sig .tc .vmem S1x512x256 .bf16) (harg4 : arg4.IsWhole) (arg5 : Memref sig .tc .vmem S1x4352x256 .bf16) (harg5 : arg5.IsWhole) (arg6 : Memref sig .tc .vmem S1x4352x128 .bf16) (harg6 : arg6.IsWhole) (arg7 : Memref sig .tc .vmem S17x64x128 .bf16) (harg7 : arg7.IsWhole) (arg8 : Memref sig .tc .vmem S17x64x128 .bf16) (harg8 : arg8.IsWhole) (arg9 : Memref sig .tc .vmem S17x32x128 .bf16) (harg9 : arg9.IsWhole) (arg10 : Memref sig .tc .vmem S17x32x128 .bf16) (harg10 : arg10.IsWhole) (arg11 : Memref sig .tc .vmem S1x512x128 .bf16) (harg11 : arg11.IsWhole) (arg12 : Memref sig .tc .vmem S17x32x128 .f32) (harg12 : arg12.IsWhole) (arg13 : Memref sig .tc .vmem S64x32x128 .f32) (harg13 : arg13.IsWhole) (arg14 : Memref sig .tc .vmem S2x512x128 .f32) (harg14 : arg14.IsWhole) (arg15 : Memref sig .tc .vmem S2x512x128 .f32) (harg15 : arg15.IsWhole) (arg16 : Memref sig .tc .vmem S5x17x64x128 .f32) (harg16 : arg16.IsWhole)
    (X3 : Vec F S1 .i32) (X4 : Vec F S1x512x256 .bf16) (X5 : Vec F S1x4352x256 .bf16) (X6 : Vec F S1x4352x128 .bf16) :
    iprop(T' c arg3 arg4 arg5 arg6 arg7 arg8 arg9 arg10 arg12 arg13 arg14 arg15 arg16 X3 X4 X5 X6 ∗ held c arg11) ⊢ W c (cc0_attn_scan i arg3 harg3 arg4 harg4 arg5 harg5 arg6 harg6 arg7 harg7 arg8 harg8 arg9 harg9 arg10 harg10 arg11 harg11 arg12 harg12 arg13 harg13 arg14 harg14 arg15 harg15 arg16 harg16)
      (fun _ => iprop((T c arg3 arg4 arg5 arg6 arg7 arg8 arg9 arg10 arg12 arg13 arg14 arg15 arg16 X3 X4 X5 X6 (finM (flag X3) X4 X5).1 (finM (flag X3) X4 X5).2 (fin (flag X3) X4 X5 X6).1 (fin (flag X3) X4 X5 X6).2)
        ∗ owns (c : Thread nD τ) arg11 fullShare (outB (fin (flag X3) X4 X5 X6)))) := by
  unfold cc0_attn_scan
  refine run_frame (r_part192 (F := F) c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6) ?_; intro _
  refine run_load ra0.left ?_
  refine run_load ra1.left ?_
  refine run_any (Held.right (Held.self _)) ?_; intro _
  refine run_store (Stores.right (storesO _ _)) ?_
  refine run_pure ?_
  exact .rfl

end Cert.KernelIdeal.AttnSafe

end
-- ==== Proof.AttnRun.lean ====
/- The run of the whole attention call for any reading of its values: the proof data, the body at every grid point, the run, and
   that the arguments end unchanged. The block of the attention's result is named; the block of the scan's result is not, nor
   are the staging buffers of the scan's own inputs. -/
module

public import proofs.«01_k».proof.Proof.AttnKernel
public import proofs.«01_k».proof.Proof.Gen.KernelIdeal.Frame
public import Idealize.ShloMosaic.Lib.Claim

@[expose] public section

set_option maxRecDepth 16384

noncomputable section

namespace Cert.KernelIdeal.AttnRun

open Cert.KernelIdeal Cert.KernelIdeal.Gen Cert.KernelIdeal.AttnSafe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: the scan's. -/
def fgt : Fin cfg0.W → Bool
  | ⟨4, _⟩ => true | ⟨5, _⟩ => true | ⟨6, _⟩ => true | ⟨7, _⟩ => true | ⟨9, _⟩ => true | _ => false

/-- The block of the result at a point. -/
def outAt (c : Dev nD) (t : Fin cfg0.N) : Vec F S1x512x128 .bf16 :=
  outB (fin (flag (iblk m c 0 t : Vec F S1 .i32)) (X0_1 m c t : Vec F S1x512x256 .bf16) (iblk m c 2 t : Vec F S1x4352x256 .bf16) (iblk m c 3 t : Vec F S1x4352x128 .bf16))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => fun j => Dat.unnamed (cfg := cfg0) ⟨9, by decide⟩ t j
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body -/

theorem owns_held {c : Dev nD} {sh : Shape} {e : EltTy} {mm : Memref sig .tc .vmem sh e} {X : sh.Idx → Elt F e} :
    owns (c : Thread nD τ) mm fullShare X ⊢ (held c mm : sProp 𝕄) := by
  unfold owns held
  iintro ⟨%f, -, H⟩; iexists f; iexact H

theorem held_owns {c : Dev nD} {sh : Shape} {e : EltTy} {mm : Memref sig .tc .vmem sh e} :
    (held c mm : sProp 𝕄) ⊢ iprop(∃ X : sh.Idx → Elt F e, owns (c : Thread nD τ) mm fullShare X) := by
  unfold owns held
  iintro ⟨%f, H⟩; iexists _; iexists f; isplitr
  · ipureintro; rfl
  iexact H

theorem held_s0 (c : Dev nD) : (held c (Memref.whole cc0_scratch0) : sProp 𝕄) = iprop(∃ f, (c : Thread nD τ).loc cc0_scratch0 ↦{fullShare} f) := by
  unfold held
  rw [show (Memref.whole cc0_scratch0).view.set = Finset.univ from View.set_whole cc0_scratch0]
theorem held_s1 (c : Dev nD) : (held c (Memref.whole cc0_scratch1) : sProp 𝕄) = iprop(∃ f, (c : Thread nD τ).loc cc0_scratch1 ↦{fullShare} f) := by
  unfold held
  rw [show (Memref.whole cc0_scratch1).view.set = Finset.univ from View.set_whole cc0_scratch1]
theorem held_s2 (c : Dev nD) : (held c (Memref.whole cc0_scratch2) : sProp 𝕄) = iprop(∃ f, (c : Thread nD τ).loc cc0_scratch2 ↦{fullShare} f) := by
  unfold held
  rw [show (Memref.whole cc0_scratch2).view.set = Finset.univ from View.set_whole cc0_scratch2]
theorem held_s3 (c : Dev nD) : (held c (Memref.whole cc0_scratch3) : sProp 𝕄) = iprop(∃ f, (c : Thread nD τ).loc cc0_scratch3 ↦{fullShare} f) := by
  unfold held
  rw [show (Memref.whole cc0_scratch3).view.set = Finset.univ from View.set_whole cc0_scratch3]

def pre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ d, owns (c : Thread nD τ) (st0_8 t) fullShare ((dats m 0 c).before 8 t d))
    ∗ (∃ X, owns (c : Thread nD τ) (st0_9 t) fullShare X))

def post (c : Dev nD) (t : Fin cfg0.N) : sProp 𝕄 :=
  iprop(Pipeline.ΦA spec0 c ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ owns (c : Thread nD τ) (st0_8 t) fullShare ((dats m 0 c).after 8 t)
    ∗ (∃ X, owns (c : Thread nD τ) (st0_9 t) fullShare X))

set_option maxHeartbeats 1000000 in
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, after_0, after_1, after_2, after_3, after_8]
  rw [show (dats m 0 c).owesAt () t.succ = (dats m 0 c).owesAt () t.castSucc from rfl]
  unfold Pipeline.ΦA
  rw [scopedRest0_eq, ← held_s0, ← held_s1, ← held_s2, ← held_s3]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none (c : Thread nD τ) none) Set.univ)
  isplitl [S0 S1 S2 S3 H0 H1 H2 H3 H4 H5 H6 H7 H8 H9]
  · iapply (r_kernel (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
      (st0_7 t) (hstage0_7 ((cfg0.slots t 7).cast nbuf0_7)) (st0_8 t) (hstage0_8 ((cfg0.slots t 8).cast nbuf0_8)) (st0_9 t) (hstage0_9 ((cfg0.slots t 9).cast nbuf0_9))
      (Memref.whole cc0_scratch0) (Memref.isWhole_whole _) (Memref.whole cc0_scratch1) (Memref.isWhole_whole _) (Memref.whole cc0_scratch2) (Memref.isWhole_whole _) (Memref.whole cc0_scratch3) (Memref.isWhole_whole _)
      (iblk m c 0 t) (X0_1 m c t) (iblk m c 2 t) (iblk m c 3 t))
    unfold AttnSafe.T' B Ins
    isplitl [S0 S1 S2 S3 H0 H1 H2 H3 H4 H5 H6 H7 H9]
    · isplitl [S0 S3 H4 H5 H6 H7 H9]
      · isplitl [H4]; · iapply (owns_held (F := F)); iexact H4
        isplitl [H5]; · iapply (owns_held (F := F)); iexact H5
        isplitl [H6]; · iapply (owns_held (F := F)); iexact H6
        isplitl [H7]; · iapply (owns_held (F := F)); iexact H7
        isplitl [H9]; · iapply (owns_held (F := F)); iexact H9
        isplitl [S0]; · iexact S0
        iexact S3
      isplitl [H0 H1 H2 H3]
      · isplitl [H0]; · iexact H0
        isplitl [H1]; · iexact H1
        isplitl [H2]; · iexact H2
        iexact H3
      isplitl [S1]; · iexact S1
      iexact S2
    iapply (owns_held (F := F)); iexact H8
  iintro %_ H
  unfold AttnSafe.T B Ins
  icases H with ⟨⟨HB, HI, HM, HA⟩, HO⟩
  icases HB with ⟨H4, H5, H6, H7, H9, S0, S3⟩
  icases HI with ⟨H0, H1, H2, H3⟩
  isplitl [S0 HM HA S3 Hg]
  · isplitl [S0 HM HA S3]
    · isplitl [S0]; · iexact S0
      isplitl [HM]; · ihave HM := (halves_held (F := F)) $$ HM;  iexact HM
      isplitl [HA]; · ihave HA := (halves_held (F := F)) $$ HA;  iexact HA
      iexact S3
    iexact Hg
  isplitl [Ho]; · iexact Ho
  isplitl [H0]; · iexact H0
  isplitl [H1]; · iexact H1
  isplitl [H2]; · iexact H2
  isplitl [H3]; · iexact H3
  isplitl [H4]; · iapply (held_owns (F := F)); iexact H4
  isplitl [H5]; · iapply (held_owns (F := F)); iexact H5
  isplitl [H6]; · iapply (held_owns (F := F)); iexact H6
  isplitl [H7]; · iapply (held_owns (F := F)); iexact H7
  isplitl [HO]; · iexact HO
  iapply (held_owns (F := F)); iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ fgt := fun t => by
  rw [bigSep_W0, bigSep_W0, row]
  exact triple_restated (body m c t) rfl .rfl fun _ => .rfl

/-! ## The run -/

/-- What the run says of a final state. -/
abbrev Post (r : PUnit × MemSt nD τ sig (Elt F)) : Prop := Pipeline.RDat.FramePost cfg0 (fun c => (dats m 0 c).toRForget fgt) (V m) r

set_option backward.isDefEq.respectTransparency.types false in
theorem run_quiet : θ_run defs (onTc (τ := τ) (main (F := F))) (s₀ m ρ) (fun r => Post m r ∧ r.2.sem = fun _ => 0) :=
  Pipeline.θ_run_frame_track_forget (Q' := fun r => Post m r ∧ r.2.sem = fun _ => 0) cfgs (dats m) (0 : Fin 1) launch0 defs₀ Variants.none fgt m ρ main
    (hbody := fun c => (obligation m c).loose) (hshare := fun c w => by unfold Dat.share; split <;> rfl)
    (howed := fun _ _ => rfl) (V := V m) (hmain := hmain m Variants.none) (hA := A_eq m) (hin := fun c => .rfl) (hout := fun c => .rfl) (hQ' := fun _ h => h)

set_option maxHeartbeats 2000000 in
/-- The arguments end as they began. -/
theorem args_of (r : PUnit × MemSt nD τ sig (Elt F)) (h : Post m r ∧ r.2.sem = fun _ => 0) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 1 rfl).trans ((A_eq m c 1).trans (V_main_arg2 m c)),
      (h.1.arr_in c 2 rfl).trans ((A_eq m c 2).trans (V_main_arg3 m c)),
      (h.1.arr_in c 3 rfl).trans ((A_eq m c 3).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c)⟩

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨args_of m r h, h.2⟩) (run_quiet m ρ)

end Cert.KernelIdeal.AttnRun

end
-- ==== Proof.AttnBodies.lean ====
/- The bits program of the attention call runs the same kernel. -/
module

public import proofs.«01_k».proof.Defs
public import proofs.«01_k».proof.Proof.AttnRun
public import proofs.«01_k».proof.Proof.Gen.Kernel
public import Idealize.ShloMosaic.Lib.Quiescent

@[expose] public section

set_option maxRecDepth 16384

noncomputable section

namespace Cert.Proof

open Idealize.ShloMosaic Idealize.SL.Sem

section
variable {F : FTy → Type} [FloatOps F]

set_option maxHeartbeats 4000000 in
/-- The two kernels have one text: their body tables agree at any reading of the values, -/
theorem attn_bodies : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

end

end Cert.Proof

end
-- ==== Proof.AttnTab.lean ====
/- The two programs of the attention call have the same tables. -/
module

public import proofs.«01_k».proof.Defs
public import proofs.«01_k».proof.Proof.AttnBodies

@[expose] public section

set_option maxRecDepth 16384

noncomputable section

namespace Cert.Proof

open Idealize.ShloMosaic Idealize.SL.Sem

variable {F : FTy → Type} [FloatOps F]

theorem attn_pcfgs : @Cert.Kernel.pcfgs F _ = @Cert.KernelIdeal.pcfgs F _ := rfl

set_option maxHeartbeats 2000000 in
theorem attn_tables : @Cert.Kernel.defs F _ _ = @Cert.KernelIdeal.defs F _ _ := by
  unfold Cert.Kernel.defs Cert.KernelIdeal.defs
  rw [attn_bodies]
  exact rfl

end Cert.Proof

end
-- ==== Proof.AttnPre.lean ====
/- The precondition of the attention call: its side conditions, and what it says of the arrays. -/
module

public import proofs.«01_k».proof.Defs
public import Idealize.ShloMosaic.Lib.ReduceAll
public import Idealize.ShloMosaic.Lib.Pointwise

@[expose] public section

set_option maxRecDepth 16384

noncomputable section

namespace Cert.Proof

open Idealize.ShloMosaic Idealize.SL.Sem

/-- The side conditions of the precondition's function. -/
instance pre_facts : Cert.Pre_finite.Facts where
  slices_S8x4352x1024_S8x4096x1024_0_0_0 := by decide
  bcast_S_S8x4096x1024 := by decide
  reducesTo_S8x4096x1024_S_d0_1_2 := by decide
  bcast_S_S8x4352x1024 := by decide
  reducesTo_S8x4352x1024_S_d0_1_2 := by decide
  h_S_ := by decide

theorem inf16 : Ideal.ofBits FTy.bf16 0x7F80#16 = (⊤ : EReal) := by
  simp [Ideal.ofBits, Ideal.ieee]

theorem real_of_lt (x : EReal) (h : Ideal.cmp .olt (max x (-x)) (Ideal.ofBits FTy.bf16 0x7F80#16) = 1#1) : x = (x.toReal : EReal) := by
  rw [inf16] at h
  have h2 : BitVec.ofBool (decide (max x (-x) < ⊤)) = 1#1 := h
  have h' : max x (-x) < ⊤ := by
    by_contra hn
    rw [decide_eq_false hn] at h2
    exact absurd h2 (by decide)
  refine (EReal.coe_toReal (fun e => ?_) (fun e => ?_)).symm
  · rw [e] at h'; simp at h'
  · rw [e] at h'; simp at h'

instance : Subsingleton Cert.Pre_finite.S_.Idx := ⟨fun a b => funext fun i => i.elim0⟩

theorem all_real {s : Shape} {axes : List (Fin s.rank)} (x : FVec Ideal s .bf16) (hb : Cert.Pre_finite.S_.BroadcastsInDim s (![] : Fin 0 → Fin s.rank)) (h : s.ReducesTo axes Cert.Pre_finite.S_) (hu : 0 < Cert.Pre_finite.S_.numel) (j : Cert.Pre_finite.S_.Idx)
    (e : Host.reduce IntOp.andi (cmpf .olt (Host.absf x) (broadcastInDim s ![] hb (constant (F := Ideal) Cert.Pre_finite.S_ .bf16 0x7F80#16))) (constantI Cert.Pre_finite.S_ 1 1#1) h hu j = 1#1) (i : s.Idx) :
    (x i : EReal) = ((x i : EReal).toReal : EReal) :=
  real_of_lt (x i) (Host.reduce_andi_all _ _ _ _ j e i)

/-- The first rows of an array, at an index. -/
theorem slice_row (Q : FVec Ideal Cert.Pre_finite.S8x4352x1024 .bf16) (b : Fin 8) (n : Fin 4096) (x : Fin 1024) :
    extractStridedSlice Cert.Pre_finite.S8x4096x1024 ![0, 0, 0] Q Cert.Pre_finite.Facts.slices_S8x4352x1024_S8x4096x1024_0_0_0 (ix3 b n x) = Q (ix3 b ⟨n.val, by omega⟩ x) := by
  unfold extractStridedSlice
  refine congrArg Q (funext fun a => Fin.ext ?_)
  fin_cases a
  · show 0 + b.val = b.val; omega
  · show 0 + n.val = n.val; omega
  · show 0 + x.val = x.val; omega

theorem pre_real (a0 a1) (Q K : FVec Ideal Cert.Pre_finite.S8x4352x1024 .bf16) (V : FVec Ideal Cert.Pre_finite.S8x4352x512 .bf16) (b0 b1 b2 b3 b4 b5 b6 b7 b8 b9 b10 b11)
    (h : Cert.Pre_finite.fn (F := Ideal) a0 a1 Q K V b0 b1 b2 b3 b4 b5 b6 b7 b8 b9 b10 b11 = fun _ => 1#1) :
    (∀ (b : Fin 8) (n : Fin 4096) (x : Fin 1024), (Q (ix3 b ⟨n.val, by omega⟩ x) : EReal) = ((Q (ix3 b ⟨n.val, by omega⟩ x) : EReal).toReal : EReal)) ∧ ∀ i, (K i : EReal) = ((K i : EReal).toReal : EReal) := by
  have e := congrFun h (Shape.Idx.first Cert.Pre_finite.Facts.h_S_)
  unfold Cert.Pre_finite.fn at e
  obtain ⟨e1, e2⟩ := IntOp.andi_eq_one.1 e
  refine ⟨fun b n x => ?_, fun i => all_real K _ _ _ _ e2 i⟩
  have h3 := all_real _ _ _ _ _ e1 (ix3 b n x)
  beta_reduce at h3
  rw [slice_row Q b n x] at h3
  exact h3

end Cert.Proof

end
-- ==== Proof.AttnMa.lean ====
/- The two programs of the attention call have the same host text. -/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

set_option maxHeartbeats 2000000 in
theorem attn_main0 : @Cert.Kernel.main_part0 F _ _ = @Cert.KernelIdeal.main_part0 F _ _ := by
  unfold Cert.Kernel.main_part0 Cert.KernelIdeal.main_part0
  rfl

end Cert.Proof

end
-- ==== Proof.AttnMb.lean ====
/- The two programs of the attention call have the same host text. -/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

set_option maxHeartbeats 2000000 in
theorem attn_main1 : @Cert.Kernel.main_part1 F _ _ = @Cert.KernelIdeal.main_part1 F _ _ := by
  unfold Cert.Kernel.main_part1 Cert.KernelIdeal.main_part1
  rfl

end Cert.Proof

end
-- ==== Proof.AttnMain.lean ====
/- The two mains of the attention call are one text. -/
module

public import proofs.«01_k».proof.Defs
public import proofs.«01_k».proof.Proof.AttnRun
public import proofs.«01_k».proof.Proof.Gen.Kernel
public import proofs.«01_k».proof.Proof.AttnTab
public import proofs.«01_k».proof.Proof.AttnPre
public import proofs.«01_k».proof.Proof.AttnMa
public import proofs.«01_k».proof.Proof.AttnMb
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

set_option maxHeartbeats 4000000 in
/-- The two mains are one, -/
theorem attn_main : @Cert.Kernel.main Bits _ _ = @Cert.KernelIdeal.main Bits _ _ := by
  unfold Cert.Kernel.main Cert.KernelIdeal.main
  have h0 := attn_main0 (F := Bits)
  have h1 := attn_main1 (F := Bits)
  generalize @Cert.Kernel.main_part0 Bits _ _ = a at h0 ⊢
  generalize @Cert.Kernel.main_part1 Bits _ _ = b at h1 ⊢
  subst h0
  subst h1
  rfl

end Cert.Proof

end
-- ==== Proof.AttnClaims.lean ====
/- The claims about the attention call: both programs' frames, the reference's, and the value. -/
module

public import proofs.«01_k».proof.Defs
public import proofs.«01_k».proof.Proof.AttnRun
public import proofs.«01_k».proof.Proof.Gen.Kernel
public import proofs.«01_k».proof.Proof.AttnTab
public import proofs.«01_k».proof.Proof.AttnMain
public import proofs.«01_k».proof.Proof.AttnPre
public import proofs.«01_k».proof.Proof.AttnMa
public import proofs.«01_k».proof.Proof.AttnMb
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

set_option maxHeartbeats 4000000 in
/-- so the run at any reading serves both frames. -/
theorem attn_frame : Cert.quiescent_Kernel := fun m ρ _ => by
  have h := Cert.KernelIdeal.AttnRun.kept (F := Bits) m ρ
  rw [← attn_tables, ← attn_main] at h
  exact h

theorem attn_frame_ideal : Cert.quiescent_KernelIdeal := fun m ρ _ => Cert.KernelIdeal.AttnRun.kept (F := Ideal) m ρ

theorem attn_frame_ideal_pre : Cert.quiescent_KernelIdeal_pre_finite := fun m ρ _ => Cert.KernelIdeal.AttnRun.kept (F := Ideal) m ρ

theorem attn_frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem attn_frame_reference_pre : Cert.quiescent_ReferenceIdeal_pre_finite := fun m ρ _ => attn_frame_reference m ρ trivial

end Cert.Proof

end
-- ==== Proof.AttnReal.lean ====
/- Weighted means over the real numbers: the sums of the two loops, and the reference's softmax, are one quotient. -/
module

public import Idealize.ShloMosaic.Lib.Pipeline.ValueKit
public import Idealize.ShloMosaic.Lib.Pointwise

@[expose] public section

set_option maxRecDepth 16384

noncomputable section

open Idealize.ShloMosaic
open scoped BigOperators

namespace Cert.Softmax

/-- The coercion of a sum. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A factor that is a real number, not negative, goes into a sum of extended reals. -/
theorem coe_mul_sum {ι : Type} (c : ℝ) (hc : 0 ≤ c) (S : Finset ι) (f : ι → EReal) : (c : EReal) * ∑ i ∈ S, f i = ∑ i ∈ S, (c : EReal) * f i := by
  classical
  refine Finset.induction_on S (by simp) fun a S ha ih => ?_
  rw [Finset.sum_insert ha, Finset.sum_insert ha, EReal.left_distrib_of_nonneg_of_ne_top (EReal.coe_nonneg.2 hc) (EReal.coe_ne_top c), ih]

/-- The sum of `w` with weights `2 ^ s`. -/
def total (s : ℕ → ℝ) (w : ℕ → EReal) (n : ℕ) : EReal := ∑ j ∈ Finset.range n, ((Real.rpow 2 (s j) : ℝ) : EReal) * w j

/-- A mean of `w` with weights `2 ^ s`; the `w` may be infinite. -/
def mean (s : ℕ → ℝ) (w : ℕ → EReal) : EReal := (((∑ j ∈ Finset.range 4352, Real.rpow 2 (s j))⁻¹ : ℝ) : EReal) * total s w 4352

theorem pow_pos (x : ℝ) : 0 < Real.rpow 2 x := Real.rpow_pos_of_pos two_pos x

theorem weights_pos (s : ℕ → ℝ) : 0 < ∑ j ∈ Finset.range 4352, Real.rpow 2 (s j) :=
  Finset.sum_pos (fun _ _ => pow_pos _) ⟨0, by simp⟩

theorem total_one (s : ℕ → ℝ) : total s (fun _ => 1) 4352 = ((∑ j ∈ Finset.range 4352, Real.rpow 2 (s j) : ℝ) : EReal) := by
  unfold total; rw [coe_sum]; simp only [mul_one]

/-- One more block of 256. -/
theorem block (f : ℕ → EReal) (n : ℕ) : ∑ j ∈ Finset.range (256 * (n + 1)), f j = ∑ j ∈ Finset.range (256 * n), f j + ∑ j : Fin 256, f (256 * n + j.val) := by
  rw [show 256 * (n + 1) = 256 * n + 256 by ring, Finset.sum_range_add, Finset.sum_range (fun x => f (256 * n + x))]

/-- The loop that carries no maximum. -/
theorem static (A : ℕ → EReal) (s : ℕ → ℝ) (w : ℕ → EReal) (h0 : A 0 = 0) (N : ℕ)
    (hs : ∀ n, n < N → A (n + 1) = A n + ∑ j : Fin 256, Ideal.exp2 (s (256 * n + j.val) : EReal) * w (256 * n + j.val)) :
    ∀ n, n ≤ N → A n = total s w (256 * n) := by
  intro n
  induction n with
  | zero => intro _; rw [h0]; simp [total]
  | succ n ih =>
    intro hn
    rw [hs n hn, ih (by omega)]
    unfold total
    rw [block]
    rfl

/-- Scores that differ by a number have sums that differ by a factor. -/
theorem total_shift (s : ℕ → ℝ) (w : ℕ → EReal) (a b : ℝ) (n : ℕ) :
    total (fun j => s j - b) w n = ((Real.rpow 2 (a - b) : ℝ) : EReal) * total (fun j => s j - a) w n := by
  unfold total
  rw [coe_mul_sum _ (pow_pos _).le]
  refine Finset.sum_congr rfl fun j _ => ?_
  rw [← mul_assoc, ← EReal.coe_mul]
  congr 2
  show (2 : ℝ) ^ (s j - b) = (2 : ℝ) ^ (a - b) * (2 : ℝ) ^ (s j - a)
  rw [← Real.rpow_add two_pos]
  congr 1; ring

/-- The loop that carries the maximum: any real numbers do in its place. -/
theorem dynamic (A : ℕ → EReal) (s : ℕ → ℝ) (w : ℕ → EReal) (M : ℕ → ℝ) (h0 : A 0 = 0) (N : ℕ)
    (hs : ∀ n, n < N → A (n + 1) = Ideal.exp2 ((M n : EReal) - (M (n + 1) : EReal)) * A n
      + ∑ j : Fin 256, Ideal.exp2 ((s (256 * n + j.val) : EReal) - (M (n + 1) : EReal)) * w (256 * n + j.val)) :
    ∀ n, n ≤ N → A n = total (fun j => s j - M n) w (256 * n) := by
  intro n
  induction n with
  | zero => intro _; rw [h0]; simp [total]
  | succ n ih =>
    intro hn
    rw [hs n hn, ih (by omega), ← EReal.coe_sub, Ideal.exp2_coe]
    show ((Real.rpow 2 (M n - M (n + 1)) : ℝ) : EReal) * _ + _ = _
    rw [← total_shift]
    unfold total
    rw [block]
    rfl

/-- The quotient of the first loop's sums, -/
theorem static_mean (s : ℕ → ℝ) (w : ℕ → EReal) : Ideal.div (total s w 4352) (total s (fun _ => 1) 4352) = mean s w := by
  rw [total_one, Ideal.div_coe (weights_pos s).ne', one_div, mul_comm]
  rfl

/-- of the second's, -/
theorem dynamic_mean (s : ℕ → ℝ) (w : ℕ → EReal) (M : ℝ) :
    Ideal.div (total (fun j => s j - M) w 4352) (total (fun j => s j - M) (fun _ => 1) 4352) = mean s w := by
  rw [static_mean (fun j => s j - M) w]
  have e : ∀ j, Real.rpow 2 (s j - M) = Real.rpow 2 (-M) * Real.rpow 2 (s j) := fun j => by
    show (2 : ℝ) ^ (s j - M) = (2 : ℝ) ^ (-M) * (2 : ℝ) ^ (s j)
    rw [← Real.rpow_add two_pos]
    congr 1; ring
  have h1 : total (fun j => s j - M) w 4352 = ((Real.rpow 2 (-M) : ℝ) : EReal) * total s w 4352 := by
    unfold total
    rw [coe_mul_sum _ (pow_pos _).le]
    refine Finset.sum_congr rfl fun j _ => ?_
    rw [← mul_assoc, ← EReal.coe_mul, e]
  unfold mean
  rw [h1, ← mul_assoc, ← EReal.coe_mul]
  congr 2
  simp only [e, ← Finset.mul_sum]
  have h2 := (pow_pos (-M)).ne'
  have h3 := (weights_pos s).ne'
  field_simp

/-- and the reference's softmax. -/
theorem softmax_mean (s : ℕ → ℝ) (w : ℕ → EReal) (M : ℝ) :
    ∑ j : Fin 4352, w j.val * Ideal.div (Ideal.exp ((s j.val : EReal) * (Real.log 2 : ℝ) - (M : EReal))) (∑ i : Fin 4352, Ideal.exp ((s i.val : EReal) * (Real.log 2 : ℝ) - (M : EReal)))
      = mean s w := by
  have ee : ∀ j, Ideal.exp ((s j : EReal) * (Real.log 2 : ℝ) - (M : EReal)) = ((Real.exp (-M) * Real.rpow 2 (s j) : ℝ) : EReal) := fun j => by
    rw [← EReal.coe_mul, ← EReal.coe_sub, Ideal.exp_coe]
    congr 1
    show _ = Real.exp (-M) * (2 : ℝ) ^ (s j)
    rw [Real.rpow_def_of_pos two_pos, ← Real.exp_add]
    congr 1; ring
  have hD : (∑ i : Fin 4352, ((Real.exp (-M) * Real.rpow 2 (s i.val) : ℝ) : EReal)) = ((Real.exp (-M) * ∑ j ∈ Finset.range 4352, Real.rpow 2 (s j) : ℝ) : EReal) := by
    rw [← coe_sum Finset.univ, Finset.mul_sum, Finset.sum_range]
  simp only [ee, hD]
  have hp : Real.exp (-M) * ∑ j ∈ Finset.range 4352, Real.rpow 2 (s j) ≠ 0 := (mul_pos (Real.exp_pos _) (weights_pos s)).ne'
  simp only [Ideal.div_coe hp, ← EReal.coe_mul]
  unfold mean total
  rw [coe_mul_sum _ (inv_nonneg.2 (weights_pos s).le), Finset.sum_range (fun j => (((∑ j ∈ Finset.range 4352, Real.rpow 2 (s j))⁻¹ : ℝ) : EReal) * (((Real.rpow 2 (s j) : ℝ) : EReal) * w j))]
  refine Finset.sum_congr rfl fun j _ => ?_
  rw [mul_comm, ← mul_assoc, ← EReal.coe_mul]
  refine congrArg (fun r : ℝ => (r : EReal) * w j.val) ?_
  have h1 := (Real.exp_pos (-M)).ne'
  have h2 := (weights_pos s).ne'
  generalize (∑ j ∈ Finset.range 4352, Real.rpow 2 (s j)) = D at h2
  field_simp

/-- The largest of finitely many numbers is one of them, or what it began with. -/
theorem fold_max {ι : Type} (b : EReal) (f : ι → EReal) (s : Finset ι) : Finset.fold max b f s = b ∨ ∃ i, Finset.fold max b f s = f i := by
  classical
  refine Finset.induction_on s (Or.inl (by simp)) fun a s ha ih => ?_
  rw [Finset.fold_insert ha]
  rcases max_choice (f a) (Finset.fold max b f s) with h | h
  · exact Or.inr ⟨a, h⟩
  · rw [h]; exact ih

/-- Of real numbers, with one among them, it is real. -/
theorem fold_real {ι : Type} [Fintype ι] [Nonempty ι] (f : ι → EReal) (hf : ∀ i, ∃ r : ℝ, f i = r) : ∃ r : ℝ, Finset.fold max ⊥ f Finset.univ = r := by
  rcases fold_max ⊥ f Finset.univ with h | ⟨i, h⟩
  · exfalso
    obtain ⟨i⟩ := ‹Nonempty ι›
    obtain ⟨r, hr⟩ := hf i
    have hle : f i ≤ Finset.fold max ⊥ f Finset.univ := (Finset.le_fold_max (f i)).2 (Or.inr ⟨i, Finset.mem_univ i, le_refl _⟩)
    rw [h, hr] at hle
    exact absurd (le_bot_iff.1 hle) (EReal.coe_ne_bot r)
  · obtain ⟨r, hr⟩ := hf i
    exact ⟨r, h.trans hr⟩

/-- The larger of a real number and that is real. -/
theorem max_real {ι : Type} [Fintype ι] [Nonempty ι] (a : ℝ) (f : ι → EReal) (hf : ∀ i, ∃ r : ℝ, f i = r) : ∃ r : ℝ, max (a : EReal) (Finset.fold max ⊥ f Finset.univ) = r := by
  obtain ⟨r, hr⟩ := fold_real f hf
  rw [hr]
  rcases max_choice (a : EReal) (r : EReal) with h | h
  · exact ⟨a, h⟩
  · exact ⟨r, h⟩

theorem neg_inf : Ideal.ofBits FTy.f32 4286578688#32 = (⊥ : EReal) := by
  simp [Ideal.ofBits, Ideal.ieee]

theorem low_real : ∃ r : ℝ, Ideal.ofBits FTy.f32 0xF149F2CA#32 = (r : EReal) := by
  refine ⟨-(13234890 * 2 ^ 76), ?_⟩
  simp [Ideal.ofBits, Ideal.ieee, -EReal.coe_mul]

theorem two_eq : Ideal.ofBits FTy.f32 1073741824#32 = ((2 : ℝ) : EReal) := by
  simp [Ideal.ofBits, Ideal.ieee, -EReal.coe_mul]; norm_num

theorem log_two : Ideal.log (Ideal.ofBits FTy.f32 1073741824#32) = ((Real.log 2 : ℝ) : EReal) := by
  rw [two_eq, Ideal.log_coe, if_neg (by norm_num)]

end Cert.Softmax

end
-- ==== Proof.AttnStages.lean ====
/- The attention call over the extended reals, stage by stage: the kernel's and the reference's, each at an index. -/
module

public import proofs.«01_k».proof.Proof.AttnRun
public import proofs.«01_k».proof.Proof.AttnReal
public import Idealize.ShloMosaic.Lib.KernelVsHost
public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen Cert.KernelIdeal.AttnSafe

theorem sc_at (Q : Vec Ideal S1x512x128 .bf16) (K : Vec Ideal S1x256x128 .bf16) (p : Fin 512) (j : Fin 256) :
    sc Q K (ix2 p j) = ∑ x : Fin 128, (Q (ix3 0 p x) : EReal) * K (ix3 0 j x) := by
  pointwise [sc]

theorem accS_at (s : FVec Ideal S512x256 .f32) (v : FVec Ideal S256x128 .bf16) (A : Vec Ideal S1x512x128 .f32) (p : Fin 512) (l : Fin 128) :
    accS s v A (ix3 0 p l) = (A (ix3 0 p l) : EReal) + ∑ j : Fin 256, Ideal.exp2 (s (ix2 p j)) * v (ix2 j l) := by
  pointwise [accS]
  rfl

theorem lane (l : Fin 128) : IntOp.cmpi CmpIPredicate.slt (BitVec.ofNat 32 l.val) 64#32 = if l.val < 64 then 1#1 else 0#1 := by
  revert l; decide

theorem lane_sel (l : Fin 128) (a b : EReal) : Scalar.select (IntOp.cmpi CmpIPredicate.slt (BitVec.ofNat 32 l.val) 64#32) a b = if l.val < 64 then a else b := by
  rw [lane]
  split <;> rfl

theorem vlo_at (V : Vec Ideal S1x256x128 .bf16) (j : Fin 256) (l : Fin 128) : vlo V (ix2 j l) = if l.val < 64 then (V (ix3 0 j l) : EReal) else 1 := by
  pointwise [vlo, lanes, one16]
  exact lane_sel l _ _
theorem vhi_at (V : Vec Ideal S1x256x128 .bf16) (j : Fin 256) (l : Fin 128) : vhi V (ix2 j l) = if l.val < 64 then (1 : EReal) else V (ix3 0 j l) := by
  pointwise [vhi, lanes, one16]
  exact lane_sel l _ _

theorem upM_at (s : FVec Ideal S512x256 .f32) (M : Vec Ideal S1x512x128 .f32) (p : Fin 512) (l : Fin 128) :
    upM s M (ix3 0 p l) = max (M (ix3 0 p l) : EReal) (Finset.fold max ⊥ (fun x : Fin 256 => s (ix2 p x)) Finset.univ) := by
  pointwise [upM, maxD]
  rw [Softmax.neg_inf]

theorem maxD_at (s : FVec Ideal S512x256 .f32) (M : Vec Ideal S1x512x128 .f32) (p : Fin 512) (l : Fin 128) : maxD s M (ix2 p l) = upM s M (ix3 0 p l) := by
  pointwise [upM]

theorem accD_at (s : FVec Ideal S512x256 .f32) (v : FVec Ideal S256x128 .bf16) (M A : Vec Ideal S1x512x128 .f32) (p : Fin 512) (l : Fin 128) (μ : EReal) (hμ : ∀ l, maxD s M (ix2 p l) = μ) :
    accD s v M A (ix3 0 p l) = Ideal.exp2 ((M (ix3 0 p l) : EReal) - μ) * A (ix3 0 p l)
      + ∑ j : Fin 256, Ideal.exp2 (s (ix2 p j) - μ) * v (ix2 j l) := by
  have hsum := Fin.sum_univ_add (a := 128) (b := 128) (fun j : Fin 256 => Ideal.exp2 (s (ix2 p j) - μ) * v (ix2 j l))
  unfold accD
  generalize maxD s M = D at hμ ⊢
  pointwise
  simp only [hμ]
  exact congrArg (fun z => Ideal.exp2 ((M (ix3 0 p l) : EReal) - μ) * A (ix3 0 p l) + z) hsum.symm

theorem ratio_at (A : Vec Ideal S1x512x128 .f32) (p : Fin 512) (l : Fin 128) :
    ratio A (ix2 p l) = Ideal.div (A (ix3 0 p l)) (A (ix3 0 p ⟨(l.val + 128 - 64) % 128, by omega⟩)) := by
  pointwise [ratio]

theorem outB_at (A : Vec Ideal S1x512x128 .f32 × Vec Ideal S1x512x128 .f32) (p : Fin 512) (l : Fin 128) :
    outB A (ix3 0 p l) = if l.val < 64 then ratio A.1 (ix2 p l) else ratio A.2 (ix2 p l) := by
  unfold outB
  generalize ratio A.1 = R
  generalize ratio A.2 = R'
  pointwise [lanesO]
  exact lane_sel l _ _

section Reference
open Cert.ReferenceIdeal (S8x4352x512 S8x4352x8x64 S8x8x4096x4352 S8x8x4096 S8x8x4096x1 S8x8x64x4096 S8x4096x8x64 S8x4096x512 S8x4096x1024 S8x4352x1024 S8x4096x8x128 S8x4352x8x128 S_ dot_S8x4352x8x64_S8x8x4096x4352_S8x8x64x4096_1_3_3_2_02_01 dot_S8x4096x8x128_S8x4352x8x128_S8x8x4096x4352_3_3_1_1_02_02)
open Cert.ReferenceIdeal.Gen (bcast_S_S8x8x4096x4352 bcast_S8x8x4096x1_S8x8x4096x4352_0_1_2_3 bcast_S8x8x4096_S8x8x4096x1_0_1_2 bcast_S_S8x8x4096 reducesTo_S8x8x4096x4352_S8x8x4096_d3 transposes_S8x8x64x4096_S8x4096x8x64_0_3_1_2 shapeCasts_S8x4096x8x64_S8x4096x512 shapeCasts_S8x4352x512_S8x4352x8x64 shapeCasts_S8x4096x1024_S8x4096x8x128 shapeCasts_S8x4352x1024_S8x4352x8x128 slices_S8x4352x1024_S8x4096x1024_0_0_0)

/-- The reference's scores, -/
def scores (Q K : FVec Ideal S8x4352x1024 .bf16) : FVec Ideal S8x8x4096x4352 .f32 :=
  mulf (Host.dotGeneral dot_S8x4096x8x128_S8x4352x8x128_S8x8x4096x4352_3_3_1_1_02_02 none (extf .f32 (shapeCast _ (extractStridedSlice S8x4096x1024 ![0, 0, 0] Q slices_S8x4352x1024_S8x4096x1024_0_0_0) shapeCasts_S8x4096x1024_S8x4096x8x128) bitsLt_bf16_f32) (extf .f32 (shapeCast _ K shapeCasts_S8x4352x1024_S8x4352x8x128) bitsLt_bf16_f32)) (broadcastInDim S8x8x4096x4352 ![] bcast_S_S8x8x4096x4352 (Host.log (constant S_ .f32 0x40000000#32)))

/-- their maxima, -/
def maxR (S : FVec Ideal S8x8x4096x4352 .f32) : FVec Ideal S8x8x4096 .f32 :=
  maximumf (broadcastInDim S8x8x4096 ![] bcast_S_S8x8x4096 (constant S_ .f32 0xFF800000#32)) (Host.reduce FloatOps.maximumf S (constant S_ .f32 0xFF800000#32) reducesTo_S8x8x4096x4352_S8x8x4096_d3 Cert.ReferenceIdeal.Gen.h_S_)

/-- their exponentials, -/
def expR (S : FVec Ideal S8x8x4096x4352 .f32) (M : FVec Ideal S8x8x4096 .f32) : FVec Ideal S8x8x4096x4352 .f32 :=
  Host.exp (subf S (broadcastInDim S8x8x4096x4352 ![0, 1, 2, 3] bcast_S8x8x4096x1_S8x8x4096x4352_0_1_2_3 (broadcastInDim S8x8x4096x1 ![0, 1, 2] bcast_S8x8x4096_S8x8x4096x1_0_1_2 M)))

/-- the weights, -/
def prob (E : FVec Ideal S8x8x4096x4352 .f32) : FVec Ideal S8x8x4096x4352 .f32 :=
  Host.divf E (broadcastInDim S8x8x4096x4352 ![0, 1, 2, 3] bcast_S8x8x4096x1_S8x8x4096x4352_0_1_2_3 (broadcastInDim S8x8x4096x1 ![0, 1, 2] bcast_S8x8x4096_S8x8x4096x1_0_1_2 (Host.reduceAdd E (constant S_ .f32 0x00000000#32) reducesTo_S8x8x4096x4352_S8x8x4096_d3 Cert.ReferenceIdeal.Gen.h_S_)))

/-- and the values under them. -/
def outR (V : FVec Ideal S8x4352x512 .bf16) (P : FVec Ideal S8x8x4096x4352 .f32) : FVec Ideal S8x4096x512 .bf16 :=
  shapeCast _ (truncf .bf16 (transpose S8x4096x8x64 [0, 3, 1, 2] (Host.dotGeneral dot_S8x4352x8x64_S8x8x4096x4352_S8x8x64x4096_1_3_3_2_02_01 none (shapeCast _ V shapeCasts_S8x4352x512_S8x4352x8x64) (extf .f32 (truncf .bf16 P bitsLt_bf16_f32) bitsLt_bf16_f32)) transposes_S8x8x64x4096_S8x4096x8x64_0_3_1_2) bitsLt_bf16_f32) shapeCasts_S8x4096x8x64_S8x4096x512

/-- The reference's result. -/
def REF (Q K : FVec Ideal S8x4352x1024 .bf16) (V : FVec Ideal S8x4352x512 .bf16) : FVec Ideal S8x4096x512 .bf16 :=
  outR V (prob (expR (scores Q K) (maxR (scores Q K))))

theorem scores_at (Q K : FVec Ideal S8x4352x1024 .bf16) (b h : Fin 8) (n : Fin 4096) (j : Fin 4352) :
    scores Q K (ix4 b h n j) = (∑ x : Fin 128, Q (ix3 b ⟨n.val, by omega⟩ ⟨h.val * 128 + x.val, by omega⟩) * K (ix3 b j ⟨h.val * 128 + x.val, by omega⟩)) * Ideal.log (Ideal.ofBits FTy.f32 1073741824#32) := by
  pointwise [scores]

theorem expR_at (S : FVec Ideal S8x8x4096x4352 .f32) (M : FVec Ideal S8x8x4096 .f32) (b h : Fin 8) (n : Fin 4096) (j : Fin 4352) :
    expR S M (ix4 b h n j) = Ideal.exp (S (ix4 b h n j) - M (ix3 b h n)) := by
  pointwise [expR]

theorem prob_at (E : FVec Ideal S8x8x4096x4352 .f32) (b h : Fin 8) (n : Fin 4096) (j : Fin 4352) :
    prob E (ix4 b h n j) = Ideal.div (E (ix4 b h n j)) (∑ i : Fin 4352, E (ix4 b h n i)) := by
  pointwise [prob]

theorem outR_at (V : FVec Ideal S8x4352x512 .bf16) (P : FVec Ideal S8x8x4096x4352 .f32) (b : Fin 8) (n : Fin 4096) (l : Fin 512) :
    outR V P (ix3 b n l) = ∑ j : Fin 4352, V (ix3 b j l) * P (ix4 b ⟨l.val / 64, by omega⟩ n j) := by
  pointwise [outR]

end Reference

end Cert.KernelIdeal.Attn

end
-- ==== Proof.AttnLoops.lean ====
/- The two loops of the attention call over the extended reals: either leaves the same quotient. -/
module

public import proofs.«01_k».proof.Proof.AttnStages

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen Cert.KernelIdeal.AttnSafe
open Idealize.ShloMosaic.View (ld)

/-! ## The blocks read -/

theorem trips1 : k0_t1_loop.trips = 17 := by decide
theorem trips2 : k0_t2_loop.trips = 17 := by decide
theorem off66 : ∀ k : Fin k0_t1_loop.trips, k0_off66 k = ![0, 256 * k.val, 0] := by decide +kernel
theorem off67 : ∀ k : Fin k0_t1_loop.trips, k0_off67 k = ![0, 256 * k.val, 0] := by decide +kernel
theorem off68 : ∀ k : Fin k0_t1_loop.trips, k0_off68 k = ![0, 256 * k.val, 128] := by decide +kernel
theorem off134 : ∀ k : Fin k0_t2_loop.trips, k0_off134 k = ![0, 256 * k.val, 0] := by decide +kernel
theorem off135 : ∀ k : Fin k0_t2_loop.trips, k0_off135 k = ![0, 256 * k.val, 0] := by decide +kernel
theorem off136 : ∀ k : Fin k0_t2_loop.trips, k0_off136 k = ![0, 256 * k.val, 128] := by decide +kernel

section
variable (X4 : Vec Ideal S1x512x256 .bf16) (X5 : Vec Ideal S1x4352x256 .bf16) (X6 : Vec Ideal S1x4352x128 .bf16)

theorem q0_at (p : Fin 512) (x : Fin 128) : ld X4 qr0 (ix3 0 p x) = X4 (ix3 0 p ⟨0 + x.val, by omega⟩) := by
  refine congrArg X4 (funext fun a => Fin.ext ?_)
  show qr0.off a + qr0.stride a * ((ix3 (0 : Fin 1) p x) a : Nat) = _
  fin_cases a <;> simp

theorem q1_at (p : Fin 512) (x : Fin 128) : ld X4 qr1 (ix3 0 p x) = X4 (ix3 0 p ⟨128 + x.val, by omega⟩) := by
  refine congrArg X4 (funext fun a => Fin.ext ?_)
  show qr1.off a + qr1.stride a * ((ix3 (0 : Fin 1) p x) a : Nat) = _
  fin_cases a <;> simp

theorem kS0_at (k : Fin k0_t1_loop.trips) (j : Fin 256) (x : Fin 128) :
    ld X5 (Rect.unit (s := S1x4352x256) (k0_off67 k) S1x256x128.size (k0_off67_inb k)) (ix3 0 j x) = X5 (ix3 0 ⟨256 * k.val + j.val, by have := k.isLt; have := trips1; omega⟩ ⟨0 + x.val, by omega⟩) := by
  refine congrArg X5 (funext fun a => Fin.ext ?_)
  show (k0_off67 k) a + 1 * ((ix3 (0 : Fin 1) j x) a : Nat) = _
  rw [off67 k]
  fin_cases a <;> simp

theorem kS1_at (k : Fin k0_t1_loop.trips) (j : Fin 256) (x : Fin 128) :
    ld X5 (Rect.unit (s := S1x4352x256) (k0_off68 k) S1x256x128.size (k0_off68_inb k)) (ix3 0 j x) = X5 (ix3 0 ⟨256 * k.val + j.val, by have := k.isLt; have := trips1; omega⟩ ⟨128 + x.val, by omega⟩) := by
  refine congrArg X5 (funext fun a => Fin.ext ?_)
  show (k0_off68 k) a + 1 * ((ix3 (0 : Fin 1) j x) a : Nat) = _
  rw [off68 k]
  fin_cases a <;> simp

theorem vS_at (k : Fin k0_t1_loop.trips) (j : Fin 256) (x : Fin 128) :
    ld X6 (Rect.unit (s := S1x4352x128) (k0_off66 k) S1x256x128.size (k0_off66_inb k)) (ix3 0 j x) = X6 (ix3 0 ⟨256 * k.val + j.val, by have := k.isLt; have := trips1; omega⟩ ⟨0 + x.val, by omega⟩) := by
  refine congrArg X6 (funext fun a => Fin.ext ?_)
  show (k0_off66 k) a + 1 * ((ix3 (0 : Fin 1) j x) a : Nat) = _
  rw [off66 k]
  fin_cases a <;> simp

theorem kD0_at (k : Fin k0_t2_loop.trips) (j : Fin 256) (x : Fin 128) :
    ld X5 (Rect.unit (s := S1x4352x256) (k0_off135 k) S1x256x128.size (k0_off135_inb k)) (ix3 0 j x) = X5 (ix3 0 ⟨256 * k.val + j.val, by have := k.isLt; have := trips2; omega⟩ ⟨0 + x.val, by omega⟩) := by
  refine congrArg X5 (funext fun a => Fin.ext ?_)
  show (k0_off135 k) a + 1 * ((ix3 (0 : Fin 1) j x) a : Nat) = _
  rw [off135 k]
  fin_cases a <;> simp

theorem kD1_at (k : Fin k0_t2_loop.trips) (j : Fin 256) (x : Fin 128) :
    ld X5 (Rect.unit (s := S1x4352x256) (k0_off136 k) S1x256x128.size (k0_off136_inb k)) (ix3 0 j x) = X5 (ix3 0 ⟨256 * k.val + j.val, by have := k.isLt; have := trips2; omega⟩ ⟨128 + x.val, by omega⟩) := by
  refine congrArg X5 (funext fun a => Fin.ext ?_)
  show (k0_off136 k) a + 1 * ((ix3 (0 : Fin 1) j x) a : Nat) = _
  rw [off136 k]
  fin_cases a <;> simp

theorem vD_at (k : Fin k0_t2_loop.trips) (j : Fin 256) (x : Fin 128) :
    ld X6 (Rect.unit (s := S1x4352x128) (k0_off134 k) S1x256x128.size (k0_off134_inb k)) (ix3 0 j x) = X6 (ix3 0 ⟨256 * k.val + j.val, by have := k.isLt; have := trips2; omega⟩ ⟨0 + x.val, by omega⟩) := by
  refine congrArg X6 (funext fun a => Fin.ext ?_)
  show (k0_off134 k) a + 1 * ((ix3 (0 : Fin 1) j x) a : Nat) = _
  rw [off134 k]
  fin_cases a <;> simp

theorem init_at (b : BitVec 32) (r : Rect S2x512x128) (i) : ld (initW (F := Ideal) b) r i = Ideal.ofBits FTy.f32 b := rfl
theorem zero0_at (i) : (zero0 (F := Ideal)) i = (0 : EReal) := (init_at _ _ _).trans (by simp [Ideal.ofBits, Ideal.ieee])
theorem zero1_at (i) : (zero1 (F := Ideal)) i = (0 : EReal) := (init_at _ _ _).trans (by simp [Ideal.ofBits, Ideal.ieee])

/-! ## The loops -/

variable (p : Fin 512) (s : ℕ → ℝ) (w : ℕ → EReal) (l : Fin 128)

theorem sumS0_at (hs : ∀ (k : Fin k0_t1_loop.trips) (j : Fin 256), scS0 X4 X5 k (ix2 p j) = (s (256 * k.val + j.val) : EReal))
    (hw : ∀ (k : Fin k0_t1_loop.trips) (j : Fin 256), vlo (vS X6 k) (ix2 j l) = w (256 * k.val + j.val)) :
    (sumS X4 X5 X6 k0_t1_loop.trips).1 (ix3 0 p l) = Softmax.total s w 4352 := by
  have h := Softmax.static (fun n => (sumS X4 X5 X6 n).1 (ix3 0 p l)) s w (zero0_at (ix3 0 p l)) 17 (fun n hn => ?_) 17 le_rfl
  · exact h
  · have e := sumS_succ X4 X5 X6 ⟨n, hn⟩
    show (sumS X4 X5 X6 (n + 1)).1 (ix3 0 p l) = _
    rw [show sumS X4 X5 X6 (n + 1) = _ from e]
    refine (accS_at _ _ _ p l).trans ?_
    simp only [hs, hw]

theorem maxs0_at (hs : ∀ (k : Fin k0_t2_loop.trips) (j : Fin 256), scD0 X4 X5 k (ix2 p j) = (s (256 * k.val + j.val) : EReal)) :
    ∀ n : ℕ, n ≤ 17 → ∃ μ : ℝ, ∀ l : Fin 128, (maxs X4 X5 n).1 (ix3 0 p l) = (μ : EReal) := by
  intro n
  induction n with
  | zero => intro _; obtain ⟨r, hr⟩ := Softmax.low_real; exact ⟨r, fun l => (init_at _ r0 (ix3 0 p l)).trans hr⟩
  | succ n ih =>
    intro hn
    obtain ⟨μ, hμ⟩ := ih (by omega)
    obtain ⟨r, hr⟩ := Softmax.max_real μ (fun x : Fin 256 => scD0 X4 X5 ⟨n, hn⟩ (ix2 p x)) fun x => ⟨_, hs ⟨n, hn⟩ x⟩
    refine ⟨r, fun l => ?_⟩
    rw [show maxs X4 X5 (n + 1) = _ from maxs_succ X4 X5 ⟨n, hn⟩]
    refine (upM_at _ _ p l).trans ?_
    rw [hμ l]
    exact hr

theorem sumD0_at (hs : ∀ (k : Fin k0_t2_loop.trips) (j : Fin 256), scD0 X4 X5 k (ix2 p j) = (s (256 * k.val + j.val) : EReal)) :
    ∃ μ : ℝ, ∀ (w : ℕ → EReal) (l : Fin 128), (∀ (k : Fin k0_t2_loop.trips) (j : Fin 256), vlo (vD X6 k) (ix2 j l) = w (256 * k.val + j.val)) →
      (sumD X4 X5 X6 k0_t2_loop.trips).1 (ix3 0 p l) = Softmax.total (fun j => s j - μ) w 4352 := by
  have hm := maxs0_at X4 X5 p s hs
  choose! M hM using hm
  refine ⟨M 17, fun w l hw => ?_⟩
  have h := Softmax.dynamic (fun n => (sumD X4 X5 X6 n).1 (ix3 0 p l)) s w M (zero0_at (ix3 0 p l)) 17 (fun n hn => ?_) 17 le_rfl
  · exact h
  · have e := sumD_succ X4 X5 X6 ⟨n, hn⟩
    show (sumD X4 X5 X6 (n + 1)).1 (ix3 0 p l) = _
    rw [show sumD X4 X5 X6 (n + 1) = _ from e]
    refine (accD_at _ _ _ _ p l (M (n + 1) : EReal) fun l' => ?_).trans ?_
    · rw [maxD_at, ← hM (n + 1) (by omega) l', show maxs X4 X5 (n + 1) = _ from maxs_succ X4 X5 ⟨n, hn⟩]
    · simp only [hs, hw, hM n (by omega) l]

theorem sumS1_at (hs : ∀ (k : Fin k0_t1_loop.trips) (j : Fin 256), scS1 X4 X5 k (ix2 p j) = (s (256 * k.val + j.val) : EReal))
    (hw : ∀ (k : Fin k0_t1_loop.trips) (j : Fin 256), vhi (vS X6 k) (ix2 j l) = w (256 * k.val + j.val)) :
    (sumS X4 X5 X6 k0_t1_loop.trips).2 (ix3 0 p l) = Softmax.total s w 4352 := by
  have h := Softmax.static (fun n => (sumS X4 X5 X6 n).2 (ix3 0 p l)) s w (zero1_at (ix3 0 p l)) 17 (fun n hn => ?_) 17 le_rfl
  · exact h
  · have e := sumS_succ X4 X5 X6 ⟨n, hn⟩
    show (sumS X4 X5 X6 (n + 1)).2 (ix3 0 p l) = _
    rw [show sumS X4 X5 X6 (n + 1) = _ from e]
    refine (accS_at _ _ _ p l).trans ?_
    simp only [hs, hw]

theorem maxs1_at (hs : ∀ (k : Fin k0_t2_loop.trips) (j : Fin 256), scD1 X4 X5 k (ix2 p j) = (s (256 * k.val + j.val) : EReal)) :
    ∀ n : ℕ, n ≤ 17 → ∃ μ : ℝ, ∀ l : Fin 128, (maxs X4 X5 n).2 (ix3 0 p l) = (μ : EReal) := by
  intro n
  induction n with
  | zero => intro _; obtain ⟨r, hr⟩ := Softmax.low_real; exact ⟨r, fun l => (init_at _ r1 (ix3 0 p l)).trans hr⟩
  | succ n ih =>
    intro hn
    obtain ⟨μ, hμ⟩ := ih (by omega)
    obtain ⟨r, hr⟩ := Softmax.max_real μ (fun x : Fin 256 => scD1 X4 X5 ⟨n, hn⟩ (ix2 p x)) fun x => ⟨_, hs ⟨n, hn⟩ x⟩
    refine ⟨r, fun l => ?_⟩
    rw [show maxs X4 X5 (n + 1) = _ from maxs_succ X4 X5 ⟨n, hn⟩]
    refine (upM_at _ _ p l).trans ?_
    rw [hμ l]
    exact hr

theorem sumD1_at (hs : ∀ (k : Fin k0_t2_loop.trips) (j : Fin 256), scD1 X4 X5 k (ix2 p j) = (s (256 * k.val + j.val) : EReal)) :
    ∃ μ : ℝ, ∀ (w : ℕ → EReal) (l : Fin 128), (∀ (k : Fin k0_t2_loop.trips) (j : Fin 256), vhi (vD X6 k) (ix2 j l) = w (256 * k.val + j.val)) →
      (sumD X4 X5 X6 k0_t2_loop.trips).2 (ix3 0 p l) = Softmax.total (fun j => s j - μ) w 4352 := by
  have hm := maxs1_at X4 X5 p s hs
  choose! M hM using hm
  refine ⟨M 17, fun w l hw => ?_⟩
  have h := Softmax.dynamic (fun n => (sumD X4 X5 X6 n).2 (ix3 0 p l)) s w M (zero1_at (ix3 0 p l)) 17 (fun n hn => ?_) 17 le_rfl
  · exact h
  · have e := sumD_succ X4 X5 X6 ⟨n, hn⟩
    show (sumD X4 X5 X6 (n + 1)).2 (ix3 0 p l) = _
    rw [show sumD X4 X5 X6 (n + 1) = _ from e]
    refine (accD_at _ _ _ _ p l (M (n + 1) : EReal) fun l' => ?_).trans ?_
    · rw [maxD_at, ← hM (n + 1) (by omega) l', show maxs X4 X5 (n + 1) = _ from maxs_succ X4 X5 ⟨n, hn⟩]
    · simp only [hs, hw, hM n (by omega) l]

theorem ratio0 (b : BitVec 1) (hl : l.val < 64)
    (hS : ∀ (k : Fin k0_t1_loop.trips) (j : Fin 256), scS0 X4 X5 k (ix2 p j) = (s (256 * k.val + j.val) : EReal))
    (hD : ∀ (k : Fin k0_t2_loop.trips) (j : Fin 256), scD0 X4 X5 k (ix2 p j) = (s (256 * k.val + j.val) : EReal))
    (hvS : ∀ (k : Fin k0_t1_loop.trips) (j : Fin 256), vS X6 k (ix3 0 j l) = w (256 * k.val + j.val))
    (hvD : ∀ (k : Fin k0_t2_loop.trips) (j : Fin 256), vD X6 k (ix3 0 j l) = w (256 * k.val + j.val)) :
    ratio (fin b X4 X5 X6).1 (ix2 p l) = Softmax.mean s w := by
  rw [ratio_at]
  unfold fin
  have hl' : ¬ (((l.val + 128 - 64) % 128) < 64) := by omega
  split
  · rw [sumS0_at X4 X5 X6 p s w l hS (fun k j => by rw [vlo_at]; rw [if_pos hl]; exact hvS k j),
      sumS0_at X4 X5 X6 p s (fun _ => 1) ⟨(l.val + 128 - 64) % 128, by omega⟩ hS (fun k j => by rw [vlo_at]; rw [if_neg hl'])]
    exact Softmax.static_mean s w
  · obtain ⟨μ, hμ⟩ := sumD0_at X4 X5 X6 p s hD
    rw [hμ w l (fun k j => by rw [vlo_at]; rw [if_pos hl]; exact hvD k j),
      hμ (fun _ => 1) ⟨(l.val + 128 - 64) % 128, by omega⟩ (fun k j => by rw [vlo_at]; rw [if_neg hl'])]
    exact Softmax.dynamic_mean s w μ

theorem ratio1 (b : BitVec 1) (hl : ¬ l.val < 64)
    (hS : ∀ (k : Fin k0_t1_loop.trips) (j : Fin 256), scS1 X4 X5 k (ix2 p j) = (s (256 * k.val + j.val) : EReal))
    (hD : ∀ (k : Fin k0_t2_loop.trips) (j : Fin 256), scD1 X4 X5 k (ix2 p j) = (s (256 * k.val + j.val) : EReal))
    (hvS : ∀ (k : Fin k0_t1_loop.trips) (j : Fin 256), vS X6 k (ix3 0 j l) = w (256 * k.val + j.val))
    (hvD : ∀ (k : Fin k0_t2_loop.trips) (j : Fin 256), vD X6 k (ix3 0 j l) = w (256 * k.val + j.val)) :
    ratio (fin b X4 X5 X6).2 (ix2 p l) = Softmax.mean s w := by
  rw [ratio_at]
  unfold fin
  have hl' : ¬ (¬ ((l.val + 128 - 64) % 128) < 64) := by omega
  split
  · rw [sumS1_at X4 X5 X6 p s w l hS (fun k j => by rw [vhi_at]; rw [if_neg hl]; exact hvS k j),
      sumS1_at X4 X5 X6 p s (fun _ => 1) ⟨(l.val + 128 - 64) % 128, by omega⟩ hS (fun k j => by rw [vhi_at]; rw [if_pos (not_not.1 hl')])]
    exact Softmax.static_mean s w
  · obtain ⟨μ, hμ⟩ := sumD1_at X4 X5 X6 p s hD
    rw [hμ w l (fun k j => by rw [vhi_at]; rw [if_neg hl]; exact hvD k j),
      hμ (fun _ => 1) ⟨(l.val + 128 - 64) % 128, by omega⟩ (fun k j => by rw [vhi_at]; rw [if_pos (not_not.1 hl')])]
    exact Softmax.dynamic_mean s w μ

end

end Cert.KernelIdeal.Attn

end
-- ==== Proof.AttnMax.lean ====
/- The attention call over the extended reals, stage by stage: the kernel's and the reference's, each at an index. -/
module

public import proofs.«01_k».proof.Proof.AttnStages
public import proofs.«01_k».proof.Proof.AttnReal
public import Idealize.ShloMosaic.Lib.KernelVsHost
public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen Cert.KernelIdeal.AttnSafe

open Cert.ReferenceIdeal (S8x4352x512 S8x4352x8x64 S8x8x4096x4352 S8x8x4096 S8x8x4096x1 S8x8x64x4096 S8x4096x8x64 S8x4096x512 S8x4096x1024 S8x4352x1024 S8x4096x8x128 S8x4352x8x128 S_ dot_S8x4352x8x64_S8x8x4096x4352_S8x8x64x4096_1_3_3_2_02_01 dot_S8x4096x8x128_S8x4352x8x128_S8x8x4096x4352_3_3_1_1_02_02)
open Cert.ReferenceIdeal.Gen (bcast_S_S8x8x4096x4352 bcast_S8x8x4096x1_S8x8x4096x4352_0_1_2_3 bcast_S8x8x4096_S8x8x4096x1_0_1_2 bcast_S_S8x8x4096 reducesTo_S8x8x4096x4352_S8x8x4096_d3 transposes_S8x8x64x4096_S8x4096x8x64_0_3_1_2 shapeCasts_S8x4096x8x64_S8x4096x512 shapeCasts_S8x4352x512_S8x4352x8x64 shapeCasts_S8x4096x1024_S8x4096x8x128 shapeCasts_S8x4352x1024_S8x4352x8x128 slices_S8x4352x1024_S8x4096x1024_0_0_0)

/-- A host reduction by the maximum from −∞ over a nonempty axis of reals is real. -/
theorem reduce_real {s t u : Shape} {a : Fin s.rank} [Nonempty (Fin (s.size a))] (x : s.Idx → EReal) (init : u.Idx → EReal)
    (h' : s.ReducesTo [a] t) (h : s.Reduces [a] t) (hu : 0 < u.numel) (j : t.Idx) (hi : init (Shape.Idx.first hu) = ⊥) (hx : ∀ i, ∃ r : ℝ, x i = r) :
    ∃ r : ℝ, Host.reduce (fun p q : EReal => max p q) x init h' hu j = r := by
  have e := Host.reduce_eq_fold_single (fun p q : EReal => max p q) x init h' h hu j
  rw [e, hi]
  exact Softmax.fold_real _ fun k => hx _

theorem max_at {s : Shape} (a b : FVec Ideal s .f32) (i : s.Idx) : maximumf a b i = max (a i : EReal) (b i) := rfl

theorem low_at (i : S8x8x4096.Idx) : broadcastInDim S8x8x4096 ![] bcast_S_S8x8x4096 (constant (F := Ideal) S_ .f32 0xFF800000#32) i = Ideal.ofBits FTy.f32 4286578688#32 := rfl

/-- The reduction under them, -/
def redR (S : FVec Ideal S8x8x4096x4352 .f32) : FVec Ideal S8x8x4096 .f32 :=
  Host.reduce FloatOps.maximumf S (constant S_ .f32 0xFF800000#32) reducesTo_S8x8x4096x4352_S8x8x4096_d3 Cert.ReferenceIdeal.Gen.h_S_

theorem maxR_eq (S : FVec Ideal S8x8x4096x4352 .f32) :
    maxR S = maximumf (broadcastInDim S8x8x4096 ![] bcast_S_S8x8x4096 (constant S_ .f32 0xFF800000#32)) (redR S) := by
  unfold maxR redR
  rfl

theorem maxR_at (S : FVec Ideal S8x8x4096x4352 .f32) (b h : Fin 8) (n : Fin 4096) :
    maxR S (ix3 b h n) = max (Ideal.ofBits FTy.f32 4286578688#32) (redR S (ix3 b h n)) := by
  rw [maxR_eq, max_at, low_at]

theorem red3 : S8x8x4096x4352.Reduces [3] S8x8x4096 := by decide

theorem axis3 : Nonempty (Fin (S8x8x4096x4352.size 3)) := ⟨⟨0, by decide⟩⟩

theorem init_bot : (constant (F := Ideal) S_ .f32 0xFF800000#32 (Shape.Idx.first Cert.ReferenceIdeal.Gen.h_S_) : EReal) = ⊥ := by
  refine Eq.trans ?_ Softmax.neg_inf
  rfl

theorem maxR_real (S : FVec Ideal S8x8x4096x4352 .f32) (hS : ∀ i, ∃ r : ℝ, (S i : EReal) = r) (b h : Fin 8) (n : Fin 4096) :
    ∃ r : ℝ, (maxR S (ix3 b h n) : EReal) = r := by
  haveI := axis3
  obtain ⟨r, hr⟩ := reduce_real S (constant (F := Ideal) S_ .f32 0xFF800000#32) reducesTo_S8x8x4096x4352_S8x8x4096_d3 red3 Cert.ReferenceIdeal.Gen.h_S_ (ix3 b h n) init_bot hS
  have hr' : redR S (ix3 b h n) = (r : EReal) := by unfold redR; exact hr
  refine ⟨r, (maxR_at S b h n).trans ?_⟩
  rw [Softmax.neg_inf]
  exact (bot_sup_eq _).trans hr'

end Cert.KernelIdeal.Attn

end
-- ==== Proof.AttnValue.lean ====
/- The attention call's result over the extended reals: at finite queries, keys and values it is the reference's. -/
module

public import proofs.«01_k».proof.Proof.AttnLoops
public import proofs.«01_k».proof.Proof.AttnMax
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.View (ld)
open scoped BigOperators

namespace Cert.KernelIdeal.Attn

open Cert.KernelIdeal Cert.KernelIdeal.Gen Cert.KernelIdeal.AttnSafe Cert.KernelIdeal.AttnRun
open Cert.ReferenceIdeal (S8x4352x512 S8x8x4096x4352 S8x4096x512 S8x4352x1024)

/-- An array of reals. -/
def Real1 {s : Shape} (x : s.Idx → EReal) : Prop := ∀ i, x i = ((x i).toReal : EReal)

/-- An array of queries whose first 4096 rows are reals. -/
def RealQ (Q : FVec Ideal S8x4352x1024 .bf16) : Prop := ∀ (b : Fin 8) (n : Fin 4096) (x : Fin 1024), (Q (ix3 b ⟨n.val, by omega⟩ x) : EReal) = ((Q (ix3 b ⟨n.val, by omega⟩ x) : EReal).toReal : EReal)

theorem dot_real (f g : Fin 128 → EReal) (hf : ∀ x, f x = ((f x).toReal : EReal)) (hg : ∀ x, g x = ((g x).toReal : EReal)) :
    ∑ x, f x * g x = ((∑ x, (f x).toReal * (g x).toReal : ℝ) : EReal) := by
  rw [Softmax.coe_sum]
  refine Finset.sum_congr rfl fun x _ => ?_
  rw [EReal.coe_mul, ← hf x, ← hg x]

section Ref
variable (Q K : FVec Ideal S8x4352x1024 .bf16) (V : FVec Ideal S8x4352x512 .bf16)

/-- The score of row `n` at key `j`, base two, -/
def sR (b h : Fin 8) (n : Fin 4096) (j : ℕ) : ℝ :=
  ∑ x : Fin 128, (Q (ix3 b ⟨n.val, by omega⟩ ⟨h.val * 128 + x.val, by omega⟩) : EReal).toReal * (K (ix3 b ⟨j % 4352, Nat.mod_lt _ (by omega)⟩ ⟨h.val * 128 + x.val, by omega⟩) : EReal).toReal

/-- and the value there. -/
def wR (b : Fin 8) (l : Fin 512) (j : ℕ) : EReal := V (ix3 b ⟨j % 4352, Nat.mod_lt _ (by omega)⟩ l)

theorem key_eq (j : Fin 4352) : (⟨j.val % 4352, Nat.mod_lt _ (by omega)⟩ : Fin 4352) = j := Fin.ext (Nat.mod_eq_of_lt j.isLt)

variable (hQ : RealQ Q) (hK : Real1 K)
include hQ hK

theorem sR_eq (b h : Fin 8) (n : Fin 4096) (j : Fin 4352) :
    (∑ x : Fin 128, (Q (ix3 b ⟨n.val, by omega⟩ ⟨h.val * 128 + x.val, by omega⟩) : EReal) * K (ix3 b j ⟨h.val * 128 + x.val, by omega⟩)) = ((sR Q K b h n j.val : ℝ) : EReal) := by
  rw [dot_real _ _ (fun x => hQ b n _) (fun x => hK _)]
  unfold sR
  rw [key_eq j]

theorem score_ref (b h : Fin 8) (n : Fin 4096) (j : Fin 4352) :
    (scores Q K (ix4 b h n j) : EReal) = ((sR Q K b h n j.val : ℝ) : EReal) * ((Real.log 2 : ℝ) : EReal) := by
  refine (scores_at Q K b h n j).trans ?_
  rw [Softmax.log_two, sR_eq Q K hQ hK b h n j]

theorem scores_real (i : S8x8x4096x4352.Idx) : ∃ r : ℝ, (scores Q K i : EReal) = r := by
  have e : i = ix4 (i 0) (i 1) (i 2) (i 3) := by funext a; fin_cases a <;> rfl
  refine ⟨sR Q K (i 0) (i 1) (i 2) (i 3).val * Real.log 2, ?_⟩
  rw [EReal.coe_mul, e]
  exact score_ref Q K hQ hK (i 0) (i 1) (i 2) (i 3)

theorem REF_at (b : Fin 8) (n : Fin 4096) (l : Fin 512) :
    (REF Q K V (ix3 b n l) : EReal) = Softmax.mean (sR Q K b ⟨l.val / 64, by omega⟩ n) (wR V b l) := by
  unfold REF
  generalize hS : scores Q K = S
  obtain ⟨M, hM⟩ := maxR_real S (fun i => by rw [← hS]; exact scores_real Q K hQ hK i) b ⟨l.val / 64, by omega⟩ n
  generalize maxR S = MM at hM ⊢
  generalize hE : expR S MM = E
  have hEj : ∀ j : Fin 4352, (E (ix4 b ⟨l.val / 64, by omega⟩ n j) : EReal) = Ideal.exp (((sR Q K b ⟨l.val / 64, by omega⟩ n j.val : ℝ) : EReal) * ((Real.log 2 : ℝ) : EReal) - (M : EReal)) := fun j => by
    rw [← hE, expR_at, hM, ← hS, score_ref Q K hQ hK]
  generalize hP : prob E = P
  have hPj : ∀ j : Fin 4352, (P (ix4 b ⟨l.val / 64, by omega⟩ n j) : EReal) = Ideal.div (Ideal.exp (((sR Q K b ⟨l.val / 64, by omega⟩ n j.val : ℝ) : EReal) * ((Real.log 2 : ℝ) : EReal) - (M : EReal)))
      (∑ i : Fin 4352, Ideal.exp (((sR Q K b ⟨l.val / 64, by omega⟩ n i.val : ℝ) : EReal) * ((Real.log 2 : ℝ) : EReal) - (M : EReal))) := fun j => by
    rw [← hP, prob_at, hEj j]
    exact congrArg _ (Finset.sum_congr rfl fun i _ => hEj i)
  refine (outR_at V P b n l).trans (Eq.trans (Finset.sum_congr rfl fun j _ => ?_) (Softmax.softmax_mean (sR Q K b ⟨l.val / 64, by omega⟩ n) (wR V b l) M))
  have hv : (V (ix3 b j l) : EReal) = wR V b l j.val := by
    unfold wR; rw [key_eq j]
  rw [hPj j, hv]

end Ref

variable (m : (ℓ : Loc nD τ sig) → Buf (Elt Ideal) ℓ)

/-- The queries, the keys and the values. -/
abbrev mQ (c : Dev nD) : FVec Ideal S8x4352x1024 .bf16 := m ((c : Thread nD τ).loc main_arg2)
abbrev mK (c : Dev nD) : FVec Ideal S8x4352x1024 .bf16 := m ((c : Thread nD τ).loc main_arg3)
abbrev mV (c : Dev nD) : FVec Ideal S8x4352x512 .bf16 := m ((c : Thread nD τ).loc main_arg4)

theorem idx : ∀ t : Fin cfg0.N, win0_1.index t = ![t.val / 32, t.val % 8, t.val / 8 % 4] ∧ win0_2.index t = ![t.val / 32, 0, t.val / 8 % 4]
    ∧ win0_3.index t = ![t.val / 32, 0, t.val / 8 % 4] ∧ win0_8.index t = ![t.val / 32, t.val % 8, t.val / 8 % 4] := by decide +kernel

theorem read1 (c : Dev nD) (t : Fin cfg0.N) (p : Fin 512) (x : Fin 256) (b : Fin 8) (n : Fin 4352) (l : Fin 1024)
    (hb : b.val = t.val / 32) (hn : n.val = t.val % 8 * 512 + p.val) (hl : l.val = t.val / 8 % 4 * 256 + x.val) :
    (X0_1 m c t : Vec Ideal S1x512x256 .bf16) (ix3 0 p x) = mQ m c (ix3 b n l) := by
  unfold X0_1 Pipeline.Window.fill
  rw [dif_pos (moved0_1 t _)]
  unfold iblk
  simp only [View.read]
  rw [show V m c (Pipeline.arrRef spec0 1) = _ from V_main_arg2 m c]
  blk_ext [idx t]

theorem read2 (c : Dev nD) (t : Fin cfg0.N) (p : Fin 4352) (x : Fin 256) (b : Fin 8) (l : Fin 1024)
    (hb : b.val = t.val / 32) (hl : l.val = t.val / 8 % 4 * 256 + x.val) :
    (iblk m c 2 t : Vec Ideal S1x4352x256 .bf16) (ix3 0 p x) = mK m c (ix3 b p l) := by
  unfold iblk
  simp only [View.read]
  rw [show V m c (Pipeline.arrRef spec0 2) = _ from V_main_arg3 m c]
  blk_ext [idx t]

theorem read3 (c : Dev nD) (t : Fin cfg0.N) (p : Fin 4352) (x : Fin 128) (b : Fin 8) (l : Fin 512)
    (hb : b.val = t.val / 32) (hl : l.val = t.val / 8 % 4 * 128 + x.val) :
    (iblk m c 3 t : Vec Ideal S1x4352x128 .bf16) (ix3 0 p x) = mV m c (ix3 b p l) := by
  unfold iblk
  simp only [View.read]
  rw [show V m c (Pipeline.arrRef spec0 3) = _ from V_main_arg4 m c]
  blk_ext [idx t]

section Point
variable (c : Dev nD) (hQ : RealQ (mQ m c)) (hK : Real1 (mK m c)) (t : Fin cfg0.N) (b : Fin 8) (hb : b.val = t.val / 32)

include hQ hK hb in
theorem scS0_eq (p : Fin 512) (n : Fin 4096) (hn : n.val = t.val % 8 * 512 + p.val) (h : Fin 8) (hh : h.val = t.val / 8 % 4 * 2 + 0) (k : Fin k0_t1_loop.trips) (j : Fin 256) :
    scS0 (X0_1 m c t : Vec Ideal S1x512x256 .bf16) (iblk m c 2 t : Vec Ideal S1x4352x256 .bf16) k (ix2 p j) = ((sR (mQ m c) (mK m c) b h n (256 * k.val + j.val) : ℝ) : EReal) := by
  have hk := k.isLt
  have hk' := trips1
  unfold scS0
  refine (sc_at _ _ p j).trans (Eq.trans (Finset.sum_congr rfl fun x _ => ?_) (sR_eq (mQ m c) (mK m c) hQ hK b h n ⟨256 * k.val + j.val, by omega⟩))
  rw [q0_at, kS0_at, read1 m c t p ⟨0 + x.val, by omega⟩ b ⟨n.val, by omega⟩ ⟨h.val * 128 + x.val, by omega⟩ hb hn (by show h.val * 128 + x.val = _ + (0 + x.val); omega),
    read2 m c t ⟨256 * k.val + j.val, by omega⟩ ⟨0 + x.val, by omega⟩ b ⟨h.val * 128 + x.val, by omega⟩ hb (by show h.val * 128 + x.val = _ + (0 + x.val); omega)]

include hQ hK hb in
theorem scS1_eq (p : Fin 512) (n : Fin 4096) (hn : n.val = t.val % 8 * 512 + p.val) (h : Fin 8) (hh : h.val = t.val / 8 % 4 * 2 + 1) (k : Fin k0_t1_loop.trips) (j : Fin 256) :
    scS1 (X0_1 m c t : Vec Ideal S1x512x256 .bf16) (iblk m c 2 t : Vec Ideal S1x4352x256 .bf16) k (ix2 p j) = ((sR (mQ m c) (mK m c) b h n (256 * k.val + j.val) : ℝ) : EReal) := by
  have hk := k.isLt
  have hk' := trips1
  unfold scS1
  refine (sc_at _ _ p j).trans (Eq.trans (Finset.sum_congr rfl fun x _ => ?_) (sR_eq (mQ m c) (mK m c) hQ hK b h n ⟨256 * k.val + j.val, by omega⟩))
  rw [q1_at, kS1_at, read1 m c t p ⟨128 + x.val, by omega⟩ b ⟨n.val, by omega⟩ ⟨h.val * 128 + x.val, by omega⟩ hb hn (by show h.val * 128 + x.val = _ + (128 + x.val); omega),
    read2 m c t ⟨256 * k.val + j.val, by omega⟩ ⟨128 + x.val, by omega⟩ b ⟨h.val * 128 + x.val, by omega⟩ hb (by show h.val * 128 + x.val = _ + (128 + x.val); omega)]

include hQ hK hb in
theorem scD0_eq (p : Fin 512) (n : Fin 4096) (hn : n.val = t.val % 8 * 512 + p.val) (h : Fin 8) (hh : h.val = t.val / 8 % 4 * 2 + 0) (k : Fin k0_t2_loop.trips) (j : Fin 256) :
    scD0 (X0_1 m c t : Vec Ideal S1x512x256 .bf16) (iblk m c 2 t : Vec Ideal S1x4352x256 .bf16) k (ix2 p j) = ((sR (mQ m c) (mK m c) b h n (256 * k.val + j.val) : ℝ) : EReal) := by
  have hk := k.isLt
  have hk' := trips2
  unfold scD0
  refine (sc_at _ _ p j).trans (Eq.trans (Finset.sum_congr rfl fun x _ => ?_) (sR_eq (mQ m c) (mK m c) hQ hK b h n ⟨256 * k.val + j.val, by omega⟩))
  rw [q0_at, kD0_at, read1 m c t p ⟨0 + x.val, by omega⟩ b ⟨n.val, by omega⟩ ⟨h.val * 128 + x.val, by omega⟩ hb hn (by show h.val * 128 + x.val = _ + (0 + x.val); omega),
    read2 m c t ⟨256 * k.val + j.val, by omega⟩ ⟨0 + x.val, by omega⟩ b ⟨h.val * 128 + x.val, by omega⟩ hb (by show h.val * 128 + x.val = _ + (0 + x.val); omega)]

include hQ hK hb in
theorem scD1_eq (p : Fin 512) (n : Fin 4096) (hn : n.val = t.val % 8 * 512 + p.val) (h : Fin 8) (hh : h.val = t.val / 8 % 4 * 2 + 1) (k : Fin k0_t2_loop.trips) (j : Fin 256) :
    scD1 (X0_1 m c t : Vec Ideal S1x512x256 .bf16) (iblk m c 2 t : Vec Ideal S1x4352x256 .bf16) k (ix2 p j) = ((sR (mQ m c) (mK m c) b h n (256 * k.val + j.val) : ℝ) : EReal) := by
  have hk := k.isLt
  have hk' := trips2
  unfold scD1
  refine (sc_at _ _ p j).trans (Eq.trans (Finset.sum_congr rfl fun x _ => ?_) (sR_eq (mQ m c) (mK m c) hQ hK b h n ⟨256 * k.val + j.val, by omega⟩))
  rw [q1_at, kD1_at, read1 m c t p ⟨128 + x.val, by omega⟩ b ⟨n.val, by omega⟩ ⟨h.val * 128 + x.val, by omega⟩ hb hn (by show h.val * 128 + x.val = _ + (128 + x.val); omega),
    read2 m c t ⟨256 * k.val + j.val, by omega⟩ ⟨128 + x.val, by omega⟩ b ⟨h.val * 128 + x.val, by omega⟩ hb (by show h.val * 128 + x.val = _ + (128 + x.val); omega)]

include hb in
theorem vS_eq (l : Fin 128) (L : Fin 512) (hL : L.val = t.val / 8 % 4 * 128 + l.val) (k : Fin k0_t1_loop.trips) (j : Fin 256) :
    vS (iblk m c 3 t : Vec Ideal S1x4352x128 .bf16) k (ix3 0 j l) = wR (mV m c) b L (256 * k.val + j.val) := by
  have hk := k.isLt
  have hk' := trips1
  unfold vS wR
  rw [vS_at, read3 m c t ⟨256 * k.val + j.val, by omega⟩ ⟨0 + l.val, by omega⟩ b L hb (by show L.val = _ + (0 + l.val); omega), key_eq ⟨256 * k.val + j.val, by omega⟩]

include hb in
theorem vD_eq (l : Fin 128) (L : Fin 512) (hL : L.val = t.val / 8 % 4 * 128 + l.val) (k : Fin k0_t2_loop.trips) (j : Fin 256) :
    vD (iblk m c 3 t : Vec Ideal S1x4352x128 .bf16) k (ix3 0 j l) = wR (mV m c) b L (256 * k.val + j.val) := by
  have hk := k.isLt
  have hk' := trips2
  unfold vD wR
  rw [vD_at, read3 m c t ⟨256 * k.val + j.val, by omega⟩ ⟨0 + l.val, by omega⟩ b L hb (by show L.val = _ + (0 + l.val); omega), key_eq ⟨256 * k.val + j.val, by omega⟩]

include hQ hK hb in
theorem point_8 (y : S1x512x128.Idx) (n : Fin 4096) (hn : n.val = t.val % 8 * 512 + (y 1).val) (L : Fin 512) (hL : L.val = t.val / 8 % 4 * 128 + (y 2).val) :
    (dats m 0 c).after 8 t y = REF (mQ m c) (mK m c) (mV m c) (ix3 b n L) := by
  have hy2 : (y 2).val < 128 := (y 2).isLt
  have ey : y = ix3 0 (y 1) (y 2) := by
    have y0 : (y 0).val < 1 := (y 0).isLt
    funext a
    fin_cases a
    · exact Fin.ext (by show (y 0).val = 0; omega)
    · rfl
    · rfl
  rw [after_8]
  unfold outAt
  rw [ey]
  refine (outB_at _ (y 1) (y 2)).trans (Eq.trans ?_ (REF_at (mQ m c) (mK m c) (mV m c) hQ hK b n L).symm)
  by_cases hl : (y 2).val < 64
  · rw [if_pos hl]
    exact ratio0 _ _ _ (y 1) _ _ (y 2) _ hl
      (scS0_eq m c hQ hK t b hb (y 1) n hn _ (by show L.val / 64 = _; omega)) (scD0_eq m c hQ hK t b hb (y 1) n hn _ (by show L.val / 64 = _; omega))
      (vS_eq m c t b hb (y 2) L hL) (vD_eq m c t b hb (y 2) L hL)
  · rw [if_neg hl]
    exact ratio1 _ _ _ (y 1) _ _ (y 2) _ hl
      (scS1_eq m c hQ hK t b hb (y 1) n hn _ (by show L.val / 64 = _; omega)) (scD1_eq m c hQ hK t b hb (y 1) n hn _ (by show L.val / 64 = _; omega))
      (vS_eq m c t b hb (y 2) L hL) (vD_eq m c t b hb (y 2) L hL)

end Point

theorem point_at_8 (c : Dev nD) (hQ : RealQ (mQ m c)) (hK : Real1 (mK m c)) (t : Fin cfg0.N) (y : S1x512x128.Idx) (i : S8x4096x512.Idx)
    (h0 : (i 0).val = t.val / 32) (h1 : (i 1).val = t.val % 8 * 512 + (y 1).val) (h2 : (i 2).val = t.val / 8 % 4 * 128 + (y 2).val) :
    (dats m 0 c).after 8 t y = REF (mQ m c) (mK m c) (mV m c) i := by
  have e : i = ix3 (i 0) (i 1) (i 2) := by funext a; fin_cases a <;> rfl
  exact (point_8 m c hQ hK t (i 0) h0 y (i 1) h1 (i 2) h2).trans (congrArg (REF (mQ m c) (mK m c) (mV m c)) e.symm)

theorem final_8 (c : Dev nD) (hQ : RealQ (mQ m c)) (hK : Real1 (mK m c)) : (dats m 0 c).arrAt 8 (cfgs 0).N = REF (mQ m c) (mK m c) (mV m c) := by
  refine (dats m 0 c).arrAt_eq_of_covers 8 _ (by decide +kernel) fun t hf y => ?_
  have y0 : (y 0).val < 1 := (y 0).isLt
  blk_simp
  refine point_at_8 m c hQ hK t _ _ ?_ ?_ ?_ <;> (blk_simp [idx t] <;> try omega)

end Cert.KernelIdeal.Attn

end
-- ==== Proof.AttnClaim.lean ====
/- The value claim of the attention call: at finite queries, keys and values its result is the reference's. -/
module

public import proofs.«01_k».proof.Defs
public import proofs.«01_k».proof.Proof.AttnPre
public import proofs.«01_k».proof.Proof.AttnValue
public import proofs.«01_k».proof.Proof.Gen.ReferenceIdeal.Run
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

set_option maxHeartbeats 4000000 in
/-- The reference's run, its result under its name here. -/
theorem attn_reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v26) = Cert.KernelIdeal.Attn.REF (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16) :=
  Cert.ReferenceIdeal.Value.run (F := Ideal) m ρ

/-- What the precondition says of the arrays. -/
theorem attn_real (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Attn.RealQ (Cert.KernelIdeal.Attn.mQ m c) ∧ Cert.KernelIdeal.Attn.Real1 (Cert.KernelIdeal.Attn.mK m c) :=
  pre_real _ _ (Cert.KernelIdeal.Attn.mQ m c) (Cert.KernelIdeal.Attn.mK m c) (Cert.KernelIdeal.Attn.mV m c) _ _ _ _ _ _ _ _ _ _ _ _ (h c)

/-- The kernel's result array. -/
theorem attn_result (m : (ℓ : Loc Cert.KernelIdeal.nD Cert.KernelIdeal.τ Cert.KernelIdeal.sig) → Buf (Elt Ideal) ℓ) (r) (h : Cert.KernelIdeal.AttnRun.Post m r) (c : Dev Cert.KernelIdeal.nD) :
    r.2.mem ((c.tc : Thread Cert.KernelIdeal.nD Cert.KernelIdeal.τ).loc Cert.KernelIdeal.main_v79_0) = (Cert.KernelIdeal.AttnRun.dats m 0 c).arrAt 8 (Cert.KernelIdeal.cfgs 0).N :=
  (Pipeline.Dat.toRForget_arrAt_iff (dat := Cert.KernelIdeal.AttnRun.dats m 0 c) (fgt := Cert.KernelIdeal.AttnRun.fgt) (w := 8) rfl _ _).1 ((h c).1 8)

set_option maxHeartbeats 4000000 in
theorem attn_kernel_run (m : (ℓ : Loc Cert.KernelIdeal.nD Cert.KernelIdeal.τ Cert.KernelIdeal.sig) → Buf (Elt Ideal) ℓ) (ρ : Dev Cert.KernelIdeal.nD → PrngReg) (hp : Cert.Pre_KernelIdeal_finite m) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v79_0) = Cert.KernelIdeal.Attn.REF (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16) :=
  (θ_run Cert.KernelIdeal.defs _ _).mono (fun r h c =>
    ⟨(attn_result m r h.1 c).trans (Cert.KernelIdeal.Attn.final_8 m c (attn_real m hp c).1 (attn_real m hp c).2), Cert.KernelIdeal.AttnRun.args_of m r h c⟩)
    (Cert.KernelIdeal.AttnRun.run_quiet (F := Ideal) m ρ)

set_option maxHeartbeats 4000000 in
theorem attn_value : Cert.algebraic_KernelIdeal_ReferenceIdeal_pre_finite := fun m g m' g' hp hagree =>
  ⟨fun c => Cert.KernelIdeal.Attn.REF (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    attn_kernel_run m g hp,
    (θ_run Cert.ReferenceIdeal.defs _ _).mono (fun r h c => by
      obtain ⟨a0, a1, a2, a3, a4, _⟩ := hagree c
      obtain ⟨h0, k⟩ := h c
      have e0 := h0.trans (by rw [a2, a3, a4] : Cert.KernelIdeal.Attn.REF (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = Cert.KernelIdeal.Attn.REF (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      exact ⟨e0, k⟩) (attn_reference_run m' g')⟩

end Cert.Proof

end
-- ==== Proof.lean ====
/- The claims of the certificate, put together. -/
module

public import proofs.«01_k».proof.Defs
public import proofs.«01_k».proof.Proof.MlpClaims
public import proofs.«01_k».proof.Proof.InProjClaims
public import proofs.«01_k».proof.Proof.MlpFirstClaims
public import proofs.«01_k».proof.Proof.AttnClaims
public import proofs.«01_k».proof.Proof.AttnClaim

@[expose] public section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, pre_facts,
  attn_frame, attn_frame_ideal, attn_frame_ideal_pre, attn_frame_reference, attn_frame_reference_pre,
  mlp_frame, mlp_frame_ideal, mlp_frame_reference, in_proj_frame, in_proj_frame_ideal, in_proj_frame_reference, mlp_first_frame, mlp_first_frame_ideal, mlp_first_frame_reference,
  (trivial : Cert.preserves_Kernel_KernelIdeal), attn_value,
  (trivial : Cert.preserves_Kernel2_Kernel2Ideal), mlp_value, (trivial : Cert.preserves_Kernel3_Kernel3Ideal), in_proj_value,
  (trivial : Cert.preserves_Kernel4_Kernel4Ideal), mlp_first_value⟩

end Cert.Proof
